-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S1024x2x512 Cert.KernelIdeal.S1024x1x512
  ∧ IdealRules.bf16_pair.Statement Cert.KernelIdeal.S32x128 Cert.KernelIdeal.S16x128
  ∧ IdealRules.bf16_pair.Statement Cert.KernelIdeal.S16x2x128 Cert.KernelIdeal.S16x1x128
  ∧ IdealRules.bf16_pair.Statement Cert.KernelIdeal.S32x2x256 Cert.KernelIdeal.S32x1x256
  ∧ IdealRules.bf16_pair.Statement Cert.KernelIdeal.S64x256 Cert.KernelIdeal.S32x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40x256x512 : Shape := ⟨3, ![40, 256, 512]⟩
abbrev S770048x256 : Shape := ⟨2, ![770048, 256]⟩
abbrev S770048x4 : Shape := ⟨2, ![770048, 4]⟩
abbrev S770048 : Shape := ⟨1, ![770048]⟩
abbrev S_ : Shape := ⟨0, ![]⟩
abbrev S1504x32x16x4 : Shape := ⟨4, ![1504, 32, 16, 4]⟩
abbrev S1504x16x32x4 : Shape := ⟨4, ![1504, 16, 32, 4]⟩
abbrev S1504x16x128 : Shape := ⟨3, ![1504, 16, 128]⟩
abbrev S752x128x8 : Shape := ⟨3, ![752, 128, 8]⟩
abbrev S752x8x128 : Shape := ⟨3, ![752, 8, 128]⟩
abbrev S94x32x640 : Shape := ⟨3, ![94, 32, 640]⟩
abbrev S2048x256 : Shape := ⟨2, ![2048, 256]⟩
abbrev S4x16x128 : Shape := ⟨3, ![4, 16, 128]⟩
abbrev S2x8x128 : Shape := ⟨3, ![2, 8, 128]⟩
abbrev S1x32x640 : Shape := ⟨3, ![1, 32, 640]⟩
abbrev S1024x512 : Shape := ⟨2, ![1024, 512]⟩
abbrev S2048x128 : Shape := ⟨2, ![2048, 128]⟩
abbrev S4x2x64x256 : Shape := ⟨4, ![4, 2, 64, 256]⟩
abbrev S41x8x128 : Shape := ⟨3, ![41, 8, 128]⟩
abbrev S16x128 : Shape := ⟨2, ![16, 128]⟩
abbrev S1x16x128 : Shape := ⟨3, ![1, 16, 128]⟩
abbrev S16x128x1 : Shape := ⟨3, ![16, 128, 1]⟩
abbrev S32x128 : Shape := ⟨2, ![32, 128]⟩
abbrev S8x128 : Shape := ⟨2, ![8, 128]⟩
abbrev S1x8x128 : Shape := ⟨3, ![1, 8, 128]⟩
abbrev S8x1 : Shape := ⟨2, ![8, 1]⟩
abbrev S1x128x256 : Shape := ⟨3, ![1, 128, 256]⟩
abbrev S128x256 : Shape := ⟨2, ![128, 256]⟩
abbrev S256x256 : Shape := ⟨2, ![256, 256]⟩
abbrev S32x256 : Shape := ⟨2, ![32, 256]⟩
abbrev S64x256 : Shape := ⟨2, ![64, 256]⟩
abbrev S64x128 : Shape := ⟨2, ![64, 128]⟩
abbrev S1x1x64x256 : Shape := ⟨4, ![1, 1, 64, 256]⟩
abbrev S128 : Shape := ⟨1, ![128]⟩
abbrev S1x128 : Shape := ⟨2, ![1, 128]⟩
abbrev S1x1x128 : Shape := ⟨3, ![1, 1, 128]⟩

abbrev nBuf : Space → Nat
  | .hbm => 17
  | .vmem => 13
  | .smem => 0
  | _ => 0

abbrev bufTy : (tb : Table) → Fin (tcTables nBuf tb) → BufTy
  | .hbm, ⟨0, _⟩ => ⟨S40x256x512, .i32⟩
  | .hbm, ⟨1, _⟩ => ⟨S770048x256, .i8⟩
  | .hbm, ⟨2, _⟩ => ⟨S770048x4, .f32⟩
  | .hbm, ⟨3, _⟩ => ⟨S770048, .f32⟩
  | .hbm, ⟨4, _⟩ => ⟨S770048x4, .bf16⟩
  | .hbm, ⟨5, _⟩ => ⟨S_, .bf16⟩
  | .hbm, ⟨6, _⟩ => ⟨S770048x4, .bf16⟩
  | .hbm, ⟨7, _⟩ => ⟨S770048x4, .bf16⟩
  | .hbm, ⟨8, _⟩ => ⟨S1504x32x16x4, .bf16⟩
  | .hbm, ⟨9, _⟩ => ⟨S1504x16x32x4, .bf16⟩
  | .hbm, ⟨10, _⟩ => ⟨S1504x16x128, .bf16⟩
  | .hbm, ⟨11, _⟩ => ⟨S_, .f32⟩
  | .hbm, ⟨12, _⟩ => ⟨S770048, .f32⟩
  | .hbm, ⟨13, _⟩ => ⟨S770048, .f32⟩
  | .hbm, ⟨14, _⟩ => ⟨S752x128x8, .f32⟩
  | .hbm, ⟨15, _⟩ => ⟨S752x8x128, .f32⟩
  | .hbm, ⟨16, _⟩ => ⟨S94x32x640, .f32⟩
  | .local _ .vmem, ⟨0, _⟩ => ⟨S2048x256, .i8⟩
  | .local _ .vmem, ⟨1, _⟩ => ⟨S2048x256, .i8⟩
  | .local _ .vmem, ⟨2, _⟩ => ⟨S4x16x128, .bf16⟩
  | .local _ .vmem, ⟨3, _⟩ => ⟨S4x16x128, .bf16⟩
  | .local _ .vmem, ⟨4, _⟩ => ⟨S2x8x128, .f32⟩
  | .local _ .vmem, ⟨5, _⟩ => ⟨S2x8x128, .f32⟩
  | .local _ .vmem, ⟨6, _⟩ => ⟨S40x256x512, .i32⟩
  | .local _ .vmem, ⟨7, _⟩ => ⟨S1x32x640, .f32⟩
  | .local _ .vmem, ⟨8, _⟩ => ⟨S1x32x640, .f32⟩
  | .local _ .vmem, ⟨9, _⟩ => ⟨S1024x512, .i32⟩
  | .local _ .vmem, ⟨10, _⟩ => ⟨S2048x128, .f32⟩
  | .local _ .vmem, ⟨11, _⟩ => ⟨S4x2x64x256, .f32⟩
  | .local _ .vmem, ⟨12, _⟩ => ⟨S41x8x128, .f32⟩
  | _, _ => ⟨S40x256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![94, 4], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (k0_t1 : Fin k0_t1_loop.trips) : Fin 3 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let v1552 : Index := Scalar.indexCast v1551
  let c0_270 : Index := 0#32
  let c0_271 : Index := 0#32
  ![v1552.toNat, 0, 0]
def k0_mult1 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32 : BitVec 32 := 512#32
  let v1556 : BitVec 32 := Scalar.muli v1551 c512_i32
  let c0_i32_272 : BitVec 32 := 0#32
  let v1557 : BitVec 32 := Scalar.addi v1556 c0_i32_272
  v1557
def k0_mult2 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let c0_i32_273 : BitVec 32 := 0#32
  let v1560 : BitVec 32 := Scalar.addi v1559 c0_i32_273
  v1560
def k0_off2 (k0_t1 : Fin k0_t1_loop.trips) (c0_i32_272 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32 : BitVec 32 := 512#32
  let v1556 : BitVec 32 := Scalar.muli v1551 c512_i32
  let v1557 : BitVec 32 := Scalar.addi v1556 c0_i32_272
  let v1558 : BitVec 32 := v1557
  let v1611 : Index := Scalar.indexCast v1558
  let c0_286 : Index := 0#32
  ![v1611.toNat, 0]
def k0_off3 (k0_t1 : Fin k0_t1_loop.trips) (c0_i32_273 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1625 : Index := Scalar.indexCast v1561
  let c0_288 : Index := 0#32
  ![v1625.toNat, 0]
def k0_off4 (k0_t1 : Fin k0_t1_loop.trips) (c0_i32_273 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1632 : Index := Scalar.indexCast v1561
  let c256_289 : Index := 256#32
  ![v1632.toNat, 256]
def k0_off5 (k0_t1 : Fin k0_t1_loop.trips) (c0_i32_272 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32 : BitVec 32 := 512#32
  let v1556 : BitVec 32 := Scalar.muli v1551 c512_i32
  let v1557 : BitVec 32 := Scalar.addi v1556 c0_i32_272
  let v1558 : BitVec 32 := v1557
  let v1685 : Index := Scalar.indexCast v1558
  let c128_303 : Index := 128#32
  ![v1685.toNat, 128]
def k0_off6 (k0_t1 : Fin k0_t1_loop.trips) (c0_i32_273 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1699 : Index := Scalar.indexCast v1561
  let c128_305 : Index := 128#32
  ![v1699.toNat, 128]
def k0_off7 (k0_t1 : Fin k0_t1_loop.trips) (c0_i32_273 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1706 : Index := Scalar.indexCast v1561
  let c384_306 : Index := 384#32
  ![v1706.toNat, 384]
def k0_mult3 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_307 : BitVec 32 := 512#32
  let v1710 : BitVec 32 := Scalar.muli v1551 c512_i32_307
  let c32_i32 : BitVec 32 := 32#32
  let v1711 : BitVec 32 := Scalar.addi v1710 c32_i32
  v1711
def k0_mult4 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_308 : BitVec 32 := 256#32
  let v1713 : BitVec 32 := Scalar.muli v1551 c256_i32_308
  let c16_i32 : BitVec 32 := 16#32
  let v1714 : BitVec 32 := Scalar.addi v1713 c16_i32
  v1714
def k0_mult5 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_343 : BitVec 32 := 512#32
  let v1864 : BitVec 32 := Scalar.muli v1551 c512_i32_343
  let c64_i32_344 : BitVec 32 := 64#32
  let v1865 : BitVec 32 := Scalar.addi v1864 c64_i32_344
  v1865
def k0_mult6 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_345 : BitVec 32 := 256#32
  let v1867 : BitVec 32 := Scalar.muli v1551 c256_i32_345
  let c32_i32_346 : BitVec 32 := 32#32
  let v1868 : BitVec 32 := Scalar.addi v1867 c32_i32_346
  v1868
def k0_mult7 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_382 : BitVec 32 := 512#32
  let v2018 : BitVec 32 := Scalar.muli v1551 c512_i32_382
  let c96_i32 : BitVec 32 := 96#32
  let v2019 : BitVec 32 := Scalar.addi v2018 c96_i32
  v2019
def k0_mult8 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_383 : BitVec 32 := 256#32
  let v2021 : BitVec 32 := Scalar.muli v1551 c256_i32_383
  let c48_i32 : BitVec 32 := 48#32
  let v2022 : BitVec 32 := Scalar.addi v2021 c48_i32
  v2022
def k0_mult9 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_418 : BitVec 32 := 512#32
  let v2172 : BitVec 32 := Scalar.muli v1551 c512_i32_418
  let c128_i32_419 : BitVec 32 := 128#32
  let v2173 : BitVec 32 := Scalar.addi v2172 c128_i32_419
  v2173
def k0_mult10 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_420 : BitVec 32 := 256#32
  let v2175 : BitVec 32 := Scalar.muli v1551 c256_i32_420
  let c64_i32_421 : BitVec 32 := 64#32
  let v2176 : BitVec 32 := Scalar.addi v2175 c64_i32_421
  v2176
def k0_mult11 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_457 : BitVec 32 := 512#32
  let v2326 : BitVec 32 := Scalar.muli v1551 c512_i32_457
  let c160_i32 : BitVec 32 := 160#32
  let v2327 : BitVec 32 := Scalar.addi v2326 c160_i32
  v2327
def k0_mult12 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_458 : BitVec 32 := 256#32
  let v2329 : BitVec 32 := Scalar.muli v1551 c256_i32_458
  let c80_i32 : BitVec 32 := 80#32
  let v2330 : BitVec 32 := Scalar.addi v2329 c80_i32
  v2330
def k0_mult13 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_493 : BitVec 32 := 512#32
  let v2480 : BitVec 32 := Scalar.muli v1551 c512_i32_493
  let c192_i32 : BitVec 32 := 192#32
  let v2481 : BitVec 32 := Scalar.addi v2480 c192_i32
  v2481
def k0_mult14 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_494 : BitVec 32 := 256#32
  let v2483 : BitVec 32 := Scalar.muli v1551 c256_i32_494
  let c96_i32_495 : BitVec 32 := 96#32
  let v2484 : BitVec 32 := Scalar.addi v2483 c96_i32_495
  v2484
def k0_mult15 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_531 : BitVec 32 := 512#32
  let v2634 : BitVec 32 := Scalar.muli v1551 c512_i32_531
  let c224_i32 : BitVec 32 := 224#32
  let v2635 : BitVec 32 := Scalar.addi v2634 c224_i32
  v2635
def k0_mult16 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_532 : BitVec 32 := 256#32
  let v2637 : BitVec 32 := Scalar.muli v1551 c256_i32_532
  let c112_i32 : BitVec 32 := 112#32
  let v2638 : BitVec 32 := Scalar.addi v2637 c112_i32
  v2638
def k0_mult17 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_567 : BitVec 32 := 512#32
  let v2788 : BitVec 32 := Scalar.muli v1551 c512_i32_567
  let c256_i32_568 : BitVec 32 := 256#32
  let v2789 : BitVec 32 := Scalar.addi v2788 c256_i32_568
  v2789
def k0_mult18 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_569 : BitVec 32 := 256#32
  let v2791 : BitVec 32 := Scalar.muli v1551 c256_i32_569
  let c128_i32_570 : BitVec 32 := 128#32
  let v2792 : BitVec 32 := Scalar.addi v2791 c128_i32_570
  v2792
def k0_mult19 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_606 : BitVec 32 := 512#32
  let v2942 : BitVec 32 := Scalar.muli v1551 c512_i32_606
  let c288_i32 : BitVec 32 := 288#32
  let v2943 : BitVec 32 := Scalar.addi v2942 c288_i32
  v2943
def k0_mult20 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_607 : BitVec 32 := 256#32
  let v2945 : BitVec 32 := Scalar.muli v1551 c256_i32_607
  let c144_i32 : BitVec 32 := 144#32
  let v2946 : BitVec 32 := Scalar.addi v2945 c144_i32
  v2946
def k0_mult21 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_642 : BitVec 32 := 512#32
  let v3096 : BitVec 32 := Scalar.muli v1551 c512_i32_642
  let c320_i32 : BitVec 32 := 320#32
  let v3097 : BitVec 32 := Scalar.addi v3096 c320_i32
  v3097
def k0_mult22 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_643 : BitVec 32 := 256#32
  let v3099 : BitVec 32 := Scalar.muli v1551 c256_i32_643
  let c160_i32_644 : BitVec 32 := 160#32
  let v3100 : BitVec 32 := Scalar.addi v3099 c160_i32_644
  v3100
def k0_mult23 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_680 : BitVec 32 := 512#32
  let v3250 : BitVec 32 := Scalar.muli v1551 c512_i32_680
  let c352_i32 : BitVec 32 := 352#32
  let v3251 : BitVec 32 := Scalar.addi v3250 c352_i32
  v3251
def k0_mult24 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_681 : BitVec 32 := 256#32
  let v3253 : BitVec 32 := Scalar.muli v1551 c256_i32_681
  let c176_i32 : BitVec 32 := 176#32
  let v3254 : BitVec 32 := Scalar.addi v3253 c176_i32
  v3254
def k0_mult25 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_716 : BitVec 32 := 512#32
  let v3404 : BitVec 32 := Scalar.muli v1551 c512_i32_716
  let c384_i32 : BitVec 32 := 384#32
  let v3405 : BitVec 32 := Scalar.addi v3404 c384_i32
  v3405
def k0_mult26 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_717 : BitVec 32 := 256#32
  let v3407 : BitVec 32 := Scalar.muli v1551 c256_i32_717
  let c192_i32_718 : BitVec 32 := 192#32
  let v3408 : BitVec 32 := Scalar.addi v3407 c192_i32_718
  v3408
def k0_mult27 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_754 : BitVec 32 := 512#32
  let v3558 : BitVec 32 := Scalar.muli v1551 c512_i32_754
  let c416_i32 : BitVec 32 := 416#32
  let v3559 : BitVec 32 := Scalar.addi v3558 c416_i32
  v3559
def k0_mult28 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_755 : BitVec 32 := 256#32
  let v3561 : BitVec 32 := Scalar.muli v1551 c256_i32_755
  let c208_i32 : BitVec 32 := 208#32
  let v3562 : BitVec 32 := Scalar.addi v3561 c208_i32
  v3562
def k0_mult29 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_790 : BitVec 32 := 512#32
  let v3712 : BitVec 32 := Scalar.muli v1551 c512_i32_790
  let c448_i32 : BitVec 32 := 448#32
  let v3713 : BitVec 32 := Scalar.addi v3712 c448_i32
  v3713
def k0_mult30 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_791 : BitVec 32 := 256#32
  let v3715 : BitVec 32 := Scalar.muli v1551 c256_i32_791
  let c224_i32_792 : BitVec 32 := 224#32
  let v3716 : BitVec 32 := Scalar.addi v3715 c224_i32_792
  v3716
def k0_mult31 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_828 : BitVec 32 := 512#32
  let v3866 : BitVec 32 := Scalar.muli v1551 c512_i32_828
  let c480_i32 : BitVec 32 := 480#32
  let v3867 : BitVec 32 := Scalar.addi v3866 c480_i32
  v3867
def k0_mult32 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_829 : BitVec 32 := 256#32
  let v3869 : BitVec 32 := Scalar.muli v1551 c256_i32_829
  let c240_i32 : BitVec 32 := 240#32
  let v3870 : BitVec 32 := Scalar.addi v3869 c240_i32
  v3870
@[reducible] def k0_t2_loop : Scf.Loop 32 :=
  let c0_i32_281_r0 : BitVec 32 := 0#32
  let c40_i32_r0 : BitVec 32 := 40#32
  let v1563_r0 : BitVec 32 := Scalar.addi c0_i32_281_r0 c40_i32_r0
  let c1_i32_282_r0 : BitVec 32 := 1#32
  ⟨c0_i32_281_r0, v1563_r0, c1_i32_282_r0⟩
def k0_off8 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2963_r0 : Index := Scalar.indexCast arg11_r0
  let c0_455_r0 : Index := 0#32
  let c0_456_r0 : Index := 0#32
  ![v2963_r0.toNat, 0, 0]
def k0_off9 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2967_r0 : Index := Scalar.indexCast arg11_r0
  let c0_457_r0 : Index := 0#32
  let c256_458_r0 : Index := 256#32
  ![v2967_r0.toNat, 0, 256]
def k0_off10 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2979_r0 : Index := Scalar.indexCast arg11_r0
  let c128_467_r0 : Index := 128#32
  let c0_468_r0 : Index := 0#32
  ![v2979_r0.toNat, 128, 0]
def k0_off11 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2983_r0 : Index := Scalar.indexCast arg11_r0
  let c128_469_r0 : Index := 128#32
  let c256_470_r0 : Index := 256#32
  ![v2983_r0.toNat, 128, 256]
def k0_off12 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4316_r0 : Index := Scalar.indexCast arg11_r0
  let c0_589_r0 : Index := 0#32
  let c0_590_r0 : Index := 0#32
  ![v4316_r0.toNat, 0, 0]
def k0_off13 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4331_r0 : Index := Scalar.indexCast arg11_r0
  let c1_596_r0 : Index := 1#32
  let c0_597_r0 : Index := 0#32
  ![v4331_r0.toNat, 1, 0]
def k0_off14 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4346_r0 : Index := Scalar.indexCast arg11_r0
  let c2_603_r0 : Index := 2#32
  let c0_604_r0 : Index := 0#32
  ![v4346_r0.toNat, 2, 0]
def k0_off15 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4361_r0 : Index := Scalar.indexCast arg11_r0
  let c3_610_r0 : Index := 3#32
  let c0_611_r0 : Index := 0#32
  ![v4361_r0.toNat, 3, 0]
def k0_off16 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v7779_r0 : Index := Scalar.indexCast v2954_r0
  let c128_939_r0 : Index := 128#32
  let c0_940_r0 : Index := 0#32
  ![v7779_r0.toNat, 128, 0]
def k0_off17 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v7783_r0 : Index := Scalar.indexCast v2954_r0
  let c128_941_r0 : Index := 128#32
  let c256_942_r0 : Index := 256#32
  ![v7783_r0.toNat, 128, 256]
def k0_off18 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v8471_r0 : Index := Scalar.indexCast v2954_r0
  let c0_1003_r0 : Index := 0#32
  let c0_1004_r0 : Index := 0#32
  ![v8471_r0.toNat, 0, 0]
def k0_off19 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v8475_r0 : Index := Scalar.indexCast v2954_r0
  let c0_1005_r0 : Index := 0#32
  let c256_1006_r0 : Index := 256#32
  ![v8475_r0.toNat, 0, 256]
def k0_cond1 (i : grid0.Coords) : BitVec 1 :=
  let arg1 : BitVec 32 := BitVec.ofNat 32 (i 1).val
  let c3_i32 : BitVec 32 := 3#32
  let v1 : BitVec 1 := Scalar.cmpi .eq arg1 c3_i32
  let v1548 : BitVec 32 := Scalar.extui v1
  let c0_i32_267 : BitVec 32 := 0#32
  let v1549 : BitVec 1 := Scalar.cmpi .ne v1548 c0_i32_267
  v1549

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S40x256x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
abbrev S40x256x512 : Shape := ⟨3, ![40, 256, 512]⟩
abbrev S770048x256 : Shape := ⟨2, ![770048, 256]⟩
abbrev S770048x4 : Shape := ⟨2, ![770048, 4]⟩
abbrev S770048 : Shape := ⟨1, ![770048]⟩
abbrev S_ : Shape := ⟨0, ![]⟩
abbrev S1504x32x16x4 : Shape := ⟨4, ![1504, 32, 16, 4]⟩
abbrev S1504x16x32x4 : Shape := ⟨4, ![1504, 16, 32, 4]⟩
abbrev S1504x16x128 : Shape := ⟨3, ![1504, 16, 128]⟩
abbrev S752x128x8 : Shape := ⟨3, ![752, 128, 8]⟩
abbrev S752x8x128 : Shape := ⟨3, ![752, 8, 128]⟩
abbrev S94x32x640 : Shape := ⟨3, ![94, 32, 640]⟩
abbrev S2048x256 : Shape := ⟨2, ![2048, 256]⟩
abbrev S4x16x128 : Shape := ⟨3, ![4, 16, 128]⟩
abbrev S2x8x128 : Shape := ⟨3, ![2, 8, 128]⟩
abbrev S1x32x640 : Shape := ⟨3, ![1, 32, 640]⟩
abbrev S1024x512 : Shape := ⟨2, ![1024, 512]⟩
abbrev S1024x2x512 : Shape := ⟨3, ![1024, 2, 512]⟩
abbrev S1024x1x512 : Shape := ⟨3, ![1024, 1, 512]⟩
abbrev S2048x128 : Shape := ⟨2, ![2048, 128]⟩
abbrev S4x2x64x256 : Shape := ⟨4, ![4, 2, 64, 256]⟩
abbrev S41x8x128 : Shape := ⟨3, ![41, 8, 128]⟩
abbrev S16x128 : Shape := ⟨2, ![16, 128]⟩
abbrev S1x16x128 : Shape := ⟨3, ![1, 16, 128]⟩
abbrev S16x128x1 : Shape := ⟨3, ![16, 128, 1]⟩
abbrev S32x128 : Shape := ⟨2, ![32, 128]⟩
abbrev S8x128 : Shape := ⟨2, ![8, 128]⟩
abbrev S16x2x128 : Shape := ⟨3, ![16, 2, 128]⟩
abbrev S16x1x128 : Shape := ⟨3, ![16, 1, 128]⟩
abbrev S1x8x128 : Shape := ⟨3, ![1, 8, 128]⟩
abbrev S8x1 : Shape := ⟨2, ![8, 1]⟩
abbrev S1x128x256 : Shape := ⟨3, ![1, 128, 256]⟩
abbrev S128x256 : Shape := ⟨2, ![128, 256]⟩
abbrev S256x256 : Shape := ⟨2, ![256, 256]⟩
abbrev S32x256 : Shape := ⟨2, ![32, 256]⟩
abbrev S32x2x256 : Shape := ⟨3, ![32, 2, 256]⟩
abbrev S32x1x256 : Shape := ⟨3, ![32, 1, 256]⟩
abbrev S64x256 : Shape := ⟨2, ![64, 256]⟩
abbrev S64x128 : Shape := ⟨2, ![64, 128]⟩
abbrev S1x1x64x256 : Shape := ⟨4, ![1, 1, 64, 256]⟩
abbrev S128 : Shape := ⟨1, ![128]⟩
abbrev S1x128 : Shape := ⟨2, ![1, 128]⟩
abbrev S1x1x128 : Shape := ⟨3, ![1, 1, 128]⟩

abbrev nBuf : Space → Nat
  | .hbm => 17
  | .vmem => 13
  | .smem => 0
  | _ => 0

abbrev bufTy : (tb : Table) → Fin (tcTables nBuf tb) → BufTy
  | .hbm, ⟨0, _⟩ => ⟨S40x256x512, .i32⟩
  | .hbm, ⟨1, _⟩ => ⟨S770048x256, .i8⟩
  | .hbm, ⟨2, _⟩ => ⟨S770048x4, .f32⟩
  | .hbm, ⟨3, _⟩ => ⟨S770048, .f32⟩
  | .hbm, ⟨4, _⟩ => ⟨S770048x4, .bf16⟩
  | .hbm, ⟨5, _⟩ => ⟨S_, .bf16⟩
  | .hbm, ⟨6, _⟩ => ⟨S770048x4, .bf16⟩
  | .hbm, ⟨7, _⟩ => ⟨S770048x4, .bf16⟩
  | .hbm, ⟨8, _⟩ => ⟨S1504x32x16x4, .bf16⟩
  | .hbm, ⟨9, _⟩ => ⟨S1504x16x32x4, .bf16⟩
  | .hbm, ⟨10, _⟩ => ⟨S1504x16x128, .bf16⟩
  | .hbm, ⟨11, _⟩ => ⟨S_, .f32⟩
  | .hbm, ⟨12, _⟩ => ⟨S770048, .f32⟩
  | .hbm, ⟨13, _⟩ => ⟨S770048, .f32⟩
  | .hbm, ⟨14, _⟩ => ⟨S752x128x8, .f32⟩
  | .hbm, ⟨15, _⟩ => ⟨S752x8x128, .f32⟩
  | .hbm, ⟨16, _⟩ => ⟨S94x32x640, .f32⟩
  | .local _ .vmem, ⟨0, _⟩ => ⟨S2048x256, .i8⟩
  | .local _ .vmem, ⟨1, _⟩ => ⟨S2048x256, .i8⟩
  | .local _ .vmem, ⟨2, _⟩ => ⟨S4x16x128, .bf16⟩
  | .local _ .vmem, ⟨3, _⟩ => ⟨S4x16x128, .bf16⟩
  | .local _ .vmem, ⟨4, _⟩ => ⟨S2x8x128, .f32⟩
  | .local _ .vmem, ⟨5, _⟩ => ⟨S2x8x128, .f32⟩
  | .local _ .vmem, ⟨6, _⟩ => ⟨S40x256x512, .i32⟩
  | .local _ .vmem, ⟨7, _⟩ => ⟨S1x32x640, .f32⟩
  | .local _ .vmem, ⟨8, _⟩ => ⟨S1x32x640, .f32⟩
  | .local _ .vmem, ⟨9, _⟩ => ⟨S1024x2x512, .bf16⟩
  | .local _ .vmem, ⟨10, _⟩ => ⟨S2048x128, .f32⟩
  | .local _ .vmem, ⟨11, _⟩ => ⟨S4x2x64x256, .f32⟩
  | .local _ .vmem, ⟨12, _⟩ => ⟨S41x8x128, .f32⟩
  | _, _ => ⟨S40x256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![94, 4], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (k0_t1 : Fin k0_t1_loop.trips) : Fin 3 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let v1552 : Index := Scalar.indexCast v1551
  let c0_270 : Index := 0#32
  let c0_271 : Index := 0#32
  ![v1552.toNat, 0, 0]
def k0_mult1 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32 : BitVec 32 := 512#32
  let v1556 : BitVec 32 := Scalar.muli v1551 c512_i32
  let c0_i32_272 : BitVec 32 := 0#32
  let v1557 : BitVec 32 := Scalar.addi v1556 c0_i32_272
  v1557
def k0_mult2 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let c0_i32_273 : BitVec 32 := 0#32
  let v1560 : BitVec 32 := Scalar.addi v1559 c0_i32_273
  v1560
def k0_off2 (k0_t1 : Fin k0_t1_loop.trips) (c0_i32_272 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32 : BitVec 32 := 512#32
  let v1556 : BitVec 32 := Scalar.muli v1551 c512_i32
  let v1557 : BitVec 32 := Scalar.addi v1556 c0_i32_272
  let v1558 : BitVec 32 := v1557
  let v1611 : Index := Scalar.indexCast v1558
  let c0_286 : Index := 0#32
  ![v1611.toNat, 0]
def k0_off3 (k0_t1 : Fin k0_t1_loop.trips) (c0_i32_273 : BitVec 32) : Fin 3 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1625 : Index := Scalar.indexCast v1561
  let c0_288 : Index := 0#32
  ![v1625.toNat, 0, 0]
def k0_off4 (k0_t1 : Fin k0_t1_loop.trips) (c0_i32_273 : BitVec 32) : Fin 3 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1632 : Index := Scalar.indexCast v1561
  let c256_289 : Index := 256#32
  ![v1632.toNat, 0, 256]
def k0_off5 (k0_t1 : Fin k0_t1_loop.trips) (c0_i32_272 : BitVec 32) : Fin 2 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32 : BitVec 32 := 512#32
  let v1556 : BitVec 32 := Scalar.muli v1551 c512_i32
  let v1557 : BitVec 32 := Scalar.addi v1556 c0_i32_272
  let v1558 : BitVec 32 := v1557
  let v1685 : Index := Scalar.indexCast v1558
  let c128_303 : Index := 128#32
  ![v1685.toNat, 128]
def k0_off6 (k0_t1 : Fin k0_t1_loop.trips) (c0_i32_273 : BitVec 32) : Fin 3 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1699 : Index := Scalar.indexCast v1561
  let c128_305 : Index := 128#32
  ![v1699.toNat, 0, 128]
def k0_off7 (k0_t1 : Fin k0_t1_loop.trips) (c0_i32_273 : BitVec 32) : Fin 3 → Nat :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32 : BitVec 32 := 256#32
  let v1559 : BitVec 32 := Scalar.muli v1551 c256_i32
  let v1560 : BitVec 32 := Scalar.addi v1559 c0_i32_273
  let v1561 : BitVec 32 := v1560
  let v1706 : Index := Scalar.indexCast v1561
  let c384_306 : Index := 384#32
  ![v1706.toNat, 0, 384]
def k0_mult3 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_307 : BitVec 32 := 512#32
  let v1710 : BitVec 32 := Scalar.muli v1551 c512_i32_307
  let c32_i32 : BitVec 32 := 32#32
  let v1711 : BitVec 32 := Scalar.addi v1710 c32_i32
  v1711
def k0_mult4 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_308 : BitVec 32 := 256#32
  let v1713 : BitVec 32 := Scalar.muli v1551 c256_i32_308
  let c16_i32 : BitVec 32 := 16#32
  let v1714 : BitVec 32 := Scalar.addi v1713 c16_i32
  v1714
def k0_mult5 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_343 : BitVec 32 := 512#32
  let v1864 : BitVec 32 := Scalar.muli v1551 c512_i32_343
  let c64_i32_344 : BitVec 32 := 64#32
  let v1865 : BitVec 32 := Scalar.addi v1864 c64_i32_344
  v1865
def k0_mult6 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_345 : BitVec 32 := 256#32
  let v1867 : BitVec 32 := Scalar.muli v1551 c256_i32_345
  let c32_i32_346 : BitVec 32 := 32#32
  let v1868 : BitVec 32 := Scalar.addi v1867 c32_i32_346
  v1868
def k0_mult7 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_382 : BitVec 32 := 512#32
  let v2018 : BitVec 32 := Scalar.muli v1551 c512_i32_382
  let c96_i32 : BitVec 32 := 96#32
  let v2019 : BitVec 32 := Scalar.addi v2018 c96_i32
  v2019
def k0_mult8 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_383 : BitVec 32 := 256#32
  let v2021 : BitVec 32 := Scalar.muli v1551 c256_i32_383
  let c48_i32 : BitVec 32 := 48#32
  let v2022 : BitVec 32 := Scalar.addi v2021 c48_i32
  v2022
def k0_mult9 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_418 : BitVec 32 := 512#32
  let v2172 : BitVec 32 := Scalar.muli v1551 c512_i32_418
  let c128_i32_419 : BitVec 32 := 128#32
  let v2173 : BitVec 32 := Scalar.addi v2172 c128_i32_419
  v2173
def k0_mult10 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_420 : BitVec 32 := 256#32
  let v2175 : BitVec 32 := Scalar.muli v1551 c256_i32_420
  let c64_i32_421 : BitVec 32 := 64#32
  let v2176 : BitVec 32 := Scalar.addi v2175 c64_i32_421
  v2176
def k0_mult11 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_457 : BitVec 32 := 512#32
  let v2326 : BitVec 32 := Scalar.muli v1551 c512_i32_457
  let c160_i32 : BitVec 32 := 160#32
  let v2327 : BitVec 32 := Scalar.addi v2326 c160_i32
  v2327
def k0_mult12 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_458 : BitVec 32 := 256#32
  let v2329 : BitVec 32 := Scalar.muli v1551 c256_i32_458
  let c80_i32 : BitVec 32 := 80#32
  let v2330 : BitVec 32 := Scalar.addi v2329 c80_i32
  v2330
def k0_mult13 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_493 : BitVec 32 := 512#32
  let v2480 : BitVec 32 := Scalar.muli v1551 c512_i32_493
  let c192_i32 : BitVec 32 := 192#32
  let v2481 : BitVec 32 := Scalar.addi v2480 c192_i32
  v2481
def k0_mult14 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_494 : BitVec 32 := 256#32
  let v2483 : BitVec 32 := Scalar.muli v1551 c256_i32_494
  let c96_i32_495 : BitVec 32 := 96#32
  let v2484 : BitVec 32 := Scalar.addi v2483 c96_i32_495
  v2484
def k0_mult15 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_531 : BitVec 32 := 512#32
  let v2634 : BitVec 32 := Scalar.muli v1551 c512_i32_531
  let c224_i32 : BitVec 32 := 224#32
  let v2635 : BitVec 32 := Scalar.addi v2634 c224_i32
  v2635
def k0_mult16 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_532 : BitVec 32 := 256#32
  let v2637 : BitVec 32 := Scalar.muli v1551 c256_i32_532
  let c112_i32 : BitVec 32 := 112#32
  let v2638 : BitVec 32 := Scalar.addi v2637 c112_i32
  v2638
def k0_mult17 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_567 : BitVec 32 := 512#32
  let v2788 : BitVec 32 := Scalar.muli v1551 c512_i32_567
  let c256_i32_568 : BitVec 32 := 256#32
  let v2789 : BitVec 32 := Scalar.addi v2788 c256_i32_568
  v2789
def k0_mult18 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_569 : BitVec 32 := 256#32
  let v2791 : BitVec 32 := Scalar.muli v1551 c256_i32_569
  let c128_i32_570 : BitVec 32 := 128#32
  let v2792 : BitVec 32 := Scalar.addi v2791 c128_i32_570
  v2792
def k0_mult19 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_606 : BitVec 32 := 512#32
  let v2942 : BitVec 32 := Scalar.muli v1551 c512_i32_606
  let c288_i32 : BitVec 32 := 288#32
  let v2943 : BitVec 32 := Scalar.addi v2942 c288_i32
  v2943
def k0_mult20 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_607 : BitVec 32 := 256#32
  let v2945 : BitVec 32 := Scalar.muli v1551 c256_i32_607
  let c144_i32 : BitVec 32 := 144#32
  let v2946 : BitVec 32 := Scalar.addi v2945 c144_i32
  v2946
def k0_mult21 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_642 : BitVec 32 := 512#32
  let v3096 : BitVec 32 := Scalar.muli v1551 c512_i32_642
  let c320_i32 : BitVec 32 := 320#32
  let v3097 : BitVec 32 := Scalar.addi v3096 c320_i32
  v3097
def k0_mult22 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_643 : BitVec 32 := 256#32
  let v3099 : BitVec 32 := Scalar.muli v1551 c256_i32_643
  let c160_i32_644 : BitVec 32 := 160#32
  let v3100 : BitVec 32 := Scalar.addi v3099 c160_i32_644
  v3100
def k0_mult23 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_680 : BitVec 32 := 512#32
  let v3250 : BitVec 32 := Scalar.muli v1551 c512_i32_680
  let c352_i32 : BitVec 32 := 352#32
  let v3251 : BitVec 32 := Scalar.addi v3250 c352_i32
  v3251
def k0_mult24 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_681 : BitVec 32 := 256#32
  let v3253 : BitVec 32 := Scalar.muli v1551 c256_i32_681
  let c176_i32 : BitVec 32 := 176#32
  let v3254 : BitVec 32 := Scalar.addi v3253 c176_i32
  v3254
def k0_mult25 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_716 : BitVec 32 := 512#32
  let v3404 : BitVec 32 := Scalar.muli v1551 c512_i32_716
  let c384_i32 : BitVec 32 := 384#32
  let v3405 : BitVec 32 := Scalar.addi v3404 c384_i32
  v3405
def k0_mult26 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_717 : BitVec 32 := 256#32
  let v3407 : BitVec 32 := Scalar.muli v1551 c256_i32_717
  let c192_i32_718 : BitVec 32 := 192#32
  let v3408 : BitVec 32 := Scalar.addi v3407 c192_i32_718
  v3408
def k0_mult27 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_754 : BitVec 32 := 512#32
  let v3558 : BitVec 32 := Scalar.muli v1551 c512_i32_754
  let c416_i32 : BitVec 32 := 416#32
  let v3559 : BitVec 32 := Scalar.addi v3558 c416_i32
  v3559
def k0_mult28 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_755 : BitVec 32 := 256#32
  let v3561 : BitVec 32 := Scalar.muli v1551 c256_i32_755
  let c208_i32 : BitVec 32 := 208#32
  let v3562 : BitVec 32 := Scalar.addi v3561 c208_i32
  v3562
def k0_mult29 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_790 : BitVec 32 := 512#32
  let v3712 : BitVec 32 := Scalar.muli v1551 c512_i32_790
  let c448_i32 : BitVec 32 := 448#32
  let v3713 : BitVec 32 := Scalar.addi v3712 c448_i32
  v3713
def k0_mult30 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_791 : BitVec 32 := 256#32
  let v3715 : BitVec 32 := Scalar.muli v1551 c256_i32_791
  let c224_i32_792 : BitVec 32 := 224#32
  let v3716 : BitVec 32 := Scalar.addi v3715 c224_i32_792
  v3716
def k0_mult31 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c512_i32_828 : BitVec 32 := 512#32
  let v3866 : BitVec 32 := Scalar.muli v1551 c512_i32_828
  let c480_i32 : BitVec 32 := 480#32
  let v3867 : BitVec 32 := Scalar.addi v3866 c480_i32
  v3867
def k0_mult32 (k0_t1 : Fin k0_t1_loop.trips) : BitVec 32 :=
  let c0_i32_269 : BitVec 32 := 0#32
  let c0_i32_0 : BitVec 32 := 0#32
  let c1_i32 : BitVec 32 := 1#32
  let arg11 : BitVec 32 := Scf.iv c0_i32_0 c1_i32 k0_t1
  let c1_i32_268 : BitVec 32 := 1#32
  let v1550 : BitVec 32 := Scalar.muli arg11 c1_i32_268
  let v1551 : BitVec 32 := Scalar.addi c0_i32_269 v1550
  let c256_i32_829 : BitVec 32 := 256#32
  let v3869 : BitVec 32 := Scalar.muli v1551 c256_i32_829
  let c240_i32 : BitVec 32 := 240#32
  let v3870 : BitVec 32 := Scalar.addi v3869 c240_i32
  v3870
@[reducible] def k0_t2_loop : Scf.Loop 32 :=
  let c0_i32_281_r0 : BitVec 32 := 0#32
  let c40_i32_r0 : BitVec 32 := 40#32
  let v1563_r0 : BitVec 32 := Scalar.addi c0_i32_281_r0 c40_i32_r0
  let c1_i32_282_r0 : BitVec 32 := 1#32
  ⟨c0_i32_281_r0, v1563_r0, c1_i32_282_r0⟩
def k0_off8 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2963_r0 : Index := Scalar.indexCast arg11_r0
  let c0_455_r0 : Index := 0#32
  let c0_456_r0 : Index := 0#32
  ![v2963_r0.toNat, 0, 0]
def k0_off9 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2967_r0 : Index := Scalar.indexCast arg11_r0
  let c0_457_r0 : Index := 0#32
  let c256_458_r0 : Index := 256#32
  ![v2967_r0.toNat, 0, 256]
def k0_off10 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2979_r0 : Index := Scalar.indexCast arg11_r0
  let c128_467_r0 : Index := 128#32
  let c0_468_r0 : Index := 0#32
  ![v2979_r0.toNat, 128, 0]
def k0_off11 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v2983_r0 : Index := Scalar.indexCast arg11_r0
  let c128_469_r0 : Index := 128#32
  let c256_470_r0 : Index := 256#32
  ![v2983_r0.toNat, 128, 256]
def k0_off12 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4316_r0 : Index := Scalar.indexCast arg11_r0
  let c0_589_r0 : Index := 0#32
  let c0_590_r0 : Index := 0#32
  ![v4316_r0.toNat, 0, 0]
def k0_off13 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4331_r0 : Index := Scalar.indexCast arg11_r0
  let c1_596_r0 : Index := 1#32
  let c0_597_r0 : Index := 0#32
  ![v4331_r0.toNat, 1, 0]
def k0_off14 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4346_r0 : Index := Scalar.indexCast arg11_r0
  let c2_603_r0 : Index := 2#32
  let c0_604_r0 : Index := 0#32
  ![v4346_r0.toNat, 2, 0]
def k0_off15 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let v4361_r0 : Index := Scalar.indexCast arg11_r0
  let c3_610_r0 : Index := 3#32
  let c0_611_r0 : Index := 0#32
  ![v4361_r0.toNat, 3, 0]
def k0_off16 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v7779_r0 : Index := Scalar.indexCast v2954_r0
  let c128_939_r0 : Index := 128#32
  let c0_940_r0 : Index := 0#32
  ![v7779_r0.toNat, 128, 0]
def k0_off17 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v7783_r0 : Index := Scalar.indexCast v2954_r0
  let c128_941_r0 : Index := 128#32
  let c256_942_r0 : Index := 256#32
  ![v7783_r0.toNat, 128, 256]
def k0_off18 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v8471_r0 : Index := Scalar.indexCast v2954_r0
  let c0_1003_r0 : Index := 0#32
  let c0_1004_r0 : Index := 0#32
  ![v8471_r0.toNat, 0, 0]
def k0_off19 (k0_t2 : Fin k0_t2_loop.trips) : Fin 3 → Nat :=
  let c0_i32_281_r0 : BitVec 32 := 0#32
  let c1_i32_282_r0 : BitVec 32 := 1#32
  let arg11_r0 : BitVec 32 := Scf.iv c0_i32_281_r0 c1_i32_282_r0 k0_t2
  let c1_i32_446_r0 : BitVec 32 := 1#32
  let v2953_r0 : BitVec 32 := Scalar.addi arg11_r0 c1_i32_446_r0
  let c39_i32_r0 : BitVec 32 := 39#32
  let v2954_r0 : BitVec 32 := Scalar.minsi v2953_r0 c39_i32_r0
  let v8475_r0 : Index := Scalar.indexCast v2954_r0
  let c0_1005_r0 : Index := 0#32
  let c256_1006_r0 : Index := 256#32
  ![v8475_r0.toNat, 0, 256]
def k0_cond1 (i : grid0.Coords) : BitVec 1 :=
  let arg1 : BitVec 32 := BitVec.ofNat 32 (i 1).val
  let c3_i32 : BitVec 32 := 3#32
  let v1 : BitVec 1 := Scalar.cmpi .eq arg1 c3_i32
  let v1548 : BitVec 32 := Scalar.extui v1
  let c0_i32_267 : BitVec 32 := 0#32
  let v1549 : BitVec 1 := Scalar.cmpi .ne v1548 c0_i32_267
  v1549

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S40x256x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S40x256x512 : Shape := ⟨3, ![40, 256, 512]⟩
abbrev S770048x256 : Shape := ⟨2, ![770048, 256]⟩
abbrev S770048x4 : Shape := ⟨2, ![770048, 4]⟩
abbrev S770048 : Shape := ⟨1, ![770048]⟩
abbrev S40x256x512x2 : Shape := ⟨4, ![40, 256, 512, 2]⟩
abbrev S40x512x256x2 : Shape := ⟨4, ![40, 512, 256, 2]⟩
abbrev S20480x512 : Shape := ⟨2, ![20480, 512]⟩
abbrev S770048x4x1 : Shape := ⟨3, ![770048, 4, 1]⟩
abbrev S_ : Shape := ⟨0, ![]⟩
abbrev S770048x4x64 : Shape := ⟨3, ![770048, 4, 64]⟩
abbrev S770048x512 : Shape := ⟨2, ![770048, 512]⟩
abbrev S20480x770048 : Shape := ⟨2, ![20480, 770048]⟩
abbrev S1x770048 : Shape := ⟨2, ![1, 770048]⟩
abbrev S20480x94x8192 : Shape := ⟨3, ![20480, 94, 8192]⟩
abbrev S20480x94 : Shape := ⟨2, ![20480, 94]⟩
abbrev S94x20480 : Shape := ⟨2, ![94, 20480]⟩
abbrev S94x32x640 : Shape := ⟨3, ![94, 32, 640]⟩

abbrev nBuf : Space → Nat
  | .hbm => 61
  | .vmem => 0
  | .smem => 0
  | _ => 0

abbrev bufTy : (tb : Table) → Fin (tcTables nBuf tb) → BufTy
  | .hbm, ⟨0, _⟩ => ⟨S40x256x512, .i32⟩
  | .hbm, ⟨1, _⟩ => ⟨S770048x256, .i8⟩
  | .hbm, ⟨2, _⟩ => ⟨S770048x4, .f32⟩
  | .hbm, ⟨3, _⟩ => ⟨S770048, .f32⟩
  | .hbm, ⟨4, _⟩ => ⟨S40x256x512x2, .bf16⟩
  | .hbm, ⟨5, _⟩ => ⟨S40x512x256x2, .bf16⟩
  | .hbm, ⟨6, _⟩ => ⟨S20480x512, .bf16⟩
  | .hbm, ⟨7, _⟩ => ⟨S770048x256, .i32⟩
  | .hbm, ⟨8, _⟩ => ⟨S770048x4, .bf16⟩
  | .hbm, ⟨9, _⟩ => ⟨S770048x4x1, .bf16⟩
  | .hbm, ⟨10, _⟩ => ⟨S_, .i32⟩
  | .hbm, ⟨11, _⟩ => ⟨S770048x256, .i32⟩
  | .hbm, ⟨12, _⟩ => ⟨S770048x256, .i32⟩
  | .hbm, ⟨13, _⟩ => ⟨S_, .i32⟩
  | .hbm, ⟨14, _⟩ => ⟨S770048x256, .i32⟩
  | .hbm, ⟨15, _⟩ => ⟨S770048x256, .i1⟩
  | .hbm, ⟨16, _⟩ => ⟨S_, .i32⟩
  | .hbm, ⟨17, _⟩ => ⟨S770048x256, .i32⟩
  | .hbm, ⟨18, _⟩ => ⟨S770048x256, .i32⟩
  | .hbm, ⟨19, _⟩ => ⟨S770048x256, .i32⟩
  | .hbm, ⟨20, _⟩ => ⟨S770048x256, .bf16⟩
  | .hbm, ⟨21, _⟩ => ⟨S770048x4x64, .bf16⟩
  | .hbm, ⟨22, _⟩ => ⟨S770048x4x64, .bf16⟩
  | .hbm, ⟨23, _⟩ => ⟨S770048x4x64, .bf16⟩
  | .hbm, ⟨24, _⟩ => ⟨S770048x256, .bf16⟩
  | .hbm, ⟨25, _⟩ => ⟨S_, .i32⟩
  | .hbm, ⟨26, _⟩ => ⟨S770048x256, .i32⟩
  | .hbm, ⟨27, _⟩ => ⟨S770048x256, .i32⟩
  | .hbm, ⟨28, _⟩ => ⟨S_, .i32⟩
  | .hbm, ⟨29, _⟩ => ⟨S770048x256, .i32⟩
  | .hbm, ⟨30, _⟩ => ⟨S770048x256, .i1⟩
  | .hbm, ⟨31, _⟩ => ⟨S_, .i32⟩
  | .hbm, ⟨32, _⟩ => ⟨S770048x256, .i32⟩
  | .hbm, ⟨33, _⟩ => ⟨S770048x256, .i32⟩
  | .hbm, ⟨34, _⟩ => ⟨S770048x256, .i32⟩
  | .hbm, ⟨35, _⟩ => ⟨S770048x256, .bf16⟩
  | .hbm, ⟨36, _⟩ => ⟨S770048x4x64, .bf16⟩
  | .hbm, ⟨37, _⟩ => ⟨S770048x4x64, .bf16⟩
  | .hbm, ⟨38, _⟩ => ⟨S770048x4x64, .bf16⟩
  | .hbm, ⟨39, _⟩ => ⟨S770048x256, .bf16⟩
  | .hbm, ⟨40, _⟩ => ⟨S770048x512, .bf16⟩
  | .hbm, ⟨41, _⟩ => ⟨S20480x770048, .f32⟩
  | .hbm, ⟨42, _⟩ => ⟨S_, .f32⟩
  | .hbm, ⟨43, _⟩ => ⟨S20480x770048, .f32⟩
  | .hbm, ⟨44, _⟩ => ⟨S20480x770048, .f32⟩
  | .hbm, ⟨45, _⟩ => ⟨S1x770048, .f32⟩
  | .hbm, ⟨46, _⟩ => ⟨S20480x770048, .f32⟩
  | .hbm, ⟨47, _⟩ => ⟨S20480x770048, .f32⟩
  | .hbm, ⟨48, _⟩ => ⟨S_, .f32⟩
  | .hbm, ⟨49, _⟩ => ⟨S20480x770048, .f32⟩
  | .hbm, ⟨50, _⟩ => ⟨S20480x770048, .f32⟩
  | .hbm, ⟨51, _⟩ => ⟨S20480x770048, .f32⟩
  | .hbm, ⟨52, _⟩ => ⟨S20480x770048, .f32⟩
  | .hbm, ⟨53, _⟩ => ⟨S20480x770048, .f32⟩
  | .hbm, ⟨54, _⟩ => ⟨S20480x770048, .f32⟩
  | .hbm, ⟨55, _⟩ => ⟨S20480x770048, .f32⟩
  | .hbm, ⟨56, _⟩ => ⟨S20480x94x8192, .f32⟩
  | .hbm, ⟨57, _⟩ => ⟨S_, .f32⟩
  | .hbm, ⟨58, _⟩ => ⟨S20480x94, .f32⟩
  | .hbm, ⟨59, _⟩ => ⟨S94x20480, .f32⟩
  | .hbm, ⟨60, _⟩ => ⟨S94x32x640, .f32⟩
  | _, _ => ⟨S40x256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Proof.TripK.lean ====
module

public import proofs.«01_k».proof.Proof.Gen.Kernel.Frame
public import proofs.«01_k».proof.Proof.Gen.Kernel.Skeleton
public import proofs.«01_k».proof.Proof.Gen.Kernel.Loops
public import Idealize.ShloMosaic.Lib.Mxu.Walk
public import Idealize.ShloMosaic.Lib.Claim

@[expose] public section

set_option maxRecDepth 16384
set_option maxHeartbeats 20000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What the loop over the row blocks carries: four sums of hinges, four sums of logarithms, the matrix units. -/
abbrev Carry (F : FTy → Type) [FloatOps F] : Type :=
  FVec F S8x128 .f32 × FVec F S8x128 .f32 × FVec F S8x128 .f32 × FVec F S8x128 .f32 × FVec F S8x128 .f32 × FVec F S8x128 .f32 × FVec F S8x128 .f32 × FVec F S8x128 .f32 × Mxu F

/-- What one trip reads and writes. -/
abbrev Trip (c : Dev nD) (arg5 : Memref sig .tc .vmem S40x256x512 .i32) (arg7 : Memref sig .tc .vmem S1024x512 .i32) (arg8 : Memref sig .tc .vmem S2048x128 .f32) (arg9 : Memref sig .tc .vmem S4x2x64x256 .f32) (arg10 : Memref sig .tc .vmem S41x8x128 .f32)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty) : sProp 𝕄 :=
  iprop((arg5.view.loc (c : Thread nD τ) ↦[arg5.view.set]{fullShare} X5) ∗ (arg7.view.loc (c : Thread nD τ) ↦[arg7.view.set]{fullShare} X7)
    ∗ (arg8.view.loc (c : Thread nD τ) ↦[arg8.view.set]{fullShare} X8) ∗ (arg9.view.loc (c : Thread nD τ) ↦[arg9.view.set]{fullShare} f9)
    ∗ (arg10.view.loc (c : Thread nD τ) ↦[arg10.view.set]{fullShare} f10))

/-- ONE TRIP of the loop over the row blocks, from any matrix unit state: what it yields and what it stores are the run's finds. -/
@[irreducible] def trip (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty) (k : Fin k0_t2_loop.trips)
    (a0 a1 a2 a3 a4 a5 a6 a7 : FVec F S8x128 .f32) (s : Mxu F) :
    Σ' (y : Carry F) (L9 : List (View.Piece (Elt F) S4x2x64x256 .f32)), { L10 : List (View.Piece (Elt F) S41x8x128 .f32) // (∀ E : Set ℕ,
      Trip (F := F) c arg5 arg7 arg8 arg9 arg10 X5 X7 X8 f9 f10
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 k0_mxu1 v0 k (a0, a1, a2, a3, a4, a5, a6, a7, s))
          (fun r => iprop(⌜r = y⌝ ∗ Trip (F := F) c arg5 arg7 arg8 arg9 arg10 X5 X7 X8 (arg9.view.writes (Elt F) f9 L9) (arg10.view.writes (Elt F) f10 L10))))
      ∧ ∀ q : Fin 2, (∀ R, s.live q R = true → 768 ≤ R.val ∧ R.val < 1024) → ∀ R, y.2.2.2.2.2.2.2.2.live q R = true → 768 ≤ R.val ∧ R.val < 1024 } := by
  have hk : k.val < 40 := Nat.lt_of_lt_of_le k.isLt k0_t2_abs.2.1
  refine ⟨?_, ?_, ?_, fun E => ?run, ?live⟩
  case run =>
    unfold k0_t2_body
    iintro ⟨H5, H7, H8, H9, H10⟩
    sl_exec_parts (disch := (first | exact Option.isSome_some | mxu_pushok_peel))
    sl_step
    isplitr
    · ipureintro; rfl
    isplitl [H5]; · iexact H5
    isplitl [H7]; · iexact H7
    isplitl [H8]; · iexact H8
    isplitl [H9]; · iexact H9
    iexact H10
  case live =>
    intro q hl
    fin_cases q
    · intro R
      have hl' : ∀ R, s.live 0 R = true → 768 ≤ R.val ∧ R.val < 1024 := hl
      mxu_walk hl' as h
      exact h.within_range 768 1024 rfl R
    · intro R
      have hl' : ∀ R, s.live 1 R = true → 768 ≤ R.val ∧ R.val < 1024 := hl
      mxu_walk hl' as h
      exact h.within_range 768 1024 rfl R

end Cert.Proof.Kernel

end
-- ==== Proof.LoopK.lean ====
module

public import proofs.«01_k».proof.Proof.TripK

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What the loop has made: the values it carries and what it has stored in its two buffers, the last store first. -/
structure Made (F : FTy → Type) [FloatOps F] where
  carry : Carry F
  L9 : List (View.Piece (Elt F) S4x2x64x256 .f32)
  L10 : List (View.Piece (Elt F) S41x8x128 .f32)

/-- One trip more. -/
def more (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (k : Fin k0_t2_loop.trips) (p : Made F) : Made F :=
  let t := trip (F := F) c i arg2 harg2 arg3 harg3 arg4 harg4 arg5 harg5 arg6 harg6 arg7 harg7 arg8 harg8 arg9 harg9 arg10 harg10 k0_mxu1 v0 X5 X7 X8 (arg9.view.writes (Elt F) G9 p.L9) (arg10.view.writes (Elt F) G10 p.L10) k
    p.carry.1 p.carry.2.1 p.carry.2.2.1 p.carry.2.2.2.1 p.carry.2.2.2.2.1 p.carry.2.2.2.2.2.1 p.carry.2.2.2.2.2.2.1 p.carry.2.2.2.2.2.2.2.1 p.carry.2.2.2.2.2.2.2.2
  ⟨t.1, t.2.1 ++ p.L9, t.2.2.1 ++ p.L10⟩

/-- What the trips before `k` have made. -/
def made (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) : ℕ → Made F
  | 0 => ⟨init, [], []⟩
  | k + 1 => if h : k < k0_t2_loop.trips then more (F := F) c i arg2 harg2 arg3 harg3 arg4 harg4 arg5 harg5 arg6 harg6 arg7 harg7 arg8 harg8 arg9 harg9 arg10 harg10 k0_mxu1 v0 X5 X7 X8 G9 G10 ⟨k, h⟩ (made c i arg2 harg2 arg3 harg3 arg4 harg4 arg5 harg5 arg6 harg6 arg7 harg7 arg8 harg8 arg9 harg9 arg10 harg10 k0_mxu1 v0 init X5 X7 X8 G9 G10 k)
      else made c i arg2 harg2 arg3 harg3 arg4 harg4 arg5 harg5 arg6 harg6 arg7 harg7 arg8 harg8 arg9 harg9 arg10 harg10 k0_mxu1 v0 init X5 X7 X8 G9 G10 k

theorem made_succ (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (k : Fin k0_t2_loop.trips) :
    made (F := F) c i arg2 harg2 arg3 harg3 arg4 harg4 arg5 harg5 arg6 harg6 arg7 harg7 arg8 harg8 arg9 harg9 arg10 harg10 k0_mxu1 v0 init X5 X7 X8 G9 G10 (k.val + 1)
      = more (F := F) c i arg2 harg2 arg3 harg3 arg4 harg4 arg5 harg5 arg6 harg6 arg7 harg7 arg8 harg8 arg9 harg9 arg10 harg10 k0_mxu1 v0 X5 X7 X8 G9 G10 k (made (F := F) c i arg2 harg2 arg3 harg3 arg4 harg4 arg5 harg5 arg6 harg6 arg7 harg7 arg8 harg8 arg9 harg9 arg10 harg10 k0_mxu1 v0 init X5 X7 X8 G9 G10 k.val) := by
  rw [made, dif_pos k.isLt]

/-- Between the trips only the last eighth of the accumulators is live. -/
theorem made_live (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (q : Fin 2)
    (hi : ∀ R, init.2.2.2.2.2.2.2.2.live q R = true → 768 ≤ R.val ∧ R.val < 1024) : ∀ k : ℕ,
    ∀ R, (made (F := F) c i arg2 harg2 arg3 harg3 arg4 harg4 arg5 harg5 arg6 harg6 arg7 harg7 arg8 harg8 arg9 harg9 arg10 harg10 k0_mxu1 v0 init X5 X7 X8 G9 G10 k).carry.2.2.2.2.2.2.2.2.live q R = true → 768 ≤ R.val ∧ R.val < 1024
  | 0 => hi
  | k + 1 => by
    by_cases h : k < k0_t2_loop.trips
    · rw [made, dif_pos h]
      exact (trip (F := F) c i arg2 harg2 arg3 harg3 arg4 harg4 arg5 harg5 arg6 harg6 arg7 harg7 arg8 harg8 arg9 harg9 arg10 harg10 k0_mxu1 v0 X5 X7 X8 _ _ ⟨k, h⟩ _ _ _ _ _ _ _ _ _).2.2.2.2 q (made_live c i arg2 harg2 arg3 harg3 arg4 harg4 arg5 harg5 arg6 harg6 arg7 harg7 arg8 harg8 arg9 harg9 arg10 harg10 k0_mxu1 v0 init X5 X7 X8 G9 G10 q hi k)
    · rw [made, dif_neg h]; exact made_live c i arg2 harg2 arg3 harg3 arg4 harg4 arg5 harg5 arg6 harg6 arg7 harg7 arg8 harg8 arg9 harg9 arg10 harg10 k0_mxu1 v0 init X5 X7 X8 G9 G10 q hi k

/-- The loop's invariant. -/
@[sl_loop] def loopInv_k0_t2 (c : Dev nD) (E : Set ℕ) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X_arg5 : BufTy.Contents (Elt F) arg5.view.ty) (X_arg7 : BufTy.Contents (Elt F) arg7.view.ty) (X_arg8 : BufTy.Contents (Elt F) arg8.view.ty)
    (G_arg9 : BufTy.Contents (Elt F) arg9.view.ty) (G_arg10 : BufTy.Contents (Elt F) arg10.view.ty) :
    Gen.LoopInvTy_k0_t2 (F := F) Unit ℕ (UR sig nD τ) ℕ Variants.none c none E i arg2 harg2 arg3 harg3 arg4 harg4 arg5 harg5 arg6 harg6 arg7 harg7 arg8 harg8 arg9 harg9 arg10 harg10 k0_mxu1 v0 init where
  inv k acc := iprop((arg5.view.loc (c : Thread nD τ) ↦[arg5.view.set]{fullShare} X_arg5) ∗ (arg7.view.loc (c : Thread nD τ) ↦[arg7.view.set]{fullShare} X_arg7)
    ∗ (arg8.view.loc (c : Thread nD τ) ↦[arg8.view.set]{fullShare} X_arg8)
    ∗ (∃ f, (arg9.view.loc (c : Thread nD τ) ↦[arg9.view.set]{fullShare} f) ∗ ⌜f = arg9.view.writes (Elt F) G_arg9 (made (F := F) c i arg2 harg2 arg3 harg3 arg4 harg4 arg5 harg5 arg6 harg6 arg7 harg7 arg8 harg8 arg9 harg9 arg10 harg10 k0_mxu1 v0 init X_arg5 X_arg7 X_arg8 G_arg9 G_arg10 k).L9⌝)
    ∗ (∃ f, (arg10.view.loc (c : Thread nD τ) ↦[arg10.view.set]{fullShare} f) ∗ ⌜f = arg10.view.writes (Elt F) G_arg10 (made (F := F) c i arg2 harg2 arg3 harg3 arg4 harg4 arg5 harg5 arg6 harg6 arg7 harg7 arg8 harg8 arg9 harg9 arg10 harg10 k0_mxu1 v0 init X_arg5 X_arg7 X_arg8 G_arg9 G_arg10 k).L10⌝)
    ∗ ⌜acc = (made (F := F) c i arg2 harg2 arg3 harg3 arg4 harg4 arg5 harg5 arg6 harg6 arg7 harg7 arg8 harg8 arg9 harg9 arg10 harg10 k0_mxu1 v0 init X_arg5 X_arg7 X_arg8 G_arg9 G_arg10 k).carry⌝)
  step k acc := by
    iintro ⟨H5, H7, H8, ⟨%f9, H9, %h9⟩, ⟨%f10, H10, %h10⟩, %ha⟩
    subst h9 h10 ha
    iapply (wp_wand_r Idealize.ShloMosaic.frame (wpE (defs₀ (F := F)) Variants.none (c : Thread nD τ) none) E)
    isplitl [H5 H7 H8 H9 H10]
    · iapply ((trip (F := F) c i arg2 harg2 arg3 harg3 arg4 harg4 arg5 harg5 arg6 harg6 arg7 harg7 arg8 harg8 arg9 harg9 arg10 harg10 k0_mxu1 v0 X_arg5 X_arg7 X_arg8 _ _ k _ _ _ _ _ _ _ _ _).2.2.2.1 E)
      isplitl [H5]; · iexact H5
      isplitl [H7]; · iexact H7
      isplitl [H8]; · iexact H8
      isplitl [H9]; · iexact H9
      iexact H10
    · iintro %r ⟨%hr, H5, H7, H8, H9, H10⟩
      rw [made_succ]
      isplitl [H5]; · iexact H5
      isplitl [H7]; · iexact H7
      isplitl [H8]; · iexact H8
      isplitl [H9]
      · iexists _; isplitl [H9]; · iexact H9
        ipureintro; exact (View.writes_append ..).symm
      isplitl [H10]
      · iexists _; isplitl [H10]; · iexact H10
        ipureintro; exact (View.writes_append ..).symm
      ipureintro; exact hr

end Cert.Proof.Kernel

end
-- ==== Proof.BodyK.lean ====
module

public import proofs.«01_k».proof.Proof.LoopK

@[expose] public section

set_option maxRecDepth 16384
set_option maxHeartbeats 20000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The body at a point that is not the last of its chunk. -/
@[irreducible] def runRest (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : ¬ k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    { L10 : List (View.Piece (Elt F) S41x8x128 .f32) // ∀ E : Set ℕ,
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) E (cc0_dense_softplus (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} (arg10.view.writes (Elt F) f10 L10)))) } := by
  refine ⟨?_, fun E => ?run⟩
  case run =>
    simp only [cc0_dense_softplus_eq_skeleton]; unfold cc0_dense_softplus_skel
    iintro ⟨H2, H3, H4, H5, H6, H7, H8, H9, H10⟩
    sl_exec_parts (disch := (first | exact Option.isSome_some | mxu_pushok_peel))
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexact H10

/-- The body at the last point of a chunk: it also writes the chunk's sums out. -/
@[irreducible] def runLast (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    Σ' (L6 : List (View.Piece (Elt F) S1x32x640 .f32)), { L10 : List (View.Piece (Elt F) S41x8x128 .f32) // ∀ E : Set ℕ,
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) E (cc0_dense_softplus (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} (arg6.view.writes (Elt F) f6 L6)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} (arg10.view.writes (Elt F) f10 L10)))) } := by
  refine ⟨?_, ?_, fun E => ?run⟩
  case run =>
    simp only [cc0_dense_softplus_eq_skeleton]; unfold cc0_dense_softplus_skel
    iintro ⟨H2, H3, H4, H5, H6, H7, H8, H9, H10⟩
    sl_exec_parts (disch := (first | exact Option.isSome_some | mxu_pushok_peel))
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexact H10

end Cert.Proof.Kernel

end
-- ==== Proof.FrameK.lean ====
module

public import proofs.«01_k».proof.Proof.BodyK

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body hands the inputs back as they were, and the result's block and its own buffers at something. -/
theorem sound_kernel (c : Dev nD) (E : Set ℕ) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x512 .i32) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (x2 : Vec F S2048x256 .i8) (x3 : Vec F S4x16x128 .bf16) (x4 : Vec F S2x8x128 .f32) (x5 : Vec F S40x256x512 .i32) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ ((iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))) : sProp 𝕄) -∗ K ⟨⟩)) : sProp 𝕄)
      ⊢ wp frame (wpE (defs₀ (F := F)) Variants.none (c : Thread nD τ) none) E (cc0_dense_softplus (F := F) i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%d6, %f6, -, H6⟩, ⟨%f7, H7⟩, ⟨%f8, H8⟩, ⟨%f9, H9⟩, ⟨%f10, H10⟩, Hk⟩
  by_cases hc : k0_cond1 i = 1#1
  · iapply (wp_wand_r Idealize.ShloMosaic.frame (wpE (defs₀ (F := F)) Variants.none (c : Thread nD τ) none) E)
    isplitl [H2 H3 H4 H5 H6 H7 H8 H9 H10]
    · iapply ((runLast (F := F) c i arg2 harg2 arg3 harg3 arg4 harg4 arg5 harg5 arg6 harg6 arg7 harg7 arg8 harg8 arg9 harg9 arg10 harg10 hc f2 f3 f4 f5 f6 f7 f8 f9 f10).2.2 E)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro %_ ⟨H2, H3, H4, H5, H6, ⟨%g7, H7⟩, ⟨%g8, H8⟩, ⟨%g9, H9⟩, H10⟩
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]
    · iexists _, _; isplitr; swap; · iexact H6
      ipureintro; rfl
    isplitl [H7]; · iexists _; iexact H7
    isplitl [H8]; · iexists _; iexact H8
    isplitl [H9]; · iexists _; iexact H9
    iexists _; iexact H10
  · iapply (wp_wand_r Idealize.ShloMosaic.frame (wpE (defs₀ (F := F)) Variants.none (c : Thread nD τ) none) E)
    isplitl [H2 H3 H4 H5 H6 H7 H8 H9 H10]
    · iapply ((runRest (F := F) c i arg2 harg2 arg3 harg3 arg4 harg4 arg5 harg5 arg6 harg6 arg7 harg7 arg8 harg8 arg9 harg9 arg10 harg10 hc f2 f3 f4 f5 f6 f7 f8 f9 f10).2 E)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro %_ ⟨H2, H3, H4, H5, H6, ⟨%g7, H7⟩, ⟨%g8, H8⟩, ⟨%g9, H9⟩, H10⟩
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]
    · iexists _, _; isplitr; swap; · iexact H6
      ipureintro; rfl
    isplitl [H7]; · iexists _; iexact H7
    isplitl [H8]; · iexists _; iexact H8
    isplitl [H9]; · iexists _; iexact H9
    iexists _; iexact H10

/-- The result's window is not described here. -/
def forgets0 : Fin 5 → Bool := fun | 0 => false | 1 => false | 2 => false | 3 => false | 4 => true | ⟨_ + 5, h⟩ => absurd h (Nat.not_lt.2 (Nat.le_add_left _ _))

/-- The pipeline's data: the arrays as the region finds them, the inputs' buffers at their blocks, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- The scratch, buffer by buffer. -/
theorem PhiA_eq (c : Dev nD) :
    (Pipeline.ΦA spec0 c : sProp 𝕄) = iprop(iprop((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f))) ∗ (∃ r, prngReg c r)) := by
  unfold Pipeline.ΦA
  rw [scopedRest0_eq]
  simp only [Memref.view_whole, View.set_whole]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, PhiA_eq]
  iintro ⟨⟨⟨S0, S1, S2, S3⟩, Hg⟩, Ho, ⟨%d0, H0⟩, ⟨%d1, H1⟩, ⟨%d2, H2⟩, ⟨%d3, H3⟩, H4⟩
  iapply (sound_kernel c Set.univ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  iintro ⟨H0, H1, H2, H3, H4, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the implicit arguments are found by unifying the conclusion with this one, which takes unfolding plain definitions in a
-- metavariable's type
set_option backward.isDefEq.respectTransparency.types false in
/-- The launch: the arrays as the pipeline leaves them, and every semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(Pipeline.RDat.FramePost.arr_in h.1 c 3 rfl).trans ((A_eq m c 3).trans (V_main_arg0 m c)),
      (Pipeline.RDat.FramePost.arr_in h.1 c 0 rfl).trans ((A_eq m c 0).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof.Kernel

end
-- ==== Proof.TripI.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Mxu.Walk
public import Idealize.ShloMosaic.Lib.Claim

@[expose] public section

set_option maxRecDepth 16384
set_option maxHeartbeats 20000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop over the row blocks carries: four sums of hinges, four sums of logarithms, the matrix units. -/
abbrev Carry (F : FTy → Type) [FloatOps F] : Type :=
  FVec F S8x128 .f32 × FVec F S8x128 .f32 × FVec F S8x128 .f32 × FVec F S8x128 .f32 × FVec F S8x128 .f32 × FVec F S8x128 .f32 × FVec F S8x128 .f32 × FVec F S8x128 .f32 × Mxu F

/-- What one trip reads and writes. -/
abbrev Trip (c : Dev nD) (arg5 : Memref sig .tc .vmem S40x256x512 .i32) (arg7 : Memref sig .tc .vmem S1024x2x512 .bf16) (arg8 : Memref sig .tc .vmem S2048x128 .f32) (arg9 : Memref sig .tc .vmem S4x2x64x256 .f32) (arg10 : Memref sig .tc .vmem S41x8x128 .f32)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty) : sProp 𝕄 :=
  iprop((arg5.view.loc (c : Thread nD τ) ↦[arg5.view.set]{fullShare} X5) ∗ (arg7.view.loc (c : Thread nD τ) ↦[arg7.view.set]{fullShare} X7)
    ∗ (arg8.view.loc (c : Thread nD τ) ↦[arg8.view.set]{fullShare} X8) ∗ (arg9.view.loc (c : Thread nD τ) ↦[arg9.view.set]{fullShare} f9)
    ∗ (arg10.view.loc (c : Thread nD τ) ↦[arg10.view.set]{fullShare} f10))

/-- ONE TRIP of the loop over the row blocks, from any matrix unit state: what it yields and what it stores are the run's finds. -/
@[irreducible] def trip (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty) (k : Fin k0_t2_loop.trips)
    (a0 a1 a2 a3 a4 a5 a6 a7 : FVec F S8x128 .f32) (s : Mxu F) :
    Σ' (y : Carry F) (L9 : List (View.Piece (Elt F) S4x2x64x256 .f32)), { L10 : List (View.Piece (Elt F) S41x8x128 .f32) // (∀ E : Set ℕ,
      Trip (F := F) c arg5 arg7 arg8 arg9 arg10 X5 X7 X8 f9 f10
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 k0_mxu1 v0 k (a0, a1, a2, a3, a4, a5, a6, a7, s))
          (fun r => iprop(⌜r = y⌝ ∗ Trip (F := F) c arg5 arg7 arg8 arg9 arg10 X5 X7 X8 (arg9.view.writes (Elt F) f9 L9) (arg10.view.writes (Elt F) f10 L10))))
      ∧ ∀ q : Fin 2, (∀ R, s.live q R = true → 768 ≤ R.val ∧ R.val < 1024) → ∀ R, y.2.2.2.2.2.2.2.2.live q R = true → 768 ≤ R.val ∧ R.val < 1024 } := by
  have hk : k.val < 40 := Nat.lt_of_lt_of_le k.isLt k0_t2_abs.2.1
  refine ⟨?_, ?_, ?_, fun E => ?run, ?live⟩
  case run =>
    unfold k0_t2_body
    iintro ⟨H5, H7, H8, H9, H10⟩
    sl_exec_parts (disch := (first | exact Option.isSome_some | mxu_pushok_peel))
    sl_step
    isplitr
    · ipureintro; rfl
    isplitl [H5]; · iexact H5
    isplitl [H7]; · iexact H7
    isplitl [H8]; · iexact H8
    isplitl [H9]; · iexact H9
    iexact H10
  case live =>
    intro q hl
    fin_cases q
    · intro R
      have hl' : ∀ R, s.live 0 R = true → 768 ≤ R.val ∧ R.val < 1024 := hl
      mxu_walk hl' as h
      exact h.within_range 768 1024 rfl R
    · intro R
      have hl' : ∀ R, s.live 1 R = true → 768 ≤ R.val ∧ R.val < 1024 := hl
      mxu_walk hl' as h
      exact h.within_range 768 1024 rfl R

end Cert.Proof.KernelIdeal

end
-- ==== Proof.LoopI.lean ====
module

public import proofs.«01_k».proof.Proof.TripI

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop has made: the values it carries and what it has stored in its two buffers, the last store first. -/
structure Made (F : FTy → Type) [FloatOps F] where
  carry : Carry F
  L9 : List (View.Piece (Elt F) S4x2x64x256 .f32)
  L10 : List (View.Piece (Elt F) S41x8x128 .f32)

/-- One trip more. -/
def more (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (k : Fin k0_t2_loop.trips) (p : Made F) : Made F :=
  let t := trip (F := F) c i arg2 harg2 arg3 harg3 arg4 harg4 arg5 harg5 arg6 harg6 arg7 harg7 arg8 harg8 arg9 harg9 arg10 harg10 k0_mxu1 v0 X5 X7 X8 (arg9.view.writes (Elt F) G9 p.L9) (arg10.view.writes (Elt F) G10 p.L10) k
    p.carry.1 p.carry.2.1 p.carry.2.2.1 p.carry.2.2.2.1 p.carry.2.2.2.2.1 p.carry.2.2.2.2.2.1 p.carry.2.2.2.2.2.2.1 p.carry.2.2.2.2.2.2.2.1 p.carry.2.2.2.2.2.2.2.2
  ⟨t.1, t.2.1 ++ p.L9, t.2.2.1 ++ p.L10⟩

/-- What the trips before `k` have made. -/
def made (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) : ℕ → Made F
  | 0 => ⟨init, [], []⟩
  | k + 1 => if h : k < k0_t2_loop.trips then more (F := F) c i arg2 harg2 arg3 harg3 arg4 harg4 arg5 harg5 arg6 harg6 arg7 harg7 arg8 harg8 arg9 harg9 arg10 harg10 k0_mxu1 v0 X5 X7 X8 G9 G10 ⟨k, h⟩ (made c i arg2 harg2 arg3 harg3 arg4 harg4 arg5 harg5 arg6 harg6 arg7 harg7 arg8 harg8 arg9 harg9 arg10 harg10 k0_mxu1 v0 init X5 X7 X8 G9 G10 k)
      else made c i arg2 harg2 arg3 harg3 arg4 harg4 arg5 harg5 arg6 harg6 arg7 harg7 arg8 harg8 arg9 harg9 arg10 harg10 k0_mxu1 v0 init X5 X7 X8 G9 G10 k

theorem made_succ (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (k : Fin k0_t2_loop.trips) :
    made (F := F) c i arg2 harg2 arg3 harg3 arg4 harg4 arg5 harg5 arg6 harg6 arg7 harg7 arg8 harg8 arg9 harg9 arg10 harg10 k0_mxu1 v0 init X5 X7 X8 G9 G10 (k.val + 1)
      = more (F := F) c i arg2 harg2 arg3 harg3 arg4 harg4 arg5 harg5 arg6 harg6 arg7 harg7 arg8 harg8 arg9 harg9 arg10 harg10 k0_mxu1 v0 X5 X7 X8 G9 G10 k (made (F := F) c i arg2 harg2 arg3 harg3 arg4 harg4 arg5 harg5 arg6 harg6 arg7 harg7 arg8 harg8 arg9 harg9 arg10 harg10 k0_mxu1 v0 init X5 X7 X8 G9 G10 k.val) := by
  rw [made, dif_pos k.isLt]

/-- Between the trips only the last eighth of the accumulators is live. -/
theorem made_live (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (q : Fin 2)
    (hi : ∀ R, init.2.2.2.2.2.2.2.2.live q R = true → 768 ≤ R.val ∧ R.val < 1024) : ∀ k : ℕ,
    ∀ R, (made (F := F) c i arg2 harg2 arg3 harg3 arg4 harg4 arg5 harg5 arg6 harg6 arg7 harg7 arg8 harg8 arg9 harg9 arg10 harg10 k0_mxu1 v0 init X5 X7 X8 G9 G10 k).carry.2.2.2.2.2.2.2.2.live q R = true → 768 ≤ R.val ∧ R.val < 1024
  | 0 => hi
  | k + 1 => by
    by_cases h : k < k0_t2_loop.trips
    · rw [made, dif_pos h]
      exact (trip (F := F) c i arg2 harg2 arg3 harg3 arg4 harg4 arg5 harg5 arg6 harg6 arg7 harg7 arg8 harg8 arg9 harg9 arg10 harg10 k0_mxu1 v0 X5 X7 X8 _ _ ⟨k, h⟩ _ _ _ _ _ _ _ _ _).2.2.2.2 q (made_live c i arg2 harg2 arg3 harg3 arg4 harg4 arg5 harg5 arg6 harg6 arg7 harg7 arg8 harg8 arg9 harg9 arg10 harg10 k0_mxu1 v0 init X5 X7 X8 G9 G10 q hi k)
    · rw [made, dif_neg h]; exact made_live c i arg2 harg2 arg3 harg3 arg4 harg4 arg5 harg5 arg6 harg6 arg7 harg7 arg8 harg8 arg9 harg9 arg10 harg10 k0_mxu1 v0 init X5 X7 X8 G9 G10 q hi k

/-- The loop's invariant. -/
@[sl_loop] def loopInv_k0_t2 (c : Dev nD) (E : Set ℕ) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X_arg5 : BufTy.Contents (Elt F) arg5.view.ty) (X_arg7 : BufTy.Contents (Elt F) arg7.view.ty) (X_arg8 : BufTy.Contents (Elt F) arg8.view.ty)
    (G_arg9 : BufTy.Contents (Elt F) arg9.view.ty) (G_arg10 : BufTy.Contents (Elt F) arg10.view.ty) :
    Gen.LoopInvTy_k0_t2 (F := F) Unit ℕ (UR sig nD τ) ℕ Variants.none c none E i arg2 harg2 arg3 harg3 arg4 harg4 arg5 harg5 arg6 harg6 arg7 harg7 arg8 harg8 arg9 harg9 arg10 harg10 k0_mxu1 v0 init where
  inv k acc := iprop((arg5.view.loc (c : Thread nD τ) ↦[arg5.view.set]{fullShare} X_arg5) ∗ (arg7.view.loc (c : Thread nD τ) ↦[arg7.view.set]{fullShare} X_arg7)
    ∗ (arg8.view.loc (c : Thread nD τ) ↦[arg8.view.set]{fullShare} X_arg8)
    ∗ (∃ f, (arg9.view.loc (c : Thread nD τ) ↦[arg9.view.set]{fullShare} f) ∗ ⌜f = arg9.view.writes (Elt F) G_arg9 (made (F := F) c i arg2 harg2 arg3 harg3 arg4 harg4 arg5 harg5 arg6 harg6 arg7 harg7 arg8 harg8 arg9 harg9 arg10 harg10 k0_mxu1 v0 init X_arg5 X_arg7 X_arg8 G_arg9 G_arg10 k).L9⌝)
    ∗ (∃ f, (arg10.view.loc (c : Thread nD τ) ↦[arg10.view.set]{fullShare} f) ∗ ⌜f = arg10.view.writes (Elt F) G_arg10 (made (F := F) c i arg2 harg2 arg3 harg3 arg4 harg4 arg5 harg5 arg6 harg6 arg7 harg7 arg8 harg8 arg9 harg9 arg10 harg10 k0_mxu1 v0 init X_arg5 X_arg7 X_arg8 G_arg9 G_arg10 k).L10⌝)
    ∗ ⌜acc = (made (F := F) c i arg2 harg2 arg3 harg3 arg4 harg4 arg5 harg5 arg6 harg6 arg7 harg7 arg8 harg8 arg9 harg9 arg10 harg10 k0_mxu1 v0 init X_arg5 X_arg7 X_arg8 G_arg9 G_arg10 k).carry⌝)
  step k acc := by
    iintro ⟨H5, H7, H8, ⟨%f9, H9, %h9⟩, ⟨%f10, H10, %h10⟩, %ha⟩
    subst h9 h10 ha
    iapply (wp_wand_r Idealize.ShloMosaic.frame (wpE (defs₀ (F := F)) Variants.none (c : Thread nD τ) none) E)
    isplitl [H5 H7 H8 H9 H10]
    · iapply ((trip (F := F) c i arg2 harg2 arg3 harg3 arg4 harg4 arg5 harg5 arg6 harg6 arg7 harg7 arg8 harg8 arg9 harg9 arg10 harg10 k0_mxu1 v0 X_arg5 X_arg7 X_arg8 _ _ k _ _ _ _ _ _ _ _ _).2.2.2.1 E)
      isplitl [H5]; · iexact H5
      isplitl [H7]; · iexact H7
      isplitl [H8]; · iexact H8
      isplitl [H9]; · iexact H9
      iexact H10
    · iintro %r ⟨%hr, H5, H7, H8, H9, H10⟩
      rw [made_succ]
      isplitl [H5]; · iexact H5
      isplitl [H7]; · iexact H7
      isplitl [H8]; · iexact H8
      isplitl [H9]
      · iexists _; isplitl [H9]; · iexact H9
        ipureintro; exact (View.writes_append ..).symm
      isplitl [H10]
      · iexists _; isplitl [H10]; · iexact H10
        ipureintro; exact (View.writes_append ..).symm
      ipureintro; exact hr

end Cert.Proof.KernelIdeal

end
-- ==== Proof.BodyI.lean ====
module

public import proofs.«01_k».proof.Proof.LoopI

@[expose] public section

set_option maxRecDepth 16384
set_option maxHeartbeats 20000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that is not the last of its chunk. -/
@[irreducible] def runRest (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : ¬ k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    { L10 : List (View.Piece (Elt F) S41x8x128 .f32) // ∀ E : Set ℕ,
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) E (cc0_dense_softplus (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} (arg10.view.writes (Elt F) f10 L10)))) } := by
  refine ⟨?_, fun E => ?run⟩
  case run =>
    simp only [cc0_dense_softplus_eq_skeleton]; unfold cc0_dense_softplus_skel
    iintro ⟨H2, H3, H4, H5, H6, H7, H8, H9, H10⟩
    sl_exec_parts (disch := (first | exact Option.isSome_some | mxu_pushok_peel))
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexact H10

/-- The body at the last point of a chunk: it also writes the chunk's sums out. -/
@[irreducible] def runLast (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    Σ' (L6 : List (View.Piece (Elt F) S1x32x640 .f32)), { L10 : List (View.Piece (Elt F) S41x8x128 .f32) // ∀ E : Set ℕ,
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄)
      ⊢ wp frame (wpE (defs₀ (F := F)) Variants.none (c : Thread nD τ) none) E (cc0_dense_softplus (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} (arg6.view.writes (Elt F) f6 L6)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} (arg10.view.writes (Elt F) f10 L10)))) } := by
  refine ⟨?_, ?_, fun E => ?run⟩
  case run =>
    simp only [cc0_dense_softplus_eq_skeleton]; unfold cc0_dense_softplus_skel
    iintro ⟨H2, H3, H4, H5, H6, H7, H8, H9, H10⟩
    sl_exec_parts (disch := (first | exact Option.isSome_some | mxu_pushok_peel))
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexact H10

end Cert.Proof.KernelIdeal

end
-- ==== Proof.FrameI.lean ====
module

public import proofs.«01_k».proof.Proof.BodyI

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body hands the inputs back as they were, and the result's block and its own buffers at something. -/
theorem sound_kernel (c : Dev nD) (E : Set ℕ) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (x2 : Vec F S2048x256 .i8) (x3 : Vec F S4x16x128 .bf16) (x4 : Vec F S2x8x128 .f32) (x5 : Vec F S40x256x512 .i32) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ ((iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))) : sProp 𝕄) -∗ K ⟨⟩)) : sProp 𝕄)
      ⊢ wp frame (wpE (defs₀ (F := F)) Variants.none (c : Thread nD τ) none) E (cc0_dense_softplus (F := F) i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%d6, %f6, -, H6⟩, ⟨%f7, H7⟩, ⟨%f8, H8⟩, ⟨%f9, H9⟩, ⟨%f10, H10⟩, Hk⟩
  by_cases hc : k0_cond1 i = 1#1
  · iapply (wp_wand_r Idealize.ShloMosaic.frame (wpE (defs₀ (F := F)) Variants.none (c : Thread nD τ) none) E)
    isplitl [H2 H3 H4 H5 H6 H7 H8 H9 H10]
    · iapply ((runLast (F := F) c i arg2 harg2 arg3 harg3 arg4 harg4 arg5 harg5 arg6 harg6 arg7 harg7 arg8 harg8 arg9 harg9 arg10 harg10 hc f2 f3 f4 f5 f6 f7 f8 f9 f10).2.2 E)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro %_ ⟨H2, H3, H4, H5, H6, ⟨%g7, H7⟩, ⟨%g8, H8⟩, ⟨%g9, H9⟩, H10⟩
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]
    · iexists _, _; isplitr; swap; · iexact H6
      ipureintro; rfl
    isplitl [H7]; · iexists _; iexact H7
    isplitl [H8]; · iexists _; iexact H8
    isplitl [H9]; · iexists _; iexact H9
    iexists _; iexact H10
  · iapply (wp_wand_r Idealize.ShloMosaic.frame (wpE (defs₀ (F := F)) Variants.none (c : Thread nD τ) none) E)
    isplitl [H2 H3 H4 H5 H6 H7 H8 H9 H10]
    · iapply ((runRest (F := F) c i arg2 harg2 arg3 harg3 arg4 harg4 arg5 harg5 arg6 harg6 arg7 harg7 arg8 harg8 arg9 harg9 arg10 harg10 hc f2 f3 f4 f5 f6 f7 f8 f9 f10).2 E)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro %_ ⟨H2, H3, H4, H5, H6, ⟨%g7, H7⟩, ⟨%g8, H8⟩, ⟨%g9, H9⟩, H10⟩
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]
    · iexists _, _; isplitr; swap; · iexact H6
      ipureintro; rfl
    isplitl [H7]; · iexists _; iexact H7
    isplitl [H8]; · iexists _; iexact H8
    isplitl [H9]; · iexists _; iexact H9
    iexists _; iexact H10

/-- The result's window is not described here. -/
def forgets0 : Fin 5 → Bool := fun | 0 => false | 1 => false | 2 => false | 3 => false | 4 => true | ⟨_ + 5, h⟩ => absurd h (Nat.not_lt.2 (Nat.le_add_left _ _))

/-- The pipeline's data: the arrays as the region finds them, the inputs' buffers at their blocks, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- The scratch, buffer by buffer. -/
theorem PhiA_eq (c : Dev nD) :
    (Pipeline.ΦA spec0 c : sProp 𝕄) = iprop(iprop((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f))) ∗ (∃ r, prngReg c r)) := by
  unfold Pipeline.ΦA
  rw [scopedRest0_eq]
  simp only [Memref.view_whole, View.set_whole]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, PhiA_eq]
  iintro ⟨⟨⟨S0, S1, S2, S3⟩, Hg⟩, Ho, ⟨%d0, H0⟩, ⟨%d1, H1⟩, ⟨%d2, H2⟩, ⟨%d3, H3⟩, H4⟩
  iapply (sound_kernel c Set.univ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  iintro ⟨H0, H1, H2, H3, H4, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the implicit arguments are found by unifying the conclusion with this one, which takes unfolding plain definitions in a
-- metavariable's type
set_option backward.isDefEq.respectTransparency.types false in
/-- The launch: the arrays as the pipeline leaves them, and every semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(Pipeline.RDat.FramePost.arr_in h.1 c 3 rfl).trans ((A_eq m c 3).trans (V_main_arg0 m c)),
      (Pipeline.RDat.FramePost.arr_in h.1 c 0 rfl).trans ((A_eq m c 0).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof.KernelIdeal

end
-- ==== Proof.MxuRun.lean ====
/- What the two matrix units hold after a run of explicit operations, as a function of what was pushed and accumulated. The
   accumulators of one unit are sixteen blocks of 64 rows, every tile is bf16 and pushed as it stands. -/
module

public import Idealize.ShloMosaic.Lib.Mxu.Lemmas

@[expose] public section

noncomputable section

namespace Cert.Proof.MxuRun

open Idealize.ShloMosaic

variable {F : FTy → Type} [FloatOps F]

/-- A tile of a right operand, a block of a left operand, and a block of results. -/
abbrev TileV (F : FTy → Type) : Type := FVec F (Mxu.STile 256) .bf16
abbrev LhsV (F : FTy → Type) : Type := FVec F (Mxu.STile 64) .bf16
abbrev BlockV (F : FTy → Type) : Type := FVec F (Mxu.STile 64) .f32

/-- The tile as the unit keeps it. -/
abbrev stage (x : TileV F) : Mxu.Staged F := ⟨.bf16, false, x⟩

/-- One product of a block by a tile. -/
abbrev pass (l : LhsV F) (x : TileV F) : BlockV F := FloatOps.mxuPass (DotDims.plain 64 256 256) l x

/-- The contents of the units: per unit the sixteen blocks (`none`: nothing deposited since the last pop), the loaded tile,
    the two registers; and the blocks popped so far, the last first. -/
structure Abs (F : FTy → Type) where
  v : Fin 2 → Fin 16 → Option (BlockV F)
  t : Fin 2 → TileV F
  r : Fin 2 → Fin 2 → Option (TileV F)
  out : List (Option (BlockV F))

/-- A deposit. -/
def dep (o : Option (BlockV F)) (x : BlockV F) : BlockV F :=
  match o with
  | none => x
  | some e => addf e x

/-- One operation. -/
inductive Op (F : FTy → Type) where
  | push (q r : Fin 2) (x : TileV F)
  | accL (q r : Fin 2) (i : Fin 16) (l : LhsV F)
  | acc (q : Fin 2) (i : Fin 16) (l : LhsV F)
  | pop (q : Fin 2) (i : Fin 16)

/-- What an operation makes of the contents. -/
def step (a : Abs F) : Op F → Abs F
  | .push q r x => { a with r := fun q' r' => if q' = q ∧ r' = r then some ((a.r q r).getD x) else a.r q' r' }
  | .accL q r i l =>
    { a with
      v := fun q' j => if q' = q ∧ j = i then some (dep (a.v q i) (pass l ((a.r q r).getD (constant _ .bf16 0)))) else a.v q' j
      t := fun q' => if q' = q then (a.r q r).getD (constant _ .bf16 0) else a.t q'
      r := fun q' r' => if q' = q ∧ r' = r then none else a.r q' r' }
  | .acc q i l => { a with v := fun q' j => if q' = q ∧ j = i then some (dep (a.v q i) (pass l (a.t q))) else a.v q' j }
  | .pop q i => { a with v := fun q' j => if q' = q ∧ j = i then none else a.v q' j, out := a.v q i :: a.out }

theorem fits (i : Fin 16) : Mxu.Fits (16 * i.val) 64 := by have := i.isLt; unfold Mxu.Fits; omega

/-- The state `s`, after the blocks `ys` were popped (the last first), is as the contents `a` say. -/
structure Rep (s : Mxu F) (a : Abs F) (ys : List (BlockV F)) : Prop where
  live : ∀ q i (ρ : Fin 64), s.live q (Mxu.row (fits i) ρ) = (a.v q i).isSome
  read : ∀ q i x, a.v q i = some x → s.read q (16 * i.val) (fits i) = x
  slot : ∀ q x, s.gmr q = some x → x = stage (a.t q)
  regs : ∀ q r, s.reg q r = (a.r q r).map stage
  outs : List.Forall₂ (fun y o => ∀ x, o = some x → y = x) ys a.out

theorem row_ne {i j : Fin 16} (h : j ≠ i) (ρ : Fin 64) :
    ¬ (4 * (16 * i.val) ≤ (Mxu.row (fits j) ρ).val ∧ (Mxu.row (fits j) ρ).val < 4 * (16 * i.val) + 64) := by
  have := ρ.isLt; have : i.val ≠ j.val := fun e => h (Fin.ext e.symm); simp only [Mxu.row]; omega

theorem row_mem (i : Fin 16) (ρ : Fin 64) :
    4 * (16 * i.val) ≤ (Mxu.row (fits i) ρ).val ∧ (Mxu.row (fits i) ρ).val < 4 * (16 * i.val) + 64 := by
  have := ρ.isLt; simp only [Mxu.row]; omega

theorem apart {i j : Fin 16} (h : j ≠ i) : 4 * (16 * j.val) + 64 ≤ 4 * (16 * i.val) ∨ 4 * (16 * i.val) + 64 ≤ 4 * (16 * j.val) := by
  have : i.val ≠ j.val := fun e => h (Fin.ext e.symm); omega

variable {s : Mxu F} {a : Abs F} {ys : List (BlockV F)}

theorem Rep.push (h : Rep s a ys) (q r : Fin 2) (x : TileV F) {y : TileV F} (e : y = x) : Rep (s.pushed q r false y) (step a (.push q r x)) ys where
  live q' i ρ := by rw [Mxu.live_pushed]; exact h.live q' i ρ
  read q' i z e' := by rw [Mxu.read_pushed]; exact h.read q' i z e'
  slot q' z e' := by rw [Mxu.gmr_pushed] at e'; exact h.slot q' z e'
  outs := h.outs
  regs q' r' := by
    subst e
    have hr := h.regs q r
    dsimp only [step]
    by_cases hq : q' = q ∧ r' = r
    · obtain ⟨rfl, rfl⟩ := hq
      rw [if_pos ⟨rfl, rfl⟩]
      cases hv : a.r q' r' with
      | none =>
        rw [hv] at hr
        simp [Mxu.pushed, hr, stage]
      | some t =>
        rw [hv] at hr
        simp [Mxu.pushed, hr]
    · rw [Mxu.reg_pushed_ne _ _ _ _ _ _ _ hq, if_neg hq]
      exact h.regs q' r'

theorem Rep.accBy (h : Rep s a ys) (q : Fin 2) (i : Fin 16) (l : LhsV F) (t : TileV F) (q' : Fin 2) (j : Fin 16) (x : BlockV F)
    (e : (if q' = q ∧ j = i then some (dep (a.v q i) (pass l t)) else a.v q' j) = some x) :
    (s.accBy q (stage t) (16 * i.val) l (fits i)).read q' (16 * j.val) (fits j) = x := by
  by_cases hq : q' = q ∧ j = i
  · obtain ⟨rfl, rfl⟩ := hq
    rw [if_pos ⟨rfl, rfl⟩, Option.some.injEq] at e
    subst e
    cases hv : a.v q' j with
    | none => exact Mxu.read_accBy_of_not_live _ _ _ _ _ _ fun ρ => by rw [h.live, hv]; rfl
    | some y =>
      rw [Mxu.read_accBy_of_live _ _ _ _ _ _ fun ρ => by rw [h.live, hv]; rfl, h.read _ _ _ hv]
      rfl
  · rw [if_neg hq] at e
    rw [Mxu.read_accBy_ne, h.read _ _ _ e]
    by_cases hq' : q' = q
    · exact .inr (apart fun hj => hq ⟨hq', hj⟩)
    · exact .inl hq'

theorem Rep.liveBy (h : Rep s a ys) (q : Fin 2) (i : Fin 16) (y : BlockV F) (q' : Fin 2) (j : Fin 16) (ρ : Fin 64) :
    (if q' = q ∧ 4 * (16 * i.val) ≤ (Mxu.row (fits j) ρ).val ∧ (Mxu.row (fits j) ρ).val < 4 * (16 * i.val) + 64 then true
      else s.live q' (Mxu.row (fits j) ρ)) = (if q' = q ∧ j = i then some y else a.v q' j).isSome := by
  by_cases hq : q' = q ∧ j = i
  · obtain ⟨rfl, rfl⟩ := hq
    rw [if_pos ⟨rfl, row_mem _ _⟩, if_pos ⟨rfl, rfl⟩]; rfl
  · rw [if_neg hq, if_neg, h.live]
    rintro ⟨rfl, h'⟩
    exact row_ne (fun e => hq ⟨rfl, e⟩) _ h'

theorem Rep.accL (h : Rep s a ys) (q r : Fin 2) (i : Fin 16) (l : LhsV F) {A : Nat} (hA : A = 16 * i.val) (hf : Mxu.Fits A 64) :
    Rep (s.accLhs q r A l hf) (step a (.accL q r i l)) ys := by
  subst hA
  have hst : s.staged q r = stage ((a.r q r).getD (constant _ .bf16 0)) := by
    rw [Mxu.staged_eq, h.regs]; cases a.r q r <;> rfl
  refine ⟨fun q' j ρ => ?_, fun q' j x e => ?_, fun q' x e => ?_, fun q' r' => ?_, h.outs⟩
  · rw [Mxu.live_accLhs]; exact h.liveBy q i _ q' j ρ
  · rw [Mxu.read_accLhs_eq_accBy, hst]; exact h.accBy q i l _ q' j x e
  · dsimp only [step]
    by_cases hq : q' = q
    · subst hq
      rw [Mxu.gmr_accLhs, Option.some.injEq] at e
      rw [if_pos rfl, ← e, hst]
    · rw [Mxu.gmr_accLhs_ne _ _ _ _ _ _ _ hq] at e
      rw [if_neg hq]; exact h.slot q' x e
  · dsimp only [step]
    by_cases hq : q' = q ∧ r' = r
    · obtain ⟨rfl, rfl⟩ := hq
      rw [Mxu.reg_accLhs, if_pos ⟨rfl, rfl⟩]; rfl
    · rw [Mxu.reg_accLhs_ne _ _ _ _ _ _ _ _ hq, if_neg hq]; exact h.regs q' r'

theorem Rep.acc (h : Rep s a ys) (q : Fin 2) (i : Fin 16) (l : LhsV F) {A : Nat} (hA : A = 16 * i.val) (hf : Mxu.Fits A 64)
    (hs : (s.gmr q).isSome = true) : Rep (s.accBy q ((s.gmr q).get hs) A l hf) (step a (.acc q i l)) ys := by
  subst hA
  have hst : (s.gmr q).get hs = stage (a.t q) := h.slot q _ (Option.some_get hs).symm
  rw [hst]
  exact ⟨fun q' j ρ => by rw [Mxu.live_accBy]; exact h.liveBy q i _ q' j ρ, fun q' j x e => h.accBy q i l _ q' j x e, h.slot, h.regs, h.outs⟩

theorem Rep.pop (h : Rep s a ys) (q : Fin 2) (i : Fin 16) {A : Nat} (hA : A = 16 * i.val) (hf : Mxu.Fits A 64) :
    Rep (s.pop q A 64 hf) (step a (.pop q i)) (s.read q A hf :: ys) := by
  subst hA
  refine ⟨fun q' j ρ => ?_, fun q' j x e => ?_, h.slot, h.regs, .cons (fun x e => h.read q i x e) h.outs⟩
  · rw [Mxu.live_pop]
    dsimp only [step]
    by_cases hq : q' = q ∧ j = i
    · obtain ⟨rfl, rfl⟩ := hq
      rw [if_pos ⟨rfl, row_mem _ _⟩, if_pos ⟨rfl, rfl⟩]; rfl
    · rw [if_neg hq, if_neg, h.live]
      rintro ⟨rfl, h'⟩
      exact row_ne (fun e => hq ⟨rfl, e⟩) _ h'
  · dsimp only [step] at e
    by_cases hq : q' = q ∧ j = i
    · rw [if_pos hq] at e; exact absurd e (by simp)
    · rw [if_neg hq] at e
      rw [Mxu.read_pop_ne, h.read _ _ _ e]
      by_cases hq' : q' = q
      · exact .inr (apart fun hj => hq ⟨hq', hj⟩)
      · exact .inl hq'

theorem rep_init : Rep (Mxu.init : Mxu F) ⟨fun _ _ => none, fun _ => constant _ .bf16 0, fun _ _ => none, []⟩ [] :=
  ⟨fun _ _ _ => rfl, fun _ _ _ e => by simp at e, fun _ _ e => by simp at e, fun _ _ => rfl, .nil⟩

end Cert.Proof.MxuRun

end
-- ==== Proof.TraceI.lean ====
/- The matrix units through one trip of the loop over the row blocks: which tiles are pushed, which blocks are accumulated, and the
   blocks popped, by name. -/
module

public import proofs.«01_k».proof.Proof.TripI
public import proofs.«01_k».proof.Proof.MxuRun

@[expose] public section

set_option maxRecDepth 16384
set_option maxHeartbeats 4000000

noncomputable section

namespace Cert.Proof.KernelIdeal

open Cert.KernelIdeal Cert.KernelIdeal.Gen Cert.Proof.MxuRun
open Idealize.ShloMosaic Idealize.ShloMosaic.TcCoe

variable {F : FTy → Type} [FloatOps F]

theorem lhs_inb (sb : Fin 8) (h : Fin 2) (p : Fin 4) :
    ∀ a, (![128 * sb.val + 32 * p.val, 0, 256 * h.val] : Fin 3 → Nat) a + S32x2x256.size a ≤ S1024x2x512.size a := by decide +revert

/-- The left operand of labels `256 sb + 64 p …` and half `h` of the features. -/
def lhs (arg7 : Memref sig .tc .vmem S1024x2x512 .bf16) (X7 : BufTy.Contents (Elt F) arg7.view.ty) (sb : Fin 8) (h : Fin 2) (p : Fin 4) : LhsV F :=
  k0_pay275 (View.readAt (Elt F) arg7.view (Rect.unit (s := S1024x2x512) ![128 * sb.val + 32 * p.val, 0, 256 * h.val] S32x2x256.size (lhs_inb sb h p)).toLoadRect X7)

/-- The tile read at `off`. -/
def tileAt (arg5 : Memref sig .tc .vmem S40x256x512 .i32) (X5 : BufTy.Contents (Elt F) arg5.view.ty) (off : Fin 3 → Nat)
    (hoff : ∀ a, off a + S1x128x256.size a ≤ S40x256x512.size a) : TileV F :=
  k0_pay279 (View.readAt (Elt F) arg5.view (Rect.unit (s := S40x256x512) off S1x128x256.size hoff).toLoadRect X5)

theorem tileAt_eq (arg5 : Memref sig .tc .vmem S40x256x512 .i32) (X5 : BufTy.Contents (Elt F) arg5.view.ty) {off off' : Fin 3 → Nat}
    (hoff' : ∀ a, off' a + S1x128x256.size a ≤ S40x256x512.size a) (hoff : ∀ a, off a + S1x128x256.size a ≤ S40x256x512.size a)
    (e : off = off') : tileAt arg5 X5 off hoff = tileAt arg5 X5 off' hoff' := by subst e; rfl

theorem tile_inb (r : Fin 40) (h q : Fin 2) :
    ∀ a, (![r.val, 128 * h.val, 256 * q.val] : Fin 3 → Nat) a + S1x128x256.size a ≤ S40x256x512.size a := by decide +revert

/-- The tile of row block `r`, half `h` of the features, unit `q`. -/
def tile (arg5 : Memref sig .tc .vmem S40x256x512 .i32) (X5 : BufTy.Contents (Elt F) arg5.view.ty) (r : Fin 40) (h q : Fin 2) : TileV F :=
  tileAt arg5 X5 ![r.val, 128 * h.val, 256 * q.val] (tile_inb r h q)

/-- The row block of trip `k`, and the one after it. -/
def now (k : Fin k0_t2_loop.trips) : Fin 40 := ⟨k.val, Nat.lt_of_lt_of_le k.isLt k0_t2_abs.2.1⟩
def next (k : Fin k0_t2_loop.trips) : Fin 40 := ⟨min (k.val + 1) 39, by omega⟩

/-- The operations of a trip. -/
def tripOps (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips) : List (Op F) :=
  [.accL 0 0 0 (lhs arg7 X7 0 0 0), .accL 1 0 0 (lhs arg7 X7 0 0 0), .acc 0 1 (lhs arg7 X7 0 0 1), .acc 1 1 (lhs arg7 X7 0 0 1),
   .acc 0 2 (lhs arg7 X7 0 0 2), .acc 1 2 (lhs arg7 X7 0 0 2), .acc 0 3 (lhs arg7 X7 0 0 3), .acc 1 3 (lhs arg7 X7 0 0 3),
   .push 0 0 (tile arg5 X5 (now k) 0 0), .push 1 0 (tile arg5 X5 (now k) 0 1), .accL 0 1 0 (lhs arg7 X7 0 1 0), .accL 1 1 0 (lhs arg7 X7 0 1 0),
   .acc 0 1 (lhs arg7 X7 0 1 1), .acc 1 1 (lhs arg7 X7 0 1 1), .acc 0 2 (lhs arg7 X7 0 1 2), .acc 1 2 (lhs arg7 X7 0 1 2),
   .acc 0 3 (lhs arg7 X7 0 1 3), .acc 1 3 (lhs arg7 X7 0 1 3), .push 0 1 (tile arg5 X5 (now k) 1 0), .push 1 1 (tile arg5 X5 (now k) 1 1),
   .pop 0 12, .pop 1 12, .pop 0 13, .pop 1 13,
   .pop 0 14, .pop 1 14, .pop 0 15, .pop 1 15,
   .acc 0 4 (lhs arg7 X7 1 1 0), .acc 1 4 (lhs arg7 X7 1 1 0), .acc 0 5 (lhs arg7 X7 1 1 1), .acc 1 5 (lhs arg7 X7 1 1 1),
   .acc 0 6 (lhs arg7 X7 1 1 2), .acc 1 6 (lhs arg7 X7 1 1 2), .acc 0 7 (lhs arg7 X7 1 1 3), .acc 1 7 (lhs arg7 X7 1 1 3),
   .accL 0 0 4 (lhs arg7 X7 1 0 0), .accL 1 0 4 (lhs arg7 X7 1 0 0), .acc 0 5 (lhs arg7 X7 1 0 1), .acc 1 5 (lhs arg7 X7 1 0 1),
   .acc 0 6 (lhs arg7 X7 1 0 2), .acc 1 6 (lhs arg7 X7 1 0 2), .acc 0 7 (lhs arg7 X7 1 0 3), .acc 1 7 (lhs arg7 X7 1 0 3),
   .push 0 0 (tile arg5 X5 (now k) 0 0), .push 1 0 (tile arg5 X5 (now k) 0 1), .pop 0 0, .pop 1 0,
   .pop 0 1, .pop 1 1, .pop 0 2, .pop 1 2,
   .pop 0 3, .pop 1 3, .acc 0 8 (lhs arg7 X7 2 0 0), .acc 1 8 (lhs arg7 X7 2 0 0),
   .acc 0 9 (lhs arg7 X7 2 0 1), .acc 1 9 (lhs arg7 X7 2 0 1), .acc 0 10 (lhs arg7 X7 2 0 2), .acc 1 10 (lhs arg7 X7 2 0 2),
   .acc 0 11 (lhs arg7 X7 2 0 3), .acc 1 11 (lhs arg7 X7 2 0 3), .accL 0 1 8 (lhs arg7 X7 2 1 0), .accL 1 1 8 (lhs arg7 X7 2 1 0),
   .acc 0 9 (lhs arg7 X7 2 1 1), .acc 1 9 (lhs arg7 X7 2 1 1), .acc 0 10 (lhs arg7 X7 2 1 2), .acc 1 10 (lhs arg7 X7 2 1 2),
   .acc 0 11 (lhs arg7 X7 2 1 3), .acc 1 11 (lhs arg7 X7 2 1 3), .push 0 1 (tile arg5 X5 (now k) 1 0), .push 1 1 (tile arg5 X5 (now k) 1 1),
   .pop 0 4, .pop 1 4, .pop 0 5, .pop 1 5,
   .pop 0 6, .pop 1 6, .pop 0 7, .pop 1 7,
   .acc 0 12 (lhs arg7 X7 3 1 0), .acc 1 12 (lhs arg7 X7 3 1 0), .acc 0 13 (lhs arg7 X7 3 1 1), .acc 1 13 (lhs arg7 X7 3 1 1),
   .acc 0 14 (lhs arg7 X7 3 1 2), .acc 1 14 (lhs arg7 X7 3 1 2), .acc 0 15 (lhs arg7 X7 3 1 3), .acc 1 15 (lhs arg7 X7 3 1 3),
   .accL 0 0 12 (lhs arg7 X7 3 0 0), .accL 1 0 12 (lhs arg7 X7 3 0 0), .acc 0 13 (lhs arg7 X7 3 0 1), .acc 1 13 (lhs arg7 X7 3 0 1),
   .acc 0 14 (lhs arg7 X7 3 0 2), .acc 1 14 (lhs arg7 X7 3 0 2), .acc 0 15 (lhs arg7 X7 3 0 3), .acc 1 15 (lhs arg7 X7 3 0 3),
   .push 0 0 (tile arg5 X5 (now k) 0 0), .push 1 0 (tile arg5 X5 (now k) 0 1), .pop 0 8, .pop 1 8,
   .pop 0 9, .pop 1 9, .pop 0 10, .pop 1 10,
   .pop 0 11, .pop 1 11, .acc 0 0 (lhs arg7 X7 4 0 0), .acc 1 0 (lhs arg7 X7 4 0 0),
   .acc 0 1 (lhs arg7 X7 4 0 1), .acc 1 1 (lhs arg7 X7 4 0 1), .acc 0 2 (lhs arg7 X7 4 0 2), .acc 1 2 (lhs arg7 X7 4 0 2),
   .acc 0 3 (lhs arg7 X7 4 0 3), .acc 1 3 (lhs arg7 X7 4 0 3), .accL 0 1 0 (lhs arg7 X7 4 1 0), .accL 1 1 0 (lhs arg7 X7 4 1 0),
   .acc 0 1 (lhs arg7 X7 4 1 1), .acc 1 1 (lhs arg7 X7 4 1 1), .acc 0 2 (lhs arg7 X7 4 1 2), .acc 1 2 (lhs arg7 X7 4 1 2),
   .acc 0 3 (lhs arg7 X7 4 1 3), .acc 1 3 (lhs arg7 X7 4 1 3), .push 0 1 (tile arg5 X5 (now k) 1 0), .push 1 1 (tile arg5 X5 (now k) 1 1),
   .pop 0 12, .pop 1 12, .pop 0 13, .pop 1 13,
   .pop 0 14, .pop 1 14, .pop 0 15, .pop 1 15,
   .acc 0 4 (lhs arg7 X7 5 1 0), .acc 1 4 (lhs arg7 X7 5 1 0), .acc 0 5 (lhs arg7 X7 5 1 1), .acc 1 5 (lhs arg7 X7 5 1 1),
   .acc 0 6 (lhs arg7 X7 5 1 2), .acc 1 6 (lhs arg7 X7 5 1 2), .acc 0 7 (lhs arg7 X7 5 1 3), .acc 1 7 (lhs arg7 X7 5 1 3),
   .accL 0 0 4 (lhs arg7 X7 5 0 0), .accL 1 0 4 (lhs arg7 X7 5 0 0), .acc 0 5 (lhs arg7 X7 5 0 1), .acc 1 5 (lhs arg7 X7 5 0 1),
   .acc 0 6 (lhs arg7 X7 5 0 2), .acc 1 6 (lhs arg7 X7 5 0 2), .acc 0 7 (lhs arg7 X7 5 0 3), .acc 1 7 (lhs arg7 X7 5 0 3),
   .push 0 0 (tile arg5 X5 (now k) 0 0), .push 1 0 (tile arg5 X5 (now k) 0 1), .pop 0 0, .pop 1 0,
   .pop 0 1, .pop 1 1, .pop 0 2, .pop 1 2,
   .pop 0 3, .pop 1 3, .acc 0 8 (lhs arg7 X7 6 0 0), .acc 1 8 (lhs arg7 X7 6 0 0),
   .acc 0 9 (lhs arg7 X7 6 0 1), .acc 1 9 (lhs arg7 X7 6 0 1), .acc 0 10 (lhs arg7 X7 6 0 2), .acc 1 10 (lhs arg7 X7 6 0 2),
   .acc 0 11 (lhs arg7 X7 6 0 3), .acc 1 11 (lhs arg7 X7 6 0 3), .accL 0 1 8 (lhs arg7 X7 6 1 0), .accL 1 1 8 (lhs arg7 X7 6 1 0),
   .acc 0 9 (lhs arg7 X7 6 1 1), .acc 1 9 (lhs arg7 X7 6 1 1), .acc 0 10 (lhs arg7 X7 6 1 2), .acc 1 10 (lhs arg7 X7 6 1 2),
   .acc 0 11 (lhs arg7 X7 6 1 3), .acc 1 11 (lhs arg7 X7 6 1 3), .push 0 1 (tile arg5 X5 (next k) 1 0), .push 1 1 (tile arg5 X5 (next k) 1 1),
   .pop 0 4, .pop 1 4, .pop 0 5, .pop 1 5,
   .pop 0 6, .pop 1 6, .pop 0 7, .pop 1 7,
   .acc 0 12 (lhs arg7 X7 7 1 0), .acc 1 12 (lhs arg7 X7 7 1 0), .acc 0 13 (lhs arg7 X7 7 1 1), .acc 1 13 (lhs arg7 X7 7 1 1),
   .acc 0 14 (lhs arg7 X7 7 1 2), .acc 1 14 (lhs arg7 X7 7 1 2), .acc 0 15 (lhs arg7 X7 7 1 3), .acc 1 15 (lhs arg7 X7 7 1 3),
   .accL 0 0 12 (lhs arg7 X7 7 0 0), .accL 1 0 12 (lhs arg7 X7 7 0 0), .acc 0 13 (lhs arg7 X7 7 0 1), .acc 1 13 (lhs arg7 X7 7 0 1),
   .acc 0 14 (lhs arg7 X7 7 0 2), .acc 1 14 (lhs arg7 X7 7 0 2), .acc 0 15 (lhs arg7 X7 7 0 3), .acc 1 15 (lhs arg7 X7 7 0 3),
   .push 0 0 (tile arg5 X5 (next k) 0 0), .push 1 0 (tile arg5 X5 (next k) 0 1), .pop 0 8, .pop 1 8,
   .pop 0 9, .pop 1 9, .pop 0 10, .pop 1 10,
   .pop 0 11, .pop 1 11]

/-- The blocks a trip pops, the last first. -/
def tripPops (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips) (s : Mxu F) : List (BlockV F) :=
  [trip.sl.v8507_r0 arg5 arg7 X5 X7 k s, trip.sl.v8503_r0 arg5 arg7 X5 X7 k s, trip.sl.v8499_r0 arg5 arg7 X5 X7 k s, trip.sl.v8495_r0 arg5 arg7 X5 X7 k s, trip.sl.v8491_r0 arg5 arg7 X5 X7 k s, trip.sl.v8487_r0 arg5 arg7 X5 X7 k s, trip.sl.v8483_r0 arg5 arg7 X5 X7 k s, trip.sl.v8479_r0 arg5 arg7 X5 X7 k s, trip.sl.v8358_r0 arg5 arg7 X5 X7 k s, trip.sl.v8277_r0 arg5 arg7 X5 X7 k s, trip.sl.v8195_r0 arg5 arg7 X5 X7 k s, trip.sl.v8114_r0 arg5 arg7 X5 X7 k s, trip.sl.v8032_r0 arg5 arg7 X5 X7 k s, trip.sl.v7951_r0 arg5 arg7 X5 X7 k s, trip.sl.v7869_r0 arg5 arg7 X5 X7 k s, trip.sl.v7788_r0 arg5 arg7 X5 X7 k s, trip.sl.v7682_r0 arg5 arg7 X5 X7 k s, trip.sl.v7601_r0 arg5 arg7 X5 X7 k s, trip.sl.v7519_r0 arg5 arg7 X5 X7 k s, trip.sl.v7438_r0 arg5 arg7 X5 X7 k s, trip.sl.v7356_r0 arg5 arg7 X5 X7 k s, trip.sl.v7275_r0 arg5 arg7 X5 X7 k s, trip.sl.v7195_r0 arg5 arg7 X5 X7 k s, trip.sl.v7116_r0 arg5 arg7 X5 X7 k s, trip.sl.v6994_r0 arg5 arg7 X5 X7 k s, trip.sl.v6913_r0 arg5 arg7 X5 X7 k s, trip.sl.v6831_r0 arg5 arg7 X5 X7 k s, trip.sl.v6750_r0 arg5 arg7 X5 X7 k s, trip.sl.v6668_r0 arg5 arg7 X5 X7 k s, trip.sl.v6587_r0 arg5 arg7 X5 X7 k s, trip.sl.v6505_r0 arg5 arg7 X5 X7 k s, trip.sl.v6424_r0 arg5 arg7 X5 X7 k s, trip.sl.v6318_r0 arg5 arg7 X5 X7 k s, trip.sl.v6237_r0 arg5 arg7 X5 X7 k s, trip.sl.v6155_r0 arg5 arg7 X5 X7 k s, trip.sl.v6074_r0 arg5 arg7 X5 X7 k s, trip.sl.v5992_r0 arg5 arg7 X5 X7 k s, trip.sl.v5911_r0 arg5 arg7 X5 X7 k s, trip.sl.v5831_r0 arg5 arg7 X5 X7 k s, trip.sl.v5752_r0 arg5 arg7 X5 X7 k s, trip.sl.v5634_r0 arg5 arg7 X5 X7 k s, trip.sl.v5553_r0 arg5 arg7 X5 X7 k s, trip.sl.v5471_r0 arg5 arg7 X5 X7 k s, trip.sl.v5390_r0 arg5 arg7 X5 X7 k s, trip.sl.v5308_r0 arg5 arg7 X5 X7 k s, trip.sl.v5227_r0 arg5 arg7 X5 X7 k s, trip.sl.v5145_r0 arg5 arg7 X5 X7 k s, trip.sl.v5064_r0 arg5 arg7 X5 X7 k s, trip.sl.v4958_r0 arg5 arg7 X5 X7 k s, trip.sl.v4877_r0 arg5 arg7 X5 X7 k s, trip.sl.v4795_r0 arg5 arg7 X5 X7 k s, trip.sl.v4714_r0 arg5 arg7 X5 X7 k s, trip.sl.v4632_r0 arg5 arg7 X5 X7 k s, trip.sl.v4551_r0 arg5 arg7 X5 X7 k s, trip.sl.v4473_r0 arg5 arg7 X5 X7 k s, trip.sl.v4396_r0 arg5 arg7 X5 X7 k s, trip.sl.v4214_r0 arg5 arg7 X5 X7 k s, trip.sl.v4133_r0 arg5 arg7 X5 X7 k s, trip.sl.v4051_r0 arg5 arg7 X5 X7 k s, trip.sl.v3970_r0 arg5 arg7 X5 X7 k s, trip.sl.v3888_r0 arg5 arg7 X5 X7 k s, trip.sl.v3807_r0 arg5 arg7 X5 X7 k s, trip.sl.v3725_r0 arg5 arg7 X5 X7 k s, trip.sl.v3644_r0 arg5 arg7 X5 X7 k s]

theorem trip_rep (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips) (s : Mxu F)
    {a : Abs F} {ys : List (BlockV F)} (h : Rep s a ys) :
    Rep (trip.sl.k0_mxu217 arg5 arg7 X5 X7 k s) ((tripOps arg5 arg7 X5 X7 k).foldl step a) (tripPops arg5 arg7 X5 X7 k s ++ ys) := by
  have h : Rep (trip.sl.k0_mxu8 arg7 X7 s) _ _ := h.accL 0 0 0 (lhs arg7 X7 0 0 0) rfl _
  have h : Rep (trip.sl.k0_mxu9 arg7 X7 s) _ _ := h.accL 1 0 0 (lhs arg7 X7 0 0 0) rfl _
  have h : Rep (trip.sl.r arg7 X7 s) _ _ := h.acc 0 1 (lhs arg7 X7 0 0 1) rfl _ _
  have h : Rep (trip.sl.r_1 arg7 X7 s) _ _ := h.acc 1 1 (lhs arg7 X7 0 0 1) rfl _ _
  have h : Rep (trip.sl.r_2 arg7 X7 s) _ _ := h.acc 0 2 (lhs arg7 X7 0 0 2) rfl _ _
  have h : Rep (trip.sl.r_3 arg7 X7 s) _ _ := h.acc 1 2 (lhs arg7 X7 0 0 2) rfl _ _
  have h : Rep (trip.sl.r_4 arg7 X7 s) _ _ := h.acc 0 3 (lhs arg7 X7 0 0 3) rfl _ _
  have h : Rep (trip.sl.r_5 arg7 X7 s) _ _ := h.acc 1 3 (lhs arg7 X7 0 0 3) rfl _ _
  have h : Rep (trip.sl.r_6 arg5 arg7 X5 X7 k s) _ _ := h.push 0 0 (tile arg5 X5 (now k) 0 0) (tileAt_eq arg5 X5 _ (k0_off8_inb k) (k0_off8_eq k))
  have h : Rep (trip.sl.r_7 arg5 arg7 X5 X7 k s) _ _ := h.push 1 0 (tile arg5 X5 (now k) 0 1) (tileAt_eq arg5 X5 _ (k0_off9_inb k) (k0_off9_eq k))
  have h : Rep (trip.sl.k0_mxu18 arg5 arg7 X5 X7 k s) _ _ := h.accL 0 1 0 (lhs arg7 X7 0 1 0) rfl _
  have h : Rep (trip.sl.k0_mxu19 arg5 arg7 X5 X7 k s) _ _ := h.accL 1 1 0 (lhs arg7 X7 0 1 0) rfl _
  have h : Rep (trip.sl.r_8 arg5 arg7 X5 X7 k s) _ _ := h.acc 0 1 (lhs arg7 X7 0 1 1) rfl _ _
  have h : Rep (trip.sl.r_9 arg5 arg7 X5 X7 k s) _ _ := h.acc 1 1 (lhs arg7 X7 0 1 1) rfl _ _
  have h : Rep (trip.sl.r_10 arg5 arg7 X5 X7 k s) _ _ := h.acc 0 2 (lhs arg7 X7 0 1 2) rfl _ _
  have h : Rep (trip.sl.r_11 arg5 arg7 X5 X7 k s) _ _ := h.acc 1 2 (lhs arg7 X7 0 1 2) rfl _ _
  have h : Rep (trip.sl.r_12 arg5 arg7 X5 X7 k s) _ _ := h.acc 0 3 (lhs arg7 X7 0 1 3) rfl _ _
  have h : Rep (trip.sl.r_13 arg5 arg7 X5 X7 k s) _ _ := h.acc 1 3 (lhs arg7 X7 0 1 3) rfl _ _
  have h : Rep (trip.sl.r_14 arg5 arg7 X5 X7 k s) _ _ := h.push 0 1 (tile arg5 X5 (now k) 1 0) (tileAt_eq arg5 X5 _ (k0_off10_inb k) (k0_off10_eq k))
  have h : Rep (trip.sl.r_15 arg5 arg7 X5 X7 k s) _ _ := h.push 1 1 (tile arg5 X5 (now k) 1 1) (tileAt_eq arg5 X5 _ (k0_off11_inb k) (k0_off11_eq k))
  have h : Rep (trip.sl.k0_mxu28 arg5 arg7 X5 X7 k s) _ _ := h.pop 0 12 rfl _
  have h : Rep (trip.sl.k0_mxu29 arg5 arg7 X5 X7 k s) _ _ := h.pop 1 12 rfl _
  have h : Rep (trip.sl.k0_mxu30 arg5 arg7 X5 X7 k s) _ _ := h.pop 0 13 rfl _
  have h : Rep (trip.sl.k0_mxu31 arg5 arg7 X5 X7 k s) _ _ := h.pop 1 13 rfl _
  have h : Rep (trip.sl.k0_mxu32 arg5 arg7 X5 X7 k s) _ _ := h.pop 0 14 rfl _
  have h : Rep (trip.sl.k0_mxu33 arg5 arg7 X5 X7 k s) _ _ := h.pop 1 14 rfl _
  have h : Rep (trip.sl.k0_mxu34 arg5 arg7 X5 X7 k s) _ _ := h.pop 0 15 rfl _
  have h : Rep (trip.sl.k0_mxu35 arg5 arg7 X5 X7 k s) _ _ := h.pop 1 15 rfl _
  have h : Rep (trip.sl.r_179 arg5 arg7 X5 X7 k s) _ _ := h.acc 0 4 (lhs arg7 X7 1 1 0) rfl _ _
  have h : Rep (trip.sl.r_180 arg5 arg7 X5 X7 k s) _ _ := h.acc 1 4 (lhs arg7 X7 1 1 0) rfl _ _
  have h : Rep (trip.sl.r_181 arg5 arg7 X5 X7 k s) _ _ := h.acc 0 5 (lhs arg7 X7 1 1 1) rfl _ _
  have h : Rep (trip.sl.r_182 arg5 arg7 X5 X7 k s) _ _ := h.acc 1 5 (lhs arg7 X7 1 1 1) rfl _ _
  have h : Rep (trip.sl.r_183 arg5 arg7 X5 X7 k s) _ _ := h.acc 0 6 (lhs arg7 X7 1 1 2) rfl _ _
  have h : Rep (trip.sl.r_184 arg5 arg7 X5 X7 k s) _ _ := h.acc 1 6 (lhs arg7 X7 1 1 2) rfl _ _
  have h : Rep (trip.sl.r_185 arg5 arg7 X5 X7 k s) _ _ := h.acc 0 7 (lhs arg7 X7 1 1 3) rfl _ _
  have h : Rep (trip.sl.r_186 arg5 arg7 X5 X7 k s) _ _ := h.acc 1 7 (lhs arg7 X7 1 1 3) rfl _ _
  have h : Rep (trip.sl.k0_mxu44 arg5 arg7 X5 X7 k s) _ _ := h.accL 0 0 4 (lhs arg7 X7 1 0 0) rfl _
  have h : Rep (trip.sl.k0_mxu45 arg5 arg7 X5 X7 k s) _ _ := h.accL 1 0 4 (lhs arg7 X7 1 0 0) rfl _
  have h : Rep (trip.sl.r_188 arg5 arg7 X5 X7 k s) _ _ := h.acc 0 5 (lhs arg7 X7 1 0 1) rfl _ _
  have h : Rep (trip.sl.r_189 arg5 arg7 X5 X7 k s) _ _ := h.acc 1 5 (lhs arg7 X7 1 0 1) rfl _ _
  have h : Rep (trip.sl.r_190 arg5 arg7 X5 X7 k s) _ _ := h.acc 0 6 (lhs arg7 X7 1 0 2) rfl _ _
  have h : Rep (trip.sl.r_191 arg5 arg7 X5 X7 k s) _ _ := h.acc 1 6 (lhs arg7 X7 1 0 2) rfl _ _
  have h : Rep (trip.sl.r_192 arg5 arg7 X5 X7 k s) _ _ := h.acc 0 7 (lhs arg7 X7 1 0 3) rfl _ _
  have h : Rep (trip.sl.r_193 arg5 arg7 X5 X7 k s) _ _ := h.acc 1 7 (lhs arg7 X7 1 0 3) rfl _ _
  have h : Rep (trip.sl.r_194 arg5 arg7 X5 X7 k s) _ _ := h.push 0 0 (tile arg5 X5 (now k) 0 0) (tileAt_eq arg5 X5 _ (k0_off8_inb k) (k0_off8_eq k))
  have h : Rep (trip.sl.r_195 arg5 arg7 X5 X7 k s) _ _ := h.push 1 0 (tile arg5 X5 (now k) 0 1) (tileAt_eq arg5 X5 _ (k0_off9_inb k) (k0_off9_eq k))
  have h : Rep (trip.sl.k0_mxu54 arg5 arg7 X5 X7 k s) _ _ := h.pop 0 0 rfl _
  have h : Rep (trip.sl.k0_mxu55 arg5 arg7 X5 X7 k s) _ _ := h.pop 1 0 rfl _
  have h : Rep (trip.sl.k0_mxu56 arg5 arg7 X5 X7 k s) _ _ := h.pop 0 1 rfl _
  have h : Rep (trip.sl.k0_mxu57 arg5 arg7 X5 X7 k s) _ _ := h.pop 1 1 rfl _
  have h : Rep (trip.sl.k0_mxu58 arg5 arg7 X5 X7 k s) _ _ := h.pop 0 2 rfl _
  have h : Rep (trip.sl.k0_mxu59 arg5 arg7 X5 X7 k s) _ _ := h.pop 1 2 rfl _
  have h : Rep (trip.sl.k0_mxu60 arg5 arg7 X5 X7 k s) _ _ := h.pop 0 3 rfl _
  have h : Rep (trip.sl.k0_mxu61 arg5 arg7 X5 X7 k s) _ _ := h.pop 1 3 rfl _
  have h : Rep (trip.sl.r_272 arg5 arg7 X5 X7 k s) _ _ := h.acc 0 8 (lhs arg7 X7 2 0 0) rfl _ _
  have h : Rep (trip.sl.r_273 arg5 arg7 X5 X7 k s) _ _ := h.acc 1 8 (lhs arg7 X7 2 0 0) rfl _ _
  have h : Rep (trip.sl.r_274 arg5 arg7 X5 X7 k s) _ _ := h.acc 0 9 (lhs arg7 X7 2 0 1) rfl _ _
  have h : Rep (trip.sl.r_275 arg5 arg7 X5 X7 k s) _ _ := h.acc 1 9 (lhs arg7 X7 2 0 1) rfl _ _
  have h : Rep (trip.sl.r_276 arg5 arg7 X5 X7 k s) _ _ := h.acc 0 10 (lhs arg7 X7 2 0 2) rfl _ _
  have h : Rep (trip.sl.r_277 arg5 arg7 X5 X7 k s) _ _ := h.acc 1 10 (lhs arg7 X7 2 0 2) rfl _ _
  have h : Rep (trip.sl.r_278 arg5 arg7 X5 X7 k s) _ _ := h.acc 0 11 (lhs arg7 X7 2 0 3) rfl _ _
  have h : Rep (trip.sl.r_279 arg5 arg7 X5 X7 k s) _ _ := h.acc 1 11 (lhs arg7 X7 2 0 3) rfl _ _
  have h : Rep (trip.sl.k0_mxu70 arg5 arg7 X5 X7 k s) _ _ := h.accL 0 1 8 (lhs arg7 X7 2 1 0) rfl _
  have h : Rep (trip.sl.k0_mxu71 arg5 arg7 X5 X7 k s) _ _ := h.accL 1 1 8 (lhs arg7 X7 2 1 0) rfl _
  have h : Rep (trip.sl.r_280 arg5 arg7 X5 X7 k s) _ _ := h.acc 0 9 (lhs arg7 X7 2 1 1) rfl _ _
  have h : Rep (trip.sl.r_281 arg5 arg7 X5 X7 k s) _ _ := h.acc 1 9 (lhs arg7 X7 2 1 1) rfl _ _
  have h : Rep (trip.sl.r_286 arg5 arg7 X5 X7 k s) _ _ := h.acc 0 10 (lhs arg7 X7 2 1 2) rfl _ _
  have h : Rep (trip.sl.r_287 arg5 arg7 X5 X7 k s) _ _ := h.acc 1 10 (lhs arg7 X7 2 1 2) rfl _ _
  have h : Rep (trip.sl.r_288 arg5 arg7 X5 X7 k s) _ _ := h.acc 0 11 (lhs arg7 X7 2 1 3) rfl _ _
  have h : Rep (trip.sl.r_289 arg5 arg7 X5 X7 k s) _ _ := h.acc 1 11 (lhs arg7 X7 2 1 3) rfl _ _
  have h : Rep (trip.sl.r_290 arg5 arg7 X5 X7 k s) _ _ := h.push 0 1 (tile arg5 X5 (now k) 1 0) (tileAt_eq arg5 X5 _ (k0_off10_inb k) (k0_off10_eq k))
  have h : Rep (trip.sl.r_291 arg5 arg7 X5 X7 k s) _ _ := h.push 1 1 (tile arg5 X5 (now k) 1 1) (tileAt_eq arg5 X5 _ (k0_off11_inb k) (k0_off11_eq k))
  have h : Rep (trip.sl.k0_mxu80 arg5 arg7 X5 X7 k s) _ _ := h.pop 0 4 rfl _
  have h : Rep (trip.sl.k0_mxu81 arg5 arg7 X5 X7 k s) _ _ := h.pop 1 4 rfl _
  have h : Rep (trip.sl.k0_mxu82 arg5 arg7 X5 X7 k s) _ _ := h.pop 0 5 rfl _
  have h : Rep (trip.sl.k0_mxu83 arg5 arg7 X5 X7 k s) _ _ := h.pop 1 5 rfl _
  have h : Rep (trip.sl.k0_mxu84 arg5 arg7 X5 X7 k s) _ _ := h.pop 0 6 rfl _
  have h : Rep (trip.sl.k0_mxu85 arg5 arg7 X5 X7 k s) _ _ := h.pop 1 6 rfl _
  have h : Rep (trip.sl.k0_mxu86 arg5 arg7 X5 X7 k s) _ _ := h.pop 0 7 rfl _
  have h : Rep (trip.sl.k0_mxu87 arg5 arg7 X5 X7 k s) _ _ := h.pop 1 7 rfl _
  have h : Rep (trip.sl.r_368 arg5 arg7 X5 X7 k s) _ _ := h.acc 0 12 (lhs arg7 X7 3 1 0) rfl _ _
  have h : Rep (trip.sl.r_369 arg5 arg7 X5 X7 k s) _ _ := h.acc 1 12 (lhs arg7 X7 3 1 0) rfl _ _
  have h : Rep (trip.sl.r_370 arg5 arg7 X5 X7 k s) _ _ := h.acc 0 13 (lhs arg7 X7 3 1 1) rfl _ _
  have h : Rep (trip.sl.r_371 arg5 arg7 X5 X7 k s) _ _ := h.acc 1 13 (lhs arg7 X7 3 1 1) rfl _ _
  have h : Rep (trip.sl.r_372 arg5 arg7 X5 X7 k s) _ _ := h.acc 0 14 (lhs arg7 X7 3 1 2) rfl _ _
  have h : Rep (trip.sl.r_373 arg5 arg7 X5 X7 k s) _ _ := h.acc 1 14 (lhs arg7 X7 3 1 2) rfl _ _
  have h : Rep (trip.sl.r_374 arg5 arg7 X5 X7 k s) _ _ := h.acc 0 15 (lhs arg7 X7 3 1 3) rfl _ _
  have h : Rep (trip.sl.r_375 arg5 arg7 X5 X7 k s) _ _ := h.acc 1 15 (lhs arg7 X7 3 1 3) rfl _ _
  have h : Rep (trip.sl.k0_mxu96 arg5 arg7 X5 X7 k s) _ _ := h.accL 0 0 12 (lhs arg7 X7 3 0 0) rfl _
  have h : Rep (trip.sl.k0_mxu97 arg5 arg7 X5 X7 k s) _ _ := h.accL 1 0 12 (lhs arg7 X7 3 0 0) rfl _
  have h : Rep (trip.sl.r_382 arg5 arg7 X5 X7 k s) _ _ := h.acc 0 13 (lhs arg7 X7 3 0 1) rfl _ _
  have h : Rep (trip.sl.r_383 arg5 arg7 X5 X7 k s) _ _ := h.acc 1 13 (lhs arg7 X7 3 0 1) rfl _ _
  have h : Rep (trip.sl.r_384 arg5 arg7 X5 X7 k s) _ _ := h.acc 0 14 (lhs arg7 X7 3 0 2) rfl _ _
  have h : Rep (trip.sl.r_385 arg5 arg7 X5 X7 k s) _ _ := h.acc 1 14 (lhs arg7 X7 3 0 2) rfl _ _
  have h : Rep (trip.sl.r_386 arg5 arg7 X5 X7 k s) _ _ := h.acc 0 15 (lhs arg7 X7 3 0 3) rfl _ _
  have h : Rep (trip.sl.r_387 arg5 arg7 X5 X7 k s) _ _ := h.acc 1 15 (lhs arg7 X7 3 0 3) rfl _ _
  have h : Rep (trip.sl.r_388 arg5 arg7 X5 X7 k s) _ _ := h.push 0 0 (tile arg5 X5 (now k) 0 0) (tileAt_eq arg5 X5 _ (k0_off8_inb k) (k0_off8_eq k))
  have h : Rep (trip.sl.r_389 arg5 arg7 X5 X7 k s) _ _ := h.push 1 0 (tile arg5 X5 (now k) 0 1) (tileAt_eq arg5 X5 _ (k0_off9_inb k) (k0_off9_eq k))
  have h : Rep (trip.sl.k0_mxu106 arg5 arg7 X5 X7 k s) _ _ := h.pop 0 8 rfl _
  have h : Rep (trip.sl.k0_mxu107 arg5 arg7 X5 X7 k s) _ _ := h.pop 1 8 rfl _
  have h : Rep (trip.sl.k0_mxu108 arg5 arg7 X5 X7 k s) _ _ := h.pop 0 9 rfl _
  have h : Rep (trip.sl.k0_mxu109 arg5 arg7 X5 X7 k s) _ _ := h.pop 1 9 rfl _
  have h : Rep (trip.sl.k0_mxu110 arg5 arg7 X5 X7 k s) _ _ := h.pop 0 10 rfl _
  have h : Rep (trip.sl.k0_mxu111 arg5 arg7 X5 X7 k s) _ _ := h.pop 1 10 rfl _
  have h : Rep (trip.sl.k0_mxu112 arg5 arg7 X5 X7 k s) _ _ := h.pop 0 11 rfl _
  have h : Rep (trip.sl.k0_mxu113 arg5 arg7 X5 X7 k s) _ _ := h.pop 1 11 rfl _
  have h : Rep (trip.sl.r_467 arg5 arg7 X5 X7 k s) _ _ := h.acc 0 0 (lhs arg7 X7 4 0 0) rfl _ _
  have h : Rep (trip.sl.r_468 arg5 arg7 X5 X7 k s) _ _ := h.acc 1 0 (lhs arg7 X7 4 0 0) rfl _ _
  have h : Rep (trip.sl.r_469 arg5 arg7 X5 X7 k s) _ _ := h.acc 0 1 (lhs arg7 X7 4 0 1) rfl _ _
  have h : Rep (trip.sl.r_470 arg5 arg7 X5 X7 k s) _ _ := h.acc 1 1 (lhs arg7 X7 4 0 1) rfl _ _
  have h : Rep (trip.sl.r_471 arg5 arg7 X5 X7 k s) _ _ := h.acc 0 2 (lhs arg7 X7 4 0 2) rfl _ _
  have h : Rep (trip.sl.r_472 arg5 arg7 X5 X7 k s) _ _ := h.acc 1 2 (lhs arg7 X7 4 0 2) rfl _ _
  have h : Rep (trip.sl.r_473 arg5 arg7 X5 X7 k s) _ _ := h.acc 0 3 (lhs arg7 X7 4 0 3) rfl _ _
  have h : Rep (trip.sl.r_474 arg5 arg7 X5 X7 k s) _ _ := h.acc 1 3 (lhs arg7 X7 4 0 3) rfl _ _
  have h : Rep (trip.sl.k0_mxu122 arg5 arg7 X5 X7 k s) _ _ := h.accL 0 1 0 (lhs arg7 X7 4 1 0) rfl _
  have h : Rep (trip.sl.k0_mxu123 arg5 arg7 X5 X7 k s) _ _ := h.accL 1 1 0 (lhs arg7 X7 4 1 0) rfl _
  have h : Rep (trip.sl.r_479 arg5 arg7 X5 X7 k s) _ _ := h.acc 0 1 (lhs arg7 X7 4 1 1) rfl _ _
  have h : Rep (trip.sl.r_480 arg5 arg7 X5 X7 k s) _ _ := h.acc 1 1 (lhs arg7 X7 4 1 1) rfl _ _
  have h : Rep (trip.sl.r_481 arg5 arg7 X5 X7 k s) _ _ := h.acc 0 2 (lhs arg7 X7 4 1 2) rfl _ _
  have h : Rep (trip.sl.r_482 arg5 arg7 X5 X7 k s) _ _ := h.acc 1 2 (lhs arg7 X7 4 1 2) rfl _ _
  have h : Rep (trip.sl.r_483 arg5 arg7 X5 X7 k s) _ _ := h.acc 0 3 (lhs arg7 X7 4 1 3) rfl _ _
  have h : Rep (trip.sl.r_484 arg5 arg7 X5 X7 k s) _ _ := h.acc 1 3 (lhs arg7 X7 4 1 3) rfl _ _
  have h : Rep (trip.sl.r_485 arg5 arg7 X5 X7 k s) _ _ := h.push 0 1 (tile arg5 X5 (now k) 1 0) (tileAt_eq arg5 X5 _ (k0_off10_inb k) (k0_off10_eq k))
  have h : Rep (trip.sl.r_486 arg5 arg7 X5 X7 k s) _ _ := h.push 1 1 (tile arg5 X5 (now k) 1 1) (tileAt_eq arg5 X5 _ (k0_off11_inb k) (k0_off11_eq k))
  have h : Rep (trip.sl.k0_mxu132 arg5 arg7 X5 X7 k s) _ _ := h.pop 0 12 rfl _
  have h : Rep (trip.sl.k0_mxu133 arg5 arg7 X5 X7 k s) _ _ := h.pop 1 12 rfl _
  have h : Rep (trip.sl.k0_mxu134 arg5 arg7 X5 X7 k s) _ _ := h.pop 0 13 rfl _
  have h : Rep (trip.sl.k0_mxu135 arg5 arg7 X5 X7 k s) _ _ := h.pop 1 13 rfl _
  have h : Rep (trip.sl.k0_mxu136 arg5 arg7 X5 X7 k s) _ _ := h.pop 0 14 rfl _
  have h : Rep (trip.sl.k0_mxu137 arg5 arg7 X5 X7 k s) _ _ := h.pop 1 14 rfl _
  have h : Rep (trip.sl.k0_mxu138 arg5 arg7 X5 X7 k s) _ _ := h.pop 0 15 rfl _
  have h : Rep (trip.sl.k0_mxu139 arg5 arg7 X5 X7 k s) _ _ := h.pop 1 15 rfl _
  have h : Rep (trip.sl.r_565 arg5 arg7 X5 X7 k s) _ _ := h.acc 0 4 (lhs arg7 X7 5 1 0) rfl _ _
  have h : Rep (trip.sl.r_566 arg5 arg7 X5 X7 k s) _ _ := h.acc 1 4 (lhs arg7 X7 5 1 0) rfl _ _
  have h : Rep (trip.sl.r_567 arg5 arg7 X5 X7 k s) _ _ := h.acc 0 5 (lhs arg7 X7 5 1 1) rfl _ _
  have h : Rep (trip.sl.r_568 arg5 arg7 X5 X7 k s) _ _ := h.acc 1 5 (lhs arg7 X7 5 1 1) rfl _ _
  have h : Rep (trip.sl.r_569 arg5 arg7 X5 X7 k s) _ _ := h.acc 0 6 (lhs arg7 X7 5 1 2) rfl _ _
  have h : Rep (trip.sl.r_570 arg5 arg7 X5 X7 k s) _ _ := h.acc 1 6 (lhs arg7 X7 5 1 2) rfl _ _
  have h : Rep (trip.sl.r_577 arg5 arg7 X5 X7 k s) _ _ := h.acc 0 7 (lhs arg7 X7 5 1 3) rfl _ _
  have h : Rep (trip.sl.r_578 arg5 arg7 X5 X7 k s) _ _ := h.acc 1 7 (lhs arg7 X7 5 1 3) rfl _ _
  have h : Rep (trip.sl.k0_mxu148 arg5 arg7 X5 X7 k s) _ _ := h.accL 0 0 4 (lhs arg7 X7 5 0 0) rfl _
  have h : Rep (trip.sl.k0_mxu149 arg5 arg7 X5 X7 k s) _ _ := h.accL 1 0 4 (lhs arg7 X7 5 0 0) rfl _
  have h : Rep (trip.sl.r_579 arg5 arg7 X5 X7 k s) _ _ := h.acc 0 5 (lhs arg7 X7 5 0 1) rfl _ _
  have h : Rep (trip.sl.r_580 arg5 arg7 X5 X7 k s) _ _ := h.acc 1 5 (lhs arg7 X7 5 0 1) rfl _ _
  have h : Rep (trip.sl.r_581 arg5 arg7 X5 X7 k s) _ _ := h.acc 0 6 (lhs arg7 X7 5 0 2) rfl _ _
  have h : Rep (trip.sl.r_582 arg5 arg7 X5 X7 k s) _ _ := h.acc 1 6 (lhs arg7 X7 5 0 2) rfl _ _
  have h : Rep (trip.sl.r_583 arg5 arg7 X5 X7 k s) _ _ := h.acc 0 7 (lhs arg7 X7 5 0 3) rfl _ _
  have h : Rep (trip.sl.r_584 arg5 arg7 X5 X7 k s) _ _ := h.acc 1 7 (lhs arg7 X7 5 0 3) rfl _ _
  have h : Rep (trip.sl.r_585 arg5 arg7 X5 X7 k s) _ _ := h.push 0 0 (tile arg5 X5 (now k) 0 0) (tileAt_eq arg5 X5 _ (k0_off8_inb k) (k0_off8_eq k))
  have h : Rep (trip.sl.r_586 arg5 arg7 X5 X7 k s) _ _ := h.push 1 0 (tile arg5 X5 (now k) 0 1) (tileAt_eq arg5 X5 _ (k0_off9_inb k) (k0_off9_eq k))
  have h : Rep (trip.sl.k0_mxu158 arg5 arg7 X5 X7 k s) _ _ := h.pop 0 0 rfl _
  have h : Rep (trip.sl.k0_mxu159 arg5 arg7 X5 X7 k s) _ _ := h.pop 1 0 rfl _
  have h : Rep (trip.sl.k0_mxu160 arg5 arg7 X5 X7 k s) _ _ := h.pop 0 1 rfl _
  have h : Rep (trip.sl.k0_mxu161 arg5 arg7 X5 X7 k s) _ _ := h.pop 1 1 rfl _
  have h : Rep (trip.sl.k0_mxu162 arg5 arg7 X5 X7 k s) _ _ := h.pop 0 2 rfl _
  have h : Rep (trip.sl.k0_mxu163 arg5 arg7 X5 X7 k s) _ _ := h.pop 1 2 rfl _
  have h : Rep (trip.sl.k0_mxu164 arg5 arg7 X5 X7 k s) _ _ := h.pop 0 3 rfl _
  have h : Rep (trip.sl.k0_mxu165 arg5 arg7 X5 X7 k s) _ _ := h.pop 1 3 rfl _
  have h : Rep (trip.sl.r_661 arg5 arg7 X5 X7 k s) _ _ := h.acc 0 8 (lhs arg7 X7 6 0 0) rfl _ _
  have h : Rep (trip.sl.r_662 arg5 arg7 X5 X7 k s) _ _ := h.acc 1 8 (lhs arg7 X7 6 0 0) rfl _ _
  have h : Rep (trip.sl.r_663 arg5 arg7 X5 X7 k s) _ _ := h.acc 0 9 (lhs arg7 X7 6 0 1) rfl _ _
  have h : Rep (trip.sl.r_664 arg5 arg7 X5 X7 k s) _ _ := h.acc 1 9 (lhs arg7 X7 6 0 1) rfl _ _
  have h : Rep (trip.sl.r_665 arg5 arg7 X5 X7 k s) _ _ := h.acc 0 10 (lhs arg7 X7 6 0 2) rfl _ _
  have h : Rep (trip.sl.r_666 arg5 arg7 X5 X7 k s) _ _ := h.acc 1 10 (lhs arg7 X7 6 0 2) rfl _ _
  have h : Rep (trip.sl.r_667 arg5 arg7 X5 X7 k s) _ _ := h.acc 0 11 (lhs arg7 X7 6 0 3) rfl _ _
  have h : Rep (trip.sl.r_668 arg5 arg7 X5 X7 k s) _ _ := h.acc 1 11 (lhs arg7 X7 6 0 3) rfl _ _
  have h : Rep (trip.sl.k0_mxu174 arg5 arg7 X5 X7 k s) _ _ := h.accL 0 1 8 (lhs arg7 X7 6 1 0) rfl _
  have h : Rep (trip.sl.k0_mxu175 arg5 arg7 X5 X7 k s) _ _ := h.accL 1 1 8 (lhs arg7 X7 6 1 0) rfl _
  have h : Rep (trip.sl.r_671 arg5 arg7 X5 X7 k s) _ _ := h.acc 0 9 (lhs arg7 X7 6 1 1) rfl _ _
  have h : Rep (trip.sl.r_672 arg5 arg7 X5 X7 k s) _ _ := h.acc 1 9 (lhs arg7 X7 6 1 1) rfl _ _
  have h : Rep (trip.sl.r_673 arg5 arg7 X5 X7 k s) _ _ := h.acc 0 10 (lhs arg7 X7 6 1 2) rfl _ _
  have h : Rep (trip.sl.r_674 arg5 arg7 X5 X7 k s) _ _ := h.acc 1 10 (lhs arg7 X7 6 1 2) rfl _ _
  have h : Rep (trip.sl.r_675 arg5 arg7 X5 X7 k s) _ _ := h.acc 0 11 (lhs arg7 X7 6 1 3) rfl _ _
  have h : Rep (trip.sl.r_676 arg5 arg7 X5 X7 k s) _ _ := h.acc 1 11 (lhs arg7 X7 6 1 3) rfl _ _
  have h : Rep (trip.sl.r_677 arg5 arg7 X5 X7 k s) _ _ := h.push 0 1 (tile arg5 X5 (next k) 1 0) (tileAt_eq arg5 X5 _ (k0_off16_inb k) (k0_off16_eq k))
  have h : Rep (trip.sl.r_678 arg5 arg7 X5 X7 k s) _ _ := h.push 1 1 (tile arg5 X5 (next k) 1 1) (tileAt_eq arg5 X5 _ (k0_off17_inb k) (k0_off17_eq k))
  have h : Rep (trip.sl.k0_mxu184 arg5 arg7 X5 X7 k s) _ _ := h.pop 0 4 rfl _
  have h : Rep (trip.sl.k0_mxu185 arg5 arg7 X5 X7 k s) _ _ := h.pop 1 4 rfl _
  have h : Rep (trip.sl.k0_mxu186 arg5 arg7 X5 X7 k s) _ _ := h.pop 0 5 rfl _
  have h : Rep (trip.sl.k0_mxu187 arg5 arg7 X5 X7 k s) _ _ := h.pop 1 5 rfl _
  have h : Rep (trip.sl.k0_mxu188 arg5 arg7 X5 X7 k s) _ _ := h.pop 0 6 rfl _
  have h : Rep (trip.sl.k0_mxu189 arg5 arg7 X5 X7 k s) _ _ := h.pop 1 6 rfl _
  have h : Rep (trip.sl.k0_mxu190 arg5 arg7 X5 X7 k s) _ _ := h.pop 0 7 rfl _
  have h : Rep (trip.sl.k0_mxu191 arg5 arg7 X5 X7 k s) _ _ := h.pop 1 7 rfl _
  have h : Rep (trip.sl.r_753 arg5 arg7 X5 X7 k s) _ _ := h.acc 0 12 (lhs arg7 X7 7 1 0) rfl _ _
  have h : Rep (trip.sl.r_754 arg5 arg7 X5 X7 k s) _ _ := h.acc 1 12 (lhs arg7 X7 7 1 0) rfl _ _
  have h : Rep (trip.sl.r_755 arg5 arg7 X5 X7 k s) _ _ := h.acc 0 13 (lhs arg7 X7 7 1 1) rfl _ _
  have h : Rep (trip.sl.r_762 arg5 arg7 X5 X7 k s) _ _ := h.acc 1 13 (lhs arg7 X7 7 1 1) rfl _ _
  have h : Rep (trip.sl.r_763 arg5 arg7 X5 X7 k s) _ _ := h.acc 0 14 (lhs arg7 X7 7 1 2) rfl _ _
  have h : Rep (trip.sl.r_764 arg5 arg7 X5 X7 k s) _ _ := h.acc 1 14 (lhs arg7 X7 7 1 2) rfl _ _
  have h : Rep (trip.sl.r_765 arg5 arg7 X5 X7 k s) _ _ := h.acc 0 15 (lhs arg7 X7 7 1 3) rfl _ _
  have h : Rep (trip.sl.r_766 arg5 arg7 X5 X7 k s) _ _ := h.acc 1 15 (lhs arg7 X7 7 1 3) rfl _ _
  have h : Rep (trip.sl.k0_mxu200 arg5 arg7 X5 X7 k s) _ _ := h.accL 0 0 12 (lhs arg7 X7 7 0 0) rfl _
  have h : Rep (trip.sl.k0_mxu201 arg5 arg7 X5 X7 k s) _ _ := h.accL 1 0 12 (lhs arg7 X7 7 0 0) rfl _
  have h : Rep (trip.sl.r_767 arg5 arg7 X5 X7 k s) _ _ := h.acc 0 13 (lhs arg7 X7 7 0 1) rfl _ _
  have h : Rep (trip.sl.r_768 arg5 arg7 X5 X7 k s) _ _ := h.acc 1 13 (lhs arg7 X7 7 0 1) rfl _ _
  have h : Rep (trip.sl.r_769 arg5 arg7 X5 X7 k s) _ _ := h.acc 0 14 (lhs arg7 X7 7 0 2) rfl _ _
  have h : Rep (trip.sl.r_770 arg5 arg7 X5 X7 k s) _ _ := h.acc 1 14 (lhs arg7 X7 7 0 2) rfl _ _
  have h : Rep (trip.sl.r_771 arg5 arg7 X5 X7 k s) _ _ := h.acc 0 15 (lhs arg7 X7 7 0 3) rfl _ _
  have h : Rep (trip.sl.r_772 arg5 arg7 X5 X7 k s) _ _ := h.acc 1 15 (lhs arg7 X7 7 0 3) rfl _ _
  have h : Rep (trip.sl.r_773 arg5 arg7 X5 X7 k s) _ _ := h.push 0 0 (tile arg5 X5 (next k) 0 0) (tileAt_eq arg5 X5 _ (k0_off18_inb k) (k0_off18_eq k))
  have h : Rep (trip.sl.r_775 arg5 arg7 X5 X7 k s) _ _ := h.push 1 0 (tile arg5 X5 (next k) 0 1) (tileAt_eq arg5 X5 _ (k0_off19_inb k) (k0_off19_eq k))
  have h : Rep (trip.sl.k0_mxu210 arg5 arg7 X5 X7 k s) _ _ := h.pop 0 8 rfl _
  have h : Rep (trip.sl.k0_mxu211 arg5 arg7 X5 X7 k s) _ _ := h.pop 1 8 rfl _
  have h : Rep (trip.sl.k0_mxu212 arg5 arg7 X5 X7 k s) _ _ := h.pop 0 9 rfl _
  have h : Rep (trip.sl.k0_mxu213 arg5 arg7 X5 X7 k s) _ _ := h.pop 1 9 rfl _
  have h : Rep (trip.sl.k0_mxu214 arg5 arg7 X5 X7 k s) _ _ := h.pop 0 10 rfl _
  have h : Rep (trip.sl.k0_mxu215 arg5 arg7 X5 X7 k s) _ _ := h.pop 1 10 rfl _
  have h : Rep (trip.sl.k0_mxu216 arg5 arg7 X5 X7 k s) _ _ := h.pop 0 11 rfl _
  have h : Rep (trip.sl.k0_mxu217 arg5 arg7 X5 X7 k s) _ _ := h.pop 1 11 rfl _
  exact h

end Cert.Proof.KernelIdeal

end
-- ==== Proof.Strip.lean ====
/- The sums of one strip: a strip is 128 tokens, a block of 64 labels gives it a 64 × 128 piece of the half logits, and the eight
   groups of eight rows of a piece are added (multiplied) into eight rows, first to last. -/
module

public import proofs.«01_k».proof.Proof.TraceI

@[expose] public section

noncomputable section

namespace Cert.Proof.KernelIdeal

open Cert.KernelIdeal Cert.KernelIdeal.Gen Cert.Proof.MxuRun
open Idealize.ShloMosaic Idealize.ShloMosaic.TcCoe

variable {F : FTy → Type} [FloatOps F]

/-- Half logits of a strip: one half of the columns of a block, and the bias. -/
def halfY (h : Fin 2) (acc : FVec F S64x256 .f32) (bb : Vec F S64x128 .f32) : FVec F S64x128 .f32 :=
  match h with
  | 0 => addf (extractStridedSlice S64x128 ![0, 0] acc slices_S64x256_o0_0_S64x128) bb
  | 1 => addf (extractStridedSlice S64x128 ![0, 128] acc slices_S64x256_o0_128_S64x128) bb

/-- The hinge and the factor of a half logit. -/
def relu (y : FVec F S64x128 .f32) : FVec F S64x128 .f32 := maximumf y (broadcast S64x128 (Scalar.ofBits .f32 0x00000000#32))
def onePlus (y : FVec F S64x128 .f32) : FVec F S64x128 .f32 :=
  addf (broadcast S64x128 (Scalar.ofBits .f32 0x3F800000#32)) (tanh (absf y))

/-- Rows `8k … 8k + 7` of a piece. -/
def rows (m : FVec F S64x128 .f32) : Fin 8 → FVec F S8x128 .f32
  | 0 => extractStridedSlice S8x128 ![0, 0] m slices_S64x128_o0_0_S8x128
  | 1 => extractStridedSlice S8x128 ![8, 0] m slices_S64x128_o8_0_S8x128
  | 2 => extractStridedSlice S8x128 ![16, 0] m slices_S64x128_o16_0_S8x128
  | 3 => extractStridedSlice S8x128 ![24, 0] m slices_S64x128_o24_0_S8x128
  | 4 => extractStridedSlice S8x128 ![32, 0] m slices_S64x128_o32_0_S8x128
  | 5 => extractStridedSlice S8x128 ![40, 0] m slices_S64x128_o40_0_S8x128
  | 6 => extractStridedSlice S8x128 ![48, 0] m slices_S64x128_o48_0_S8x128
  | 7 => extractStridedSlice S8x128 ![56, 0] m slices_S64x128_o56_0_S8x128

/-- The later seven groups, and all eight, into what is there. -/
def add7 (a : FVec F S8x128 .f32) (m : FVec F S64x128 .f32) : FVec F S8x128 .f32 :=
  addf (addf (addf (addf (addf (addf (addf a (rows m 1)) (rows m 2)) (rows m 3)) (rows m 4)) (rows m 5)) (rows m 6)) (rows m 7)
def mul7 (a : FVec F S8x128 .f32) (m : FVec F S64x128 .f32) : FVec F S8x128 .f32 :=
  mulf (mulf (mulf (mulf (mulf (mulf (mulf a (rows m 1)) (rows m 2)) (rows m 3)) (rows m 4)) (rows m 5)) (rows m 6)) (rows m 7)
def add8 (a : FVec F S8x128 .f32) (m : FVec F S64x128 .f32) : FVec F S8x128 .f32 := add7 (addf a (rows m 0)) m
def mul8 (a : FVec F S8x128 .f32) (m : FVec F S64x128 .f32) : FVec F S8x128 .f32 := mul7 (mulf a (rows m 0)) m

/-- Hinges of further pieces into a sum; of pieces from the start. -/
def hingeInto (a : FVec F S8x128 .f32) (ys : List (FVec F S64x128 .f32)) : FVec F S8x128 .f32 := ys.foldl (fun a y => add8 a (relu y)) a
def hingeOf (y : FVec F S64x128 .f32) (ys : List (FVec F S64x128 .f32)) : FVec F S8x128 .f32 := hingeInto (add7 (rows (relu y) 0) (relu y)) ys

/-- The scaled logarithm of the product of the factors of pieces. -/
def prodOf (y : FVec F S64x128 .f32) (ys : List (FVec F S64x128 .f32)) : FVec F S8x128 .f32 :=
  ys.foldl (fun a y => mul8 a (onePlus y)) (mul7 (rows (onePlus y) 0) (onePlus y))
def logOf (y : FVec F S64x128 .f32) (ys : List (FVec F S64x128 .f32)) : FVec F S8x128 .f32 :=
  log (mulf (prodOf y ys) (broadcast S8x128 (Scalar.ofBits .f32 0x1F800000#32)))

theorem bb_inb (sb : Fin 8) (p : Fin 4) : ∀ a, (![256 * sb.val + 64 * p.val, 0] : Fin 2 → Nat) a + S64x128.size a ≤ S2048x128.size a := by
  decide +revert

/-- The bias of labels `256 sb + 64 p …`, one row per label. -/
def bb (arg8 : Memref sig .tc .vmem S2048x128 .f32) (X8 : BufTy.Contents (Elt F) arg8.view.ty) (sb : Fin 8) (p : Fin 4) : Vec F S64x128 .f32 :=
  View.readAt (Elt F) arg8.view (Rect.unit (s := S2048x128) ![256 * sb.val + 64 * p.val, 0] S64x128.size (bb_inb sb p)).toLoadRect X8

theorem zp_inb (p : Fin 4) (q : Fin 2) : ∀ a, (![p.val, q.val, 0, 0] : Fin 4 → Nat) a + S1x1x64x256.size a ≤ S4x2x64x256.size a := by
  decide +revert

/-- A block parked by the trip before. -/
def parked (arg9 : Memref sig .tc .vmem S4x2x64x256 .f32) (f9 : BufTy.Contents (Elt F) arg9.view.ty) (p : Fin 4) (q : Fin 2) : FVec F S64x256 .f32 :=
  shapeCast S64x256 (View.readAt (Elt F) arg9.view (Rect.unit (s := S4x2x64x256) ![p.val, q.val, 0, 0] S1x1x64x256.size (zp_inb p q)).toLoadRect f9)
    shapeCasts_S1x1x64x256_S64x256

/-- A row of sums, from what was there: replaced at the first tile of a chunk, added to otherwise. -/
def fin (v0 : BitVec 1) (hinge log : FVec F S8x128 .f32) (old : Vec F S1x1x128 .f32) : FVec F S1x1x128 .f32 := k0_pay475 v0 hinge log old

/-- The strip `(q, h)` of six sub-tiles of blocks `v sb p`, and the two sub-tiles after. -/
def hinge6 (h : Fin 2) (v : Fin 8 → Fin 4 → FVec F S64x256 .f32) (b : Fin 8 → Fin 4 → Vec F S64x128 .f32) : FVec F S8x128 .f32 :=
  hingeOf (halfY h (v 0 0) (b 0 0)) [halfY h (v 0 1) (b 0 1), halfY h (v 0 2) (b 0 2), halfY h (v 0 3) (b 0 3),
    halfY h (v 1 0) (b 1 0), halfY h (v 1 1) (b 1 1), halfY h (v 1 2) (b 1 2), halfY h (v 1 3) (b 1 3),
    halfY h (v 2 0) (b 2 0), halfY h (v 2 1) (b 2 1), halfY h (v 2 2) (b 2 2), halfY h (v 2 3) (b 2 3),
    halfY h (v 3 0) (b 3 0), halfY h (v 3 1) (b 3 1), halfY h (v 3 2) (b 3 2), halfY h (v 3 3) (b 3 3),
    halfY h (v 4 0) (b 4 0), halfY h (v 4 1) (b 4 1), halfY h (v 4 2) (b 4 2), halfY h (v 4 3) (b 4 3),
    halfY h (v 5 0) (b 5 0), halfY h (v 5 1) (b 5 1), halfY h (v 5 2) (b 5 2), halfY h (v 5 3) (b 5 3)]
def logPart (h : Fin 2) (v : Fin 8 → Fin 4 → FVec F S64x256 .f32) (b : Fin 8 → Fin 4 → Vec F S64x128 .f32) (s0 s1 : Fin 8) : FVec F S8x128 .f32 :=
  logOf (halfY h (v s0 0) (b s0 0)) [halfY h (v s0 1) (b s0 1), halfY h (v s0 2) (b s0 2), halfY h (v s0 3) (b s0 3),
    halfY h (v s1 0) (b s1 0), halfY h (v s1 1) (b s1 1), halfY h (v s1 2) (b s1 2), halfY h (v s1 3) (b s1 3)]
def log6 (h : Fin 2) (v : Fin 8 → Fin 4 → FVec F S64x256 .f32) (b : Fin 8 → Fin 4 → Vec F S64x128 .f32) : FVec F S8x128 .f32 :=
  addf (addf (logPart h v b 0 1) (logPart h v b 2 3)) (logPart h v b 4 5)
def hinge8 (h : Fin 2) (v : Fin 8 → Fin 4 → FVec F S64x256 .f32) (b : Fin 8 → Fin 4 → Vec F S64x128 .f32) (a : FVec F S8x128 .f32) : FVec F S8x128 .f32 :=
  hingeInto a [halfY h (v 6 0) (b 6 0), halfY h (v 6 1) (b 6 1), halfY h (v 6 2) (b 6 2), halfY h (v 6 3) (b 6 3),
    halfY h (v 7 0) (b 7 0), halfY h (v 7 1) (b 7 1), halfY h (v 7 2) (b 7 2), halfY h (v 7 3) (b 7 3)]
def log8 (h : Fin 2) (v : Fin 8 → Fin 4 → FVec F S64x256 .f32) (b : Fin 8 → Fin 4 → Vec F S64x128 .f32) (a : FVec F S8x128 .f32) : FVec F S8x128 .f32 :=
  addf a (logPart h v b 6 7)

end Cert.Proof.KernelIdeal

end
-- ==== Proof.SumsI.lean ====
/- One trip's sums and stores in terms of the blocks it pops: each strip's carried sums cover six sub-tiles, and what it stores covers the two
   sub-tiles the trip before left. -/
module

public import proofs.«01_k».proof.Proof.Strip

@[expose] public section

set_option maxRecDepth 65536
set_option maxHeartbeats 4000000

noncomputable section

namespace Cert.Proof.KernelIdeal

open Cert.KernelIdeal Cert.KernelIdeal.Gen Cert.Proof.MxuRun
open Idealize.ShloMosaic Idealize.ShloMosaic.TcCoe

variable {F : FTy → Type} [FloatOps F]

/-- The blocks popped, by sub-tile: the trip's own six, and sub-tile 7 of the trip before. -/
def popV (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips) (s : Mxu F) (q : Fin 2) : Fin 8 → Fin 4 → BlockV F :=
  match q with
  | 0 => ![
      ![trip.sl.v4396_r0 arg5 arg7 X5 X7 k s, trip.sl.v4551_r0 arg5 arg7 X5 X7 k s, trip.sl.v4714_r0 arg5 arg7 X5 X7 k s, trip.sl.v4877_r0 arg5 arg7 X5 X7 k s],
      ![trip.sl.v5064_r0 arg5 arg7 X5 X7 k s, trip.sl.v5227_r0 arg5 arg7 X5 X7 k s, trip.sl.v5390_r0 arg5 arg7 X5 X7 k s, trip.sl.v5553_r0 arg5 arg7 X5 X7 k s],
      ![trip.sl.v5752_r0 arg5 arg7 X5 X7 k s, trip.sl.v5911_r0 arg5 arg7 X5 X7 k s, trip.sl.v6074_r0 arg5 arg7 X5 X7 k s, trip.sl.v6237_r0 arg5 arg7 X5 X7 k s],
      ![trip.sl.v6424_r0 arg5 arg7 X5 X7 k s, trip.sl.v6587_r0 arg5 arg7 X5 X7 k s, trip.sl.v6750_r0 arg5 arg7 X5 X7 k s, trip.sl.v6913_r0 arg5 arg7 X5 X7 k s],
      ![trip.sl.v7116_r0 arg5 arg7 X5 X7 k s, trip.sl.v7275_r0 arg5 arg7 X5 X7 k s, trip.sl.v7438_r0 arg5 arg7 X5 X7 k s, trip.sl.v7601_r0 arg5 arg7 X5 X7 k s],
      ![trip.sl.v7788_r0 arg5 arg7 X5 X7 k s, trip.sl.v7951_r0 arg5 arg7 X5 X7 k s, trip.sl.v8114_r0 arg5 arg7 X5 X7 k s, trip.sl.v8277_r0 arg5 arg7 X5 X7 k s],
      ![trip.sl.v8479_r0 arg5 arg7 X5 X7 k s, trip.sl.v8487_r0 arg5 arg7 X5 X7 k s, trip.sl.v8495_r0 arg5 arg7 X5 X7 k s, trip.sl.v8503_r0 arg5 arg7 X5 X7 k s],
      ![trip.sl.v3644_r0 arg5 arg7 X5 X7 k s, trip.sl.v3807_r0 arg5 arg7 X5 X7 k s, trip.sl.v3970_r0 arg5 arg7 X5 X7 k s, trip.sl.v4133_r0 arg5 arg7 X5 X7 k s]]
  | 1 => ![
      ![trip.sl.v4473_r0 arg5 arg7 X5 X7 k s, trip.sl.v4632_r0 arg5 arg7 X5 X7 k s, trip.sl.v4795_r0 arg5 arg7 X5 X7 k s, trip.sl.v4958_r0 arg5 arg7 X5 X7 k s],
      ![trip.sl.v5145_r0 arg5 arg7 X5 X7 k s, trip.sl.v5308_r0 arg5 arg7 X5 X7 k s, trip.sl.v5471_r0 arg5 arg7 X5 X7 k s, trip.sl.v5634_r0 arg5 arg7 X5 X7 k s],
      ![trip.sl.v5831_r0 arg5 arg7 X5 X7 k s, trip.sl.v5992_r0 arg5 arg7 X5 X7 k s, trip.sl.v6155_r0 arg5 arg7 X5 X7 k s, trip.sl.v6318_r0 arg5 arg7 X5 X7 k s],
      ![trip.sl.v6505_r0 arg5 arg7 X5 X7 k s, trip.sl.v6668_r0 arg5 arg7 X5 X7 k s, trip.sl.v6831_r0 arg5 arg7 X5 X7 k s, trip.sl.v6994_r0 arg5 arg7 X5 X7 k s],
      ![trip.sl.v7195_r0 arg5 arg7 X5 X7 k s, trip.sl.v7356_r0 arg5 arg7 X5 X7 k s, trip.sl.v7519_r0 arg5 arg7 X5 X7 k s, trip.sl.v7682_r0 arg5 arg7 X5 X7 k s],
      ![trip.sl.v7869_r0 arg5 arg7 X5 X7 k s, trip.sl.v8032_r0 arg5 arg7 X5 X7 k s, trip.sl.v8195_r0 arg5 arg7 X5 X7 k s, trip.sl.v8358_r0 arg5 arg7 X5 X7 k s],
      ![trip.sl.v8483_r0 arg5 arg7 X5 X7 k s, trip.sl.v8491_r0 arg5 arg7 X5 X7 k s, trip.sl.v8499_r0 arg5 arg7 X5 X7 k s, trip.sl.v8507_r0 arg5 arg7 X5 X7 k s],
      ![trip.sl.v3725_r0 arg5 arg7 X5 X7 k s, trip.sl.v3888_r0 arg5 arg7 X5 X7 k s, trip.sl.v4051_r0 arg5 arg7 X5 X7 k s, trip.sl.v4214_r0 arg5 arg7 X5 X7 k s]]

/-- Sub-tiles 6 (parked) and 7 (popped) of the trip before. -/
def prevV (arg5 : Memref sig .tc .vmem S40x256x512 .i32) (arg7 : Memref sig .tc .vmem S1024x2x512 .bf16) (arg9 : Memref sig .tc .vmem S4x2x64x256 .f32)
    (X5 : BufTy.Contents (Elt F) arg5.view.ty) (X7 : BufTy.Contents (Elt F) arg7.view.ty) (f9 : BufTy.Contents (Elt F) arg9.view.ty)
    (k : Fin k0_t2_loop.trips) (s : Mxu F) (q : Fin 2) (sb : Fin 8) (p : Fin 4) : FVec F S64x256 .f32 :=
  if sb = 6 then parked arg9 f9 p q else popV arg5 arg7 X5 X7 k s q sb p

theorem hinge_0 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_742 arg5 arg7 arg8 X5 X7 X8 k s = hinge6 0 (popV arg5 arg7 X5 X7 k s 0) (bb arg8 X8) := rfl

theorem log_0 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_757 arg5 arg7 arg8 X5 X7 X8 k s = log6 0 (popV arg5 arg7 X5 X7 k s 0) (bb arg8 X8) := rfl

theorem hinge_1 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_744 arg5 arg7 arg8 X5 X7 X8 k s = hinge6 1 (popV arg5 arg7 X5 X7 k s 0) (bb arg8 X8) := rfl

theorem log_1 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_758 arg5 arg7 arg8 X5 X7 X8 k s = log6 1 (popV arg5 arg7 X5 X7 k s 0) (bb arg8 X8) := rfl

theorem hinge_2 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_746 arg5 arg7 arg8 X5 X7 X8 k s = hinge6 0 (popV arg5 arg7 X5 X7 k s 1) (bb arg8 X8) := rfl

theorem log_2 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_759 arg5 arg7 arg8 X5 X7 X8 k s = log6 0 (popV arg5 arg7 X5 X7 k s 1) (bb arg8 X8) := rfl

theorem hinge_3 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_756 arg5 arg7 arg8 X5 X7 X8 k s = hinge6 1 (popV arg5 arg7 X5 X7 k s 1) (bb arg8 X8) := rfl

theorem log_3 (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty) (k : Fin k0_t2_loop.trips) (s : Mxu F) :
    trip.sl.r_760 arg5 arg7 arg8 X5 X7 X8 k s = log6 1 (popV arg5 arg7 X5 X7 k s 1) (bb arg8 X8) := rfl

/-- The four rows of sums a trip stores. -/
def sumL (arg5 : Memref sig .tc .vmem S40x256x512 .i32) (arg7 : Memref sig .tc .vmem S1024x2x512 .bf16) (arg8 : Memref sig .tc .vmem S2048x128 .f32)
    (arg9 : Memref sig .tc .vmem S4x2x64x256 .f32) (arg10 : Memref sig .tc .vmem S41x8x128 .f32) (v0 : BitVec 1)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty)
    (k : Fin k0_t2_loop.trips) (a0 a1 a2 a3 a4 a5 a6 a7 : FVec F S8x128 .f32) (s : Mxu F) : List (View.Piece (Elt F) S41x8x128 .f32) :=
  [
   ⟨Rect.unit (k0_off15 k) S1x1x128.size (k0_off15_inb k),
    fin v0 (hinge8 1 (prevV arg5 arg7 arg9 X5 X7 f9 k s 1) (bb arg8 X8) a3) (log8 1 (prevV arg5 arg7 arg9 X5 X7 f9 k s 1) (bb arg8 X8) a7)
      (View.readAt (Elt F) arg10.view (Rect.unit (s := S41x8x128) (k0_off15 k) S1x1x128.size (k0_off15_inb k)).toLoadRect f10)⟩,
   ⟨Rect.unit (k0_off14 k) S1x1x128.size (k0_off14_inb k),
    fin v0 (hinge8 0 (prevV arg5 arg7 arg9 X5 X7 f9 k s 1) (bb arg8 X8) a2) (log8 0 (prevV arg5 arg7 arg9 X5 X7 f9 k s 1) (bb arg8 X8) a6)
      (View.readAt (Elt F) arg10.view (Rect.unit (s := S41x8x128) (k0_off14 k) S1x1x128.size (k0_off14_inb k)).toLoadRect f10)⟩,
   ⟨Rect.unit (k0_off13 k) S1x1x128.size (k0_off13_inb k),
    fin v0 (hinge8 1 (prevV arg5 arg7 arg9 X5 X7 f9 k s 0) (bb arg8 X8) a1) (log8 1 (prevV arg5 arg7 arg9 X5 X7 f9 k s 0) (bb arg8 X8) a5)
      (View.readAt (Elt F) arg10.view (Rect.unit (s := S41x8x128) (k0_off13 k) S1x1x128.size (k0_off13_inb k)).toLoadRect f10)⟩,
   ⟨Rect.unit (k0_off12 k) S1x1x128.size (k0_off12_inb k),
    fin v0 (hinge8 0 (prevV arg5 arg7 arg9 X5 X7 f9 k s 0) (bb arg8 X8) a0) (log8 0 (prevV arg5 arg7 arg9 X5 X7 f9 k s 0) (bb arg8 X8) a4)
      (View.readAt (Elt F) arg10.view (Rect.unit (s := S41x8x128) (k0_off12 k) S1x1x128.size (k0_off12_inb k)).toLoadRect f10)⟩]

theorem sumL_eq (arg5 : Memref sig .tc .vmem S40x256x512 .i32) (arg7 : Memref sig .tc .vmem S1024x2x512 .bf16) (arg8 : Memref sig .tc .vmem S2048x128 .f32)
    (arg9 : Memref sig .tc .vmem S4x2x64x256 .f32) (arg10 : Memref sig .tc .vmem S41x8x128 .f32) (v0 : BitVec 1)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty)
    (k : Fin k0_t2_loop.trips) (a0 a1 a2 a3 a4 a5 a6 a7 : FVec F S8x128 .f32) (s : Mxu F) :
    trip.sl.H10_4 arg5 arg7 arg8 arg9 arg10 v0 X5 X7 X8 f9 f10 k a0 a1 a2 a3 a4 a5 a6 a7 s
      = sumL arg5 arg7 arg8 arg9 arg10 v0 X5 X7 X8 f9 f10 k a0 a1 a2 a3 a4 a5 a6 a7 s := rfl

end Cert.Proof.KernelIdeal

end
-- ==== Proof.TripVal.lean ====
/- What a trip's blocks are: each is the sum of two products, a block of labels by the two tiles of the row block. -/
module

public import proofs.«01_k».proof.Proof.SumsI

@[expose] public section

set_option maxRecDepth 65536
set_option maxHeartbeats 4000000

noncomputable section

namespace Cert.Proof.KernelIdeal

open Cert.KernelIdeal Cert.KernelIdeal.Gen Cert.Proof.MxuRun
open Idealize.ShloMosaic Idealize.ShloMosaic.TcCoe

variable {F : FTy → Type} [FloatOps F]

/-- Sub-tile `sb`, labels `64 p …` of it, unit `q`: the half accumulated first is the first for even `sb`, the second for odd. -/
def blk (arg5 : Memref sig .tc .vmem S40x256x512 .i32) (arg7 : Memref sig .tc .vmem S1024x2x512 .bf16)
    (X5 : BufTy.Contents (Elt F) arg5.view.ty) (X7 : BufTy.Contents (Elt F) arg7.view.ty) (r : Fin 40) (q : Fin 2) (sb : Fin 8) (p : Fin 4) : BlockV F :=
  let h : Fin 2 := match sb with | 0 => 0 | 1 => 1 | 2 => 0 | 3 => 1 | 4 => 0 | 5 => 1 | 6 => 0 | 7 => 1
  let h' : Fin 2 := match sb with | 0 => 1 | 1 => 0 | 2 => 1 | 3 => 0 | 4 => 1 | 5 => 0 | 6 => 1 | 7 => 0
  addf (pass (lhs arg7 X7 sb h p) (tile arg5 X5 r h q)) (pass (lhs arg7 X7 sb h' p) (tile arg5 X5 r h' q))

/-- The units between two trips: the last eighth of the accumulators, and the tiles of row block `r` in the registers. -/
def between (arg5 : Memref sig .tc .vmem S40x256x512 .i32) (X5 : BufTy.Contents (Elt F) arg5.view.ty)
    (v3 : Fin 2 → Fin 4 → Option (BlockV F)) (t : Fin 2 → TileV F) (r : Fin 40) : Abs F where
  v q i := match i with | 12 => v3 q 0 | 13 => v3 q 1 | 14 => v3 q 2 | 15 => v3 q 3 | _ => none
  t := t
  r q h := some (tile arg5 X5 r h q)
  out := []

theorem out_eq (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips)
    (v3 : Fin 2 → Fin 4 → Option (BlockV F)) (t : Fin 2 → TileV F) :
    ((tripOps arg5 arg7 X5 X7 k).foldl step (between arg5 X5 v3 t (now k))).out
      = [some (blk arg5 arg7 X5 X7 (now k) 1 6 3),
        some (blk arg5 arg7 X5 X7 (now k) 0 6 3),
        some (blk arg5 arg7 X5 X7 (now k) 1 6 2),
        some (blk arg5 arg7 X5 X7 (now k) 0 6 2),
        some (blk arg5 arg7 X5 X7 (now k) 1 6 1),
        some (blk arg5 arg7 X5 X7 (now k) 0 6 1),
        some (blk arg5 arg7 X5 X7 (now k) 1 6 0),
        some (blk arg5 arg7 X5 X7 (now k) 0 6 0),
        some (blk arg5 arg7 X5 X7 (now k) 1 5 3),
        some (blk arg5 arg7 X5 X7 (now k) 0 5 3),
        some (blk arg5 arg7 X5 X7 (now k) 1 5 2),
        some (blk arg5 arg7 X5 X7 (now k) 0 5 2),
        some (blk arg5 arg7 X5 X7 (now k) 1 5 1),
        some (blk arg5 arg7 X5 X7 (now k) 0 5 1),
        some (blk arg5 arg7 X5 X7 (now k) 1 5 0),
        some (blk arg5 arg7 X5 X7 (now k) 0 5 0),
        some (blk arg5 arg7 X5 X7 (now k) 1 4 3),
        some (blk arg5 arg7 X5 X7 (now k) 0 4 3),
        some (blk arg5 arg7 X5 X7 (now k) 1 4 2),
        some (blk arg5 arg7 X5 X7 (now k) 0 4 2),
        some (blk arg5 arg7 X5 X7 (now k) 1 4 1),
        some (blk arg5 arg7 X5 X7 (now k) 0 4 1),
        some (blk arg5 arg7 X5 X7 (now k) 1 4 0),
        some (blk arg5 arg7 X5 X7 (now k) 0 4 0),
        some (blk arg5 arg7 X5 X7 (now k) 1 3 3),
        some (blk arg5 arg7 X5 X7 (now k) 0 3 3),
        some (blk arg5 arg7 X5 X7 (now k) 1 3 2),
        some (blk arg5 arg7 X5 X7 (now k) 0 3 2),
        some (blk arg5 arg7 X5 X7 (now k) 1 3 1),
        some (blk arg5 arg7 X5 X7 (now k) 0 3 1),
        some (blk arg5 arg7 X5 X7 (now k) 1 3 0),
        some (blk arg5 arg7 X5 X7 (now k) 0 3 0),
        some (blk arg5 arg7 X5 X7 (now k) 1 2 3),
        some (blk arg5 arg7 X5 X7 (now k) 0 2 3),
        some (blk arg5 arg7 X5 X7 (now k) 1 2 2),
        some (blk arg5 arg7 X5 X7 (now k) 0 2 2),
        some (blk arg5 arg7 X5 X7 (now k) 1 2 1),
        some (blk arg5 arg7 X5 X7 (now k) 0 2 1),
        some (blk arg5 arg7 X5 X7 (now k) 1 2 0),
        some (blk arg5 arg7 X5 X7 (now k) 0 2 0),
        some (blk arg5 arg7 X5 X7 (now k) 1 1 3),
        some (blk arg5 arg7 X5 X7 (now k) 0 1 3),
        some (blk arg5 arg7 X5 X7 (now k) 1 1 2),
        some (blk arg5 arg7 X5 X7 (now k) 0 1 2),
        some (blk arg5 arg7 X5 X7 (now k) 1 1 1),
        some (blk arg5 arg7 X5 X7 (now k) 0 1 1),
        some (blk arg5 arg7 X5 X7 (now k) 1 1 0),
        some (blk arg5 arg7 X5 X7 (now k) 0 1 0),
        some (blk arg5 arg7 X5 X7 (now k) 1 0 3),
        some (blk arg5 arg7 X5 X7 (now k) 0 0 3),
        some (blk arg5 arg7 X5 X7 (now k) 1 0 2),
        some (blk arg5 arg7 X5 X7 (now k) 0 0 2),
        some (blk arg5 arg7 X5 X7 (now k) 1 0 1),
        some (blk arg5 arg7 X5 X7 (now k) 0 0 1),
        some (blk arg5 arg7 X5 X7 (now k) 1 0 0),
        some (blk arg5 arg7 X5 X7 (now k) 0 0 0),
        v3 1 3,
        v3 0 3,
        v3 1 2,
        v3 0 2,
        v3 1 1,
        v3 0 1,
        v3 1 0,
        v3 0 0] := rfl

theorem exit_r (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips)
    (v3 : Fin 2 → Fin 4 → Option (BlockV F)) (t : Fin 2 → TileV F) (q h : Fin 2) :
    ((tripOps arg5 arg7 X5 X7 k).foldl step (between arg5 X5 v3 t (now k))).r q h = some (tile arg5 X5 (next k) h q) := by
  match q, h with
  | 0, 0 => rfl
  | 0, 1 => rfl
  | 1, 0 => rfl
  | 1, 1 => rfl

theorem exit_v (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips)
    (v3 : Fin 2 → Fin 4 → Option (BlockV F)) (t : Fin 2 → TileV F) (q : Fin 2) (i : Fin 16) :
    ((tripOps arg5 arg7 X5 X7 k).foldl step (between arg5 X5 v3 t (now k))).v q i
      = (between arg5 X5 (fun q p => some (blk arg5 arg7 X5 X7 (now k) q 7 p)) t (next k)).v q i := by
  exact match q, i with
  | ⟨0, _⟩, ⟨0, _⟩ => rfl
  | ⟨0, _⟩, ⟨1, _⟩ => rfl
  | ⟨0, _⟩, ⟨2, _⟩ => rfl
  | ⟨0, _⟩, ⟨3, _⟩ => rfl
  | ⟨0, _⟩, ⟨4, _⟩ => rfl
  | ⟨0, _⟩, ⟨5, _⟩ => rfl
  | ⟨0, _⟩, ⟨6, _⟩ => rfl
  | ⟨0, _⟩, ⟨7, _⟩ => rfl
  | ⟨0, _⟩, ⟨8, _⟩ => rfl
  | ⟨0, _⟩, ⟨9, _⟩ => rfl
  | ⟨0, _⟩, ⟨10, _⟩ => rfl
  | ⟨0, _⟩, ⟨11, _⟩ => rfl
  | ⟨0, _⟩, ⟨12, _⟩ => rfl
  | ⟨0, _⟩, ⟨13, _⟩ => rfl
  | ⟨0, _⟩, ⟨14, _⟩ => rfl
  | ⟨0, _⟩, ⟨15, _⟩ => rfl
  | ⟨1, _⟩, ⟨0, _⟩ => rfl
  | ⟨1, _⟩, ⟨1, _⟩ => rfl
  | ⟨1, _⟩, ⟨2, _⟩ => rfl
  | ⟨1, _⟩, ⟨3, _⟩ => rfl
  | ⟨1, _⟩, ⟨4, _⟩ => rfl
  | ⟨1, _⟩, ⟨5, _⟩ => rfl
  | ⟨1, _⟩, ⟨6, _⟩ => rfl
  | ⟨1, _⟩, ⟨7, _⟩ => rfl
  | ⟨1, _⟩, ⟨8, _⟩ => rfl
  | ⟨1, _⟩, ⟨9, _⟩ => rfl
  | ⟨1, _⟩, ⟨10, _⟩ => rfl
  | ⟨1, _⟩, ⟨11, _⟩ => rfl
  | ⟨1, _⟩, ⟨12, _⟩ => rfl
  | ⟨1, _⟩, ⟨13, _⟩ => rfl
  | ⟨1, _⟩, ⟨14, _⟩ => rfl
  | ⟨1, _⟩, ⟨15, _⟩ => rfl
  | ⟨n + 2, h⟩, _ => absurd h (by omega)
  | _, ⟨n + 16, h⟩ => absurd h (by omega)

/-- The units after a trip. -/
def mxuOut (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips) (s : Mxu F) : Mxu F :=
  trip.sl.k0_mxu217 arg5 arg7 X5 X7 k s

/-- The blocks of sub-tile 6 a trip parks. -/
def parkL (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips) (s : Mxu F) :
    List (View.Piece (Elt F) S4x2x64x256 .f32) :=
  [⟨Rect.unit (s := S4x2x64x256) ![3, 1, 0, 0] S1x1x64x256.size (zp_inb 3 1), shapeCast S1x1x64x256 (popV arg5 arg7 X5 X7 k s 1 6 3) shapeCasts_S64x256_S1x1x64x256⟩,
   ⟨Rect.unit (s := S4x2x64x256) ![3, 0, 0, 0] S1x1x64x256.size (zp_inb 3 0), shapeCast S1x1x64x256 (popV arg5 arg7 X5 X7 k s 0 6 3) shapeCasts_S64x256_S1x1x64x256⟩,
   ⟨Rect.unit (s := S4x2x64x256) ![2, 1, 0, 0] S1x1x64x256.size (zp_inb 2 1), shapeCast S1x1x64x256 (popV arg5 arg7 X5 X7 k s 1 6 2) shapeCasts_S64x256_S1x1x64x256⟩,
   ⟨Rect.unit (s := S4x2x64x256) ![2, 0, 0, 0] S1x1x64x256.size (zp_inb 2 0), shapeCast S1x1x64x256 (popV arg5 arg7 X5 X7 k s 0 6 2) shapeCasts_S64x256_S1x1x64x256⟩,
   ⟨Rect.unit (s := S4x2x64x256) ![1, 1, 0, 0] S1x1x64x256.size (zp_inb 1 1), shapeCast S1x1x64x256 (popV arg5 arg7 X5 X7 k s 1 6 1) shapeCasts_S64x256_S1x1x64x256⟩,
   ⟨Rect.unit (s := S4x2x64x256) ![1, 0, 0, 0] S1x1x64x256.size (zp_inb 1 0), shapeCast S1x1x64x256 (popV arg5 arg7 X5 X7 k s 0 6 1) shapeCasts_S64x256_S1x1x64x256⟩,
   ⟨Rect.unit (s := S4x2x64x256) ![0, 1, 0, 0] S1x1x64x256.size (zp_inb 0 1), shapeCast S1x1x64x256 (popV arg5 arg7 X5 X7 k s 1 6 0) shapeCasts_S64x256_S1x1x64x256⟩,
   ⟨Rect.unit (s := S4x2x64x256) ![0, 0, 0, 0] S1x1x64x256.size (zp_inb 0 0), shapeCast S1x1x64x256 (popV arg5 arg7 X5 X7 k s 0 6 0) shapeCasts_S64x256_S1x1x64x256⟩]

theorem trip_carry (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty) (k : Fin k0_t2_loop.trips) (a0 a1 a2 a3 a4 a5 a6 a7 : FVec F S8x128 .f32) (s : Mxu F) :
    (trip (F := F) c i arg2 harg2 arg3 harg3 arg4 harg4 arg5 harg5 arg6 harg6 arg7 harg7 arg8 harg8 arg9 harg9 arg10 harg10 k0_mxu1 v0 X5 X7 X8 f9 f10 k a0 a1 a2 a3 a4 a5 a6 a7 s).1 = (hinge6 0 (popV arg5 arg7 X5 X7 k s 0) (bb arg8 X8), hinge6 1 (popV arg5 arg7 X5 X7 k s 0) (bb arg8 X8), hinge6 0 (popV arg5 arg7 X5 X7 k s 1) (bb arg8 X8), hinge6 1 (popV arg5 arg7 X5 X7 k s 1) (bb arg8 X8),
      log6 0 (popV arg5 arg7 X5 X7 k s 0) (bb arg8 X8), log6 1 (popV arg5 arg7 X5 X7 k s 0) (bb arg8 X8), log6 0 (popV arg5 arg7 X5 X7 k s 1) (bb arg8 X8), log6 1 (popV arg5 arg7 X5 X7 k s 1) (bb arg8 X8),
      mxuOut arg5 arg7 X5 X7 k s) := by
  unfold trip; rfl

theorem trip_park (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty) (k : Fin k0_t2_loop.trips) (a0 a1 a2 a3 a4 a5 a6 a7 : FVec F S8x128 .f32) (s : Mxu F) :
    (trip (F := F) c i arg2 harg2 arg3 harg3 arg4 harg4 arg5 harg5 arg6 harg6 arg7 harg7 arg8 harg8 arg9 harg9 arg10 harg10 k0_mxu1 v0 X5 X7 X8 f9 f10 k a0 a1 a2 a3 a4 a5 a6 a7 s).2.1 = parkL arg5 arg7 X5 X7 k s := by
  unfold trip; rfl

theorem trip_sums (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (f9 : BufTy.Contents (Elt F) arg9.view.ty) (f10 : BufTy.Contents (Elt F) arg10.view.ty) (k : Fin k0_t2_loop.trips) (a0 a1 a2 a3 a4 a5 a6 a7 : FVec F S8x128 .f32) (s : Mxu F) :
    (trip (F := F) c i arg2 harg2 arg3 harg3 arg4 harg4 arg5 harg5 arg6 harg6 arg7 harg7 arg8 harg8 arg9 harg9 arg10 harg10 k0_mxu1 v0 X5 X7 X8 f9 f10 k a0 a1 a2 a3 a4 a5 a6 a7 s).2.2.1 = sumL arg5 arg7 arg8 arg9 arg10 v0 X5 X7 X8 f9 f10 k a0 a1 a2 a3 a4 a5 a6 a7 s := by
  unfold trip; rfl

/-- Only what was popped before matters not. -/
theorem Rep_fresh {s : Mxu F} {a : Abs F} {ys : List (BlockV F)} (h : Rep s a ys) : Rep s { a with out := [] } [] :=
  ⟨h.live, h.read, h.slot, h.regs, .nil⟩

/-- A trip from between two trips: the units are again between two trips, and what it popped. -/
theorem trip_units (arg5 : Memref sig .tc .vmem S40x256x512 .i32) (arg7 : Memref sig .tc .vmem S1024x2x512 .bf16)
    (X5 : BufTy.Contents (Elt F) arg5.view.ty) (X7 : BufTy.Contents (Elt F) arg7.view.ty) (k : Fin k0_t2_loop.trips)
    (v3 : Fin 2 → Fin 4 → Option (BlockV F)) (t : Fin 2 → TileV F) (s : Mxu F) (h : Rep s (between arg5 X5 v3 t (now k)) []) :
    (∃ t', Rep (mxuOut arg5 arg7 X5 X7 k s) (between arg5 X5 (fun q p => some (blk arg5 arg7 X5 X7 (now k) q 7 p)) t' (next k)) [])
      ∧ (∀ q p x, v3 q p = some x → popV arg5 arg7 X5 X7 k s q 7 p = x)
      ∧ ∀ q (sb : Fin 8) p, sb ≠ 7 → popV arg5 arg7 X5 X7 k s q sb p = blk arg5 arg7 X5 X7 (now k) q sb p := by
  have hr := trip_rep arg5 arg7 X5 X7 k s h
  refine ⟨⟨((tripOps arg5 arg7 X5 X7 k).foldl step (between arg5 X5 v3 t (now k))).t, ?_⟩, ?_⟩
  · have hf := Rep_fresh hr
    have e : ({ ((tripOps arg5 arg7 X5 X7 k).foldl step (between arg5 X5 v3 t (now k))) with out := [] } : Abs F)
        = between arg5 X5 (fun q p => some (blk arg5 arg7 X5 X7 (now k) q 7 p)) ((tripOps arg5 arg7 X5 X7 k).foldl step (between arg5 X5 v3 t (now k))).t (next k) := by
      rw [Abs.mk.injEq]
      exact ⟨funext fun q => funext fun i => exit_v .., rfl, funext fun q => funext fun h => exit_r .., rfl⟩
    rw [e] at hf
    exact hf
  · have ho := hr.outs
    rw [out_eq, List.append_nil] at ho
    unfold tripPops at ho
    simp only [List.forall₂_cons] at ho
    obtain ⟨h63, h62, h61, h60, h59, h58, h57, h56, h55, h54, h53, h52, h51, h50, h49, h48, h47, h46, h45, h44, h43, h42, h41, h40, h39, h38, h37, h36, h35, h34, h33, h32, h31, h30, h29, h28, h27, h26, h25, h24, h23, h22, h21, h20, h19, h18, h17, h16, h15, h14, h13, h12, h11, h10, h9, h8, h7, h6, h5, h4, h3, h2, h1, h0, -⟩ := ho
    refine ⟨fun q p x hx => ?_, fun q sb p hsb => ?_⟩
    · match q, p with
      | 0, 0 => exact h0 _ hx
      | 0, 1 => exact h2 _ hx
      | 0, 2 => exact h4 _ hx
      | 0, 3 => exact h6 _ hx
      | 1, 0 => exact h1 _ hx
      | 1, 1 => exact h3 _ hx
      | 1, 2 => exact h5 _ hx
      | 1, 3 => exact h7 _ hx
    · match q, sb, p with
      | 0, 0, 0 => exact h8 _ rfl
      | 0, 0, 1 => exact h10 _ rfl
      | 0, 0, 2 => exact h12 _ rfl
      | 0, 0, 3 => exact h14 _ rfl
      | 0, 1, 0 => exact h16 _ rfl
      | 0, 1, 1 => exact h18 _ rfl
      | 0, 1, 2 => exact h20 _ rfl
      | 0, 1, 3 => exact h22 _ rfl
      | 0, 2, 0 => exact h24 _ rfl
      | 0, 2, 1 => exact h26 _ rfl
      | 0, 2, 2 => exact h28 _ rfl
      | 0, 2, 3 => exact h30 _ rfl
      | 0, 3, 0 => exact h32 _ rfl
      | 0, 3, 1 => exact h34 _ rfl
      | 0, 3, 2 => exact h36 _ rfl
      | 0, 3, 3 => exact h38 _ rfl
      | 0, 4, 0 => exact h40 _ rfl
      | 0, 4, 1 => exact h42 _ rfl
      | 0, 4, 2 => exact h44 _ rfl
      | 0, 4, 3 => exact h46 _ rfl
      | 0, 5, 0 => exact h48 _ rfl
      | 0, 5, 1 => exact h50 _ rfl
      | 0, 5, 2 => exact h52 _ rfl
      | 0, 5, 3 => exact h54 _ rfl
      | 0, 6, 0 => exact h56 _ rfl
      | 0, 6, 1 => exact h58 _ rfl
      | 0, 6, 2 => exact h60 _ rfl
      | 0, 6, 3 => exact h62 _ rfl
      | 0, 7, 0 => exact absurd rfl hsb
      | 0, 7, 1 => exact absurd rfl hsb
      | 0, 7, 2 => exact absurd rfl hsb
      | 0, 7, 3 => exact absurd rfl hsb
      | 1, 0, 0 => exact h9 _ rfl
      | 1, 0, 1 => exact h11 _ rfl
      | 1, 0, 2 => exact h13 _ rfl
      | 1, 0, 3 => exact h15 _ rfl
      | 1, 1, 0 => exact h17 _ rfl
      | 1, 1, 1 => exact h19 _ rfl
      | 1, 1, 2 => exact h21 _ rfl
      | 1, 1, 3 => exact h23 _ rfl
      | 1, 2, 0 => exact h25 _ rfl
      | 1, 2, 1 => exact h27 _ rfl
      | 1, 2, 2 => exact h29 _ rfl
      | 1, 2, 3 => exact h31 _ rfl
      | 1, 3, 0 => exact h33 _ rfl
      | 1, 3, 1 => exact h35 _ rfl
      | 1, 3, 2 => exact h37 _ rfl
      | 1, 3, 3 => exact h39 _ rfl
      | 1, 4, 0 => exact h41 _ rfl
      | 1, 4, 1 => exact h43 _ rfl
      | 1, 4, 2 => exact h45 _ rfl
      | 1, 4, 3 => exact h47 _ rfl
      | 1, 5, 0 => exact h49 _ rfl
      | 1, 5, 1 => exact h51 _ rfl
      | 1, 5, 2 => exact h53 _ rfl
      | 1, 5, 3 => exact h55 _ rfl
      | 1, 6, 0 => exact h57 _ rfl
      | 1, 6, 1 => exact h59 _ rfl
      | 1, 6, 2 => exact h61 _ rfl
      | 1, 6, 3 => exact h63 _ rfl
      | 1, 7, 0 => exact absurd rfl hsb
      | 1, 7, 1 => exact absurd rfl hsb
      | 1, 7, 2 => exact absurd rfl hsb
      | 1, 7, 3 => exact absurd rfl hsb

end Cert.Proof.KernelIdeal

end
-- ==== Proof.LoopVal.lean ====
/- What the loop over the row blocks leaves: between two trips the last quarter of a row block's sums is still to be added, and every row
   block before it has its four rows of sums stored. -/
module

public import proofs.«01_k».proof.Proof.LoopI
public import proofs.«01_k».proof.Proof.TripVal
public import Idealize.ShloMosaic.Lib.WritesUnit
public import Idealize.ShloMosaic.Lib.Pipeline.Value

@[expose] public section

set_option maxRecDepth 16384

noncomputable section

namespace Cert.Proof.KernelIdeal

open Cert.KernelIdeal Cert.KernelIdeal.Gen Cert.Proof.MxuRun
open Idealize.ShloMosaic Idealize.ShloMosaic.TcCoe

section Reads

variable {sig : RefSig} {κ : Kind} {sp : Space} {s : Shape} {e : EltTy} {Val : EltTy → Type} (v : View sig κ sp s e) (f : v.ty.Contents Val)

/-- A load of what the last store stored. -/
theorem readAt_cons_hit {off off' size : Fin s.rank → ℕ} (inb : ∀ a, off a + size a ≤ s.size a) (inb' : ∀ a, off' a + size a ≤ s.size a)
    (w : (Rect.unit off size inb).shape.Idx → Val e) (L : List (View.Piece Val s e)) (h : off = off') :
    View.readAt Val v (Rect.unit off' size inb').toLoadRect (v.writes Val f ((⟨Rect.unit off size inb, w⟩ : View.Piece Val s e) :: L)) = w := by
  subst h
  funext x
  rw [View.readAt_apply]
  exact View.read_writes_cons_unit_of_mem v f inb w L _ x rfl fun a => by
    show off a + 1 * (x a).val = off a + (x a).val
    rw [Nat.one_mul]

/-- A load apart from the last store. -/
theorem readAt_cons_miss {off off' off'' size size' : Fin s.rank → ℕ} (inb : ∀ a, off a + size a ≤ s.size a) (inb' : ∀ a, off' a + size' a ≤ s.size a)
    (w : (Rect.unit off size inb).shape.Idx → Val e) (L : List (View.Piece Val s e)) (h : off = off'') (a : Fin s.rank)
    (ha : off' a + size' a ≤ off'' a ∨ off'' a + size a ≤ off' a) :
    View.readAt Val v (Rect.unit off' size' inb').toLoadRect (v.writes Val f ((⟨Rect.unit off size inb, w⟩ : View.Piece Val s e) :: L))
      = View.readAt Val v (Rect.unit off' size' inb').toLoadRect (v.writes Val f L) := by
  subst h
  funext x
  rw [View.readAt_apply, View.readAt_apply]
  refine View.read_writes_cons_unit_of_not_mem v f inb w L _ rfl a ?_
  have hx : (x a).val < size' a := (x a).isLt
  show off' a + 1 * (x a).val < off a ∨ off a + size a ≤ off' a + 1 * (x a).val
  omega

end Reads

variable {F : FTy → Type} [FloatOps F]

theorem slot_inb (s : Fin 41) (i : Fin 8) : ∀ a, (![s.val, i.val, 0] : Fin 3 → Nat) a + S1x1x128.size a ≤ S41x8x128.size a := by
  have := s.isLt; have := i.isLt
  intro a
  match a with
  | 0 => show s.val + 1 ≤ 41; omega
  | 1 => show i.val + 1 ≤ 8; omega
  | 2 => exact Nat.le_refl _

/-- Row `i` of slot `s` of the sums. -/
def slotRow (arg10 : Memref sig .tc .vmem S41x8x128 .f32) (f10 : BufTy.Contents (Elt F) arg10.view.ty) (s : Fin 41) (i : Fin 8) : Vec F S1x1x128 .f32 :=
  View.readAt (Elt F) arg10.view (Rect.unit (s := S41x8x128) ![s.val, i.val, 0] S1x1x128.size (slot_inb s i)).toLoadRect f10

/-- The strip of unit `q` and half `h` of its columns. -/
def str (q h : Fin 2) : Fin 8 := ⟨2 * q.val + h.val, by omega⟩

/-- The slot of row block `r`. -/
def slotOf (r : Fin 40) : Fin 41 := ⟨r.val + 1, by omega⟩

/-- What row block `r` stores for a strip, over what was there. -/
def rowOf (arg5 : Memref sig .tc .vmem S40x256x512 .i32) (arg7 : Memref sig .tc .vmem S1024x2x512 .bf16) (arg8 : Memref sig .tc .vmem S2048x128 .f32)
    (X5 : BufTy.Contents (Elt F) arg5.view.ty) (X7 : BufTy.Contents (Elt F) arg7.view.ty) (X8 : BufTy.Contents (Elt F) arg8.view.ty)
    (v0 : BitVec 1) (r : Fin 40) (q h : Fin 2) (old : Vec F S1x1x128 .f32) : FVec F S1x1x128 .f32 :=
  fin v0 (hinge8 h (blk arg5 arg7 X5 X7 r q) (bb arg8 X8) (hinge6 h (blk arg5 arg7 X5 X7 r q) (bb arg8 X8)))
    (log8 h (blk arg5 arg7 X5 X7 r q) (bb arg8 X8) (log6 h (blk arg5 arg7 X5 X7 r q) (bb arg8 X8))) old

theorem hinge6_congr (h : Fin 2) {v v' : Fin 8 → Fin 4 → FVec F S64x256 .f32} (b : Fin 8 → Fin 4 → Vec F S64x128 .f32)
    (e : ∀ sb p, sb ≠ 7 → v sb p = v' sb p) : hinge6 h v b = hinge6 h v' b := by
  unfold hinge6
  simp only [e 0 _ (by decide), e 1 _ (by decide), e 2 _ (by decide), e 3 _ (by decide), e 4 _ (by decide), e 5 _ (by decide)]

theorem log6_congr (h : Fin 2) {v v' : Fin 8 → Fin 4 → FVec F S64x256 .f32} (b : Fin 8 → Fin 4 → Vec F S64x128 .f32)
    (e : ∀ sb p, sb ≠ 7 → v sb p = v' sb p) : log6 h v b = log6 h v' b := by
  unfold log6 logPart
  simp only [e 0 _ (by decide), e 1 _ (by decide), e 2 _ (by decide), e 3 _ (by decide), e 4 _ (by decide), e 5 _ (by decide)]

theorem hinge8_congr (h : Fin 2) {v v' : Fin 8 → Fin 4 → FVec F S64x256 .f32} (b : Fin 8 → Fin 4 → Vec F S64x128 .f32) (a : FVec F S8x128 .f32)
    (e6 : ∀ p, v 6 p = v' 6 p) (e7 : ∀ p, v 7 p = v' 7 p) : hinge8 h v b a = hinge8 h v' b a := by
  unfold hinge8; simp only [e6, e7]

theorem log8_congr (h : Fin 2) {v v' : Fin 8 → Fin 4 → FVec F S64x256 .f32} (b : Fin 8 → Fin 4 → Vec F S64x128 .f32) (a : FVec F S8x128 .f32)
    (e6 : ∀ p, v 6 p = v' 6 p) (e7 : ∀ p, v 7 p = v' 7 p) : log8 h v b a = log8 h v' b a := by
  unfold log8 logPart; simp only [e6, e7]

theorem cast_cast (x : FVec F S64x256 .f32) :
    shapeCast S64x256 (shapeCast S1x1x64x256 x shapeCasts_S64x256_S1x1x64x256) shapeCasts_S1x1x64x256_S64x256 = x :=
  shapeCast_shapeCast _ _ _

section Loop

variable (arg5 : Memref sig .tc .vmem S40x256x512 .i32) (arg7 : Memref sig .tc .vmem S1024x2x512 .bf16) (arg8 : Memref sig .tc .vmem S2048x128 .f32)
  (arg9 : Memref sig .tc .vmem S4x2x64x256 .f32) (arg10 : Memref sig .tc .vmem S41x8x128 .f32) (v0 : BitVec 1)
  (X5 : BufTy.Contents (Elt F) arg5.view.ty) (X7 : BufTy.Contents (Elt F) arg7.view.ty) (X8 : BufTy.Contents (Elt F) arg8.view.ty)
  (G9 : BufTy.Contents (Elt F) arg9.view.ty) (G10 : BufTy.Contents (Elt F) arg10.view.ty)

/-- Parked blocks are read back. -/
theorem parked_parkL (f9 : BufTy.Contents (Elt F) arg9.view.ty) (L : List (View.Piece (Elt F) S4x2x64x256 .f32)) (k : Fin k0_t2_loop.trips) (s : Mxu F) (p : Fin 4) (q : Fin 2) :
    parked arg9 (arg9.view.writes (Elt F) f9 (parkL arg5 arg7 X5 X7 k s ++ L)) p q = popV arg5 arg7 X5 X7 k s q 6 p := by
  have hit : ∀ (p p' : Fin 4) (q q' : Fin 2) (w : FVec F S64x256 .f32) (L : List (View.Piece (Elt F) S4x2x64x256 .f32)) (_ : p = p') (_ : q = q'),
      parked arg9 (arg9.view.writes (Elt F) f9 ((⟨Rect.unit (s := S4x2x64x256) ![p.val, q.val, 0, 0] S1x1x64x256.size (zp_inb p q),
        shapeCast S1x1x64x256 w shapeCasts_S64x256_S1x1x64x256⟩ : View.Piece (Elt F) S4x2x64x256 .f32) :: L)) p' q' = w := by
    intro p p' q q' w L hp hq
    subst hp hq
    unfold parked
    rw [readAt_cons_hit arg9.view f9 _ _ _ _ rfl]
    exact cast_cast w
  have miss : ∀ (p p' : Fin 4) (q q' : Fin 2) (w : FVec F S64x256 .f32) (L : List (View.Piece (Elt F) S4x2x64x256 .f32)) (_ : p ≠ p' ∨ q ≠ q'),
      parked arg9 (arg9.view.writes (Elt F) f9 ((⟨Rect.unit (s := S4x2x64x256) ![p.val, q.val, 0, 0] S1x1x64x256.size (zp_inb p q),
        shapeCast S1x1x64x256 w shapeCasts_S64x256_S1x1x64x256⟩ : View.Piece (Elt F) S4x2x64x256 .f32) :: L)) p' q' = parked arg9 (arg9.view.writes (Elt F) f9 L) p' q' := by
    intro p p' q q' w L hpq
    unfold parked
    rcases hpq with hp | hq
    · rw [readAt_cons_miss arg9.view f9 _ _ _ _ rfl 0]
      have : p.val ≠ p'.val := fun e => hp (Fin.ext e)
      show p'.val + 1 ≤ p.val ∨ p.val + 1 ≤ p'.val
      omega
    · rw [readAt_cons_miss arg9.view f9 _ _ _ _ rfl 1]
      have : q.val ≠ q'.val := fun e => hq (Fin.ext e)
      show q'.val + 1 ≤ q.val ∨ q.val + 1 ≤ q'.val
      omega
  show parked arg9 (arg9.view.writes (Elt F) f9 (_ :: _ :: _ :: _ :: _ :: _ :: _ :: _ :: L)) p q = _
  match p, q with
  | 3, 1 => exact hit 3 3 1 1 _ _ rfl rfl
  | 3, 0 => exact (miss 3 3 1 0 _ _ (by decide)).trans (hit 3 3 0 0 _ _ rfl rfl)
  | 2, 1 => exact (miss 3 2 1 1 _ _ (by decide)).trans ((miss 3 2 0 1 _ _ (by decide)).trans (hit 2 2 1 1 _ _ rfl rfl))
  | 2, 0 => exact (miss 3 2 1 0 _ _ (by decide)).trans ((miss 3 2 0 0 _ _ (by decide)).trans ((miss 2 2 1 0 _ _ (by decide)).trans (hit 2 2 0 0 _ _ rfl rfl)))
  | 1, 1 => exact (miss 3 1 1 1 _ _ (by decide)).trans ((miss 3 1 0 1 _ _ (by decide)).trans ((miss 2 1 1 1 _ _ (by decide)).trans ((miss 2 1 0 1 _ _ (by decide)).trans (hit 1 1 1 1 _ _ rfl rfl))))
  | 1, 0 => exact (miss 3 1 1 0 _ _ (by decide)).trans ((miss 3 1 0 0 _ _ (by decide)).trans ((miss 2 1 1 0 _ _ (by decide)).trans ((miss 2 1 0 0 _ _ (by decide)).trans ((miss 1 1 1 0 _ _ (by decide)).trans (hit 1 1 0 0 _ _ rfl rfl)))))
  | 0, 1 => exact (miss 3 0 1 1 _ _ (by decide)).trans ((miss 3 0 0 1 _ _ (by decide)).trans ((miss 2 0 1 1 _ _ (by decide)).trans ((miss 2 0 0 1 _ _ (by decide)).trans ((miss 1 0 1 1 _ _ (by decide)).trans ((miss 1 0 0 1 _ _ (by decide)).trans (hit 0 0 1 1 _ _ rfl rfl))))))
  | 0, 0 => exact (miss 3 0 1 0 _ _ (by decide)).trans ((miss 3 0 0 0 _ _ (by decide)).trans ((miss 2 0 1 0 _ _ (by decide)).trans ((miss 2 0 0 0 _ _ (by decide)).trans ((miss 1 0 1 0 _ _ (by decide)).trans ((miss 1 0 0 0 _ _ (by decide)).trans ((miss 0 0 1 0 _ _ (by decide)).trans (hit 0 0 0 0 _ _ rfl rfl)))))))

theorem slotRow_hit (f10 : BufTy.Contents (Elt F) arg10.view.ty) (off : Fin 3 → ℕ) (inb : ∀ a, off a + S1x1x128.size a ≤ S41x8x128.size a) (w : FVec F S1x1x128 .f32)
    (L : List (View.Piece (Elt F) S41x8x128 .f32)) (s : Fin 41) (i : Fin 8) (h : off = ![s.val, i.val, 0]) :
    slotRow arg10 (arg10.view.writes (Elt F) f10 ((⟨Rect.unit (s := S41x8x128) off S1x1x128.size inb, w⟩ : View.Piece (Elt F) S41x8x128 .f32) :: L)) s i = w :=
  readAt_cons_hit arg10.view f10 inb (slot_inb s i) w L h

theorem slotRow_miss (f10 : BufTy.Contents (Elt F) arg10.view.ty) (off : Fin 3 → ℕ) (inb : ∀ a, off a + S1x1x128.size a ≤ S41x8x128.size a) (w : FVec F S1x1x128 .f32)
    (L : List (View.Piece (Elt F) S41x8x128 .f32)) (s : Fin 41) (i : Fin 8) (s' i' : ℕ) (h : off = ![s', i', 0]) (hne : s' ≠ s.val ∨ i' ≠ i.val) :
    slotRow arg10 (arg10.view.writes (Elt F) f10 ((⟨Rect.unit (s := S41x8x128) off S1x1x128.size inb, w⟩ : View.Piece (Elt F) S41x8x128 .f32) :: L)) s i
      = slotRow arg10 (arg10.view.writes (Elt F) f10 L) s i := by
  rcases hne with hs | hi
  · exact readAt_cons_miss arg10.view f10 inb (slot_inb s i) w L h 0 (by show s.val + 1 ≤ s' ∨ s' + 1 ≤ s.val; omega)
  · exact readAt_cons_miss arg10.view f10 inb (slot_inb s i) w L h 1 (by show i.val + 1 ≤ i' ∨ i' + 1 ≤ i.val; omega)

theorem readAt_slotRow (f10 : BufTy.Contents (Elt F) arg10.view.ty) (off : Fin 3 → ℕ) (inb : ∀ a, off a + S1x1x128.size a ≤ S41x8x128.size a)
    (s : Fin 41) (i : Fin 8) (h : off = ![s.val, i.val, 0]) :
    View.readAt (Elt F) arg10.view (Rect.unit (s := S41x8x128) off S1x1x128.size inb).toLoadRect f10 = slotRow arg10 f10 s i := by
  subst h; rfl

/-- One trip more, by the lemmas on a trip. -/
def nextMade (k : Fin k0_t2_loop.trips) (p : Made F) : Made F :=
  let s := p.carry.2.2.2.2.2.2.2.2
  ⟨(hinge6 0 (popV arg5 arg7 X5 X7 k s 0) (bb arg8 X8), hinge6 1 (popV arg5 arg7 X5 X7 k s 0) (bb arg8 X8), hinge6 0 (popV arg5 arg7 X5 X7 k s 1) (bb arg8 X8), hinge6 1 (popV arg5 arg7 X5 X7 k s 1) (bb arg8 X8),
      log6 0 (popV arg5 arg7 X5 X7 k s 0) (bb arg8 X8), log6 1 (popV arg5 arg7 X5 X7 k s 0) (bb arg8 X8), log6 0 (popV arg5 arg7 X5 X7 k s 1) (bb arg8 X8), log6 1 (popV arg5 arg7 X5 X7 k s 1) (bb arg8 X8),
      mxuOut arg5 arg7 X5 X7 k s),
    parkL arg5 arg7 X5 X7 k s ++ p.L9,
    sumL arg5 arg7 arg8 arg9 arg10 v0 X5 X7 X8 (arg9.view.writes (Elt F) G9 p.L9) (arg10.view.writes (Elt F) G10 p.L10) k
      p.carry.1 p.carry.2.1 p.carry.2.2.1 p.carry.2.2.2.1 p.carry.2.2.2.2.1 p.carry.2.2.2.2.2.1 p.carry.2.2.2.2.2.2.1 p.carry.2.2.2.2.2.2.2.1 s ++ p.L10⟩

/-- The state between two trips, before trip `k`. -/
structure Good (k : ℕ) (p : Made F) : Prop where
  units : ∃ v3 t, Rep p.carry.2.2.2.2.2.2.2.2 (between arg5 X5 v3 t ⟨min k 39, by omega⟩) []
    ∧ ∀ r : Fin 40, r.val + 1 = k → ∀ q p, v3 q p = some (blk arg5 arg7 X5 X7 r q 7 p)
  sums : ∀ r : Fin 40, r.val + 1 = k → p.carry.1 = hinge6 0 (blk arg5 arg7 X5 X7 r 0) (bb arg8 X8)
    ∧ p.carry.2.1 = hinge6 1 (blk arg5 arg7 X5 X7 r 0) (bb arg8 X8)
    ∧ p.carry.2.2.1 = hinge6 0 (blk arg5 arg7 X5 X7 r 1) (bb arg8 X8)
    ∧ p.carry.2.2.2.1 = hinge6 1 (blk arg5 arg7 X5 X7 r 1) (bb arg8 X8)
    ∧ p.carry.2.2.2.2.1 = log6 0 (blk arg5 arg7 X5 X7 r 0) (bb arg8 X8)
    ∧ p.carry.2.2.2.2.2.1 = log6 1 (blk arg5 arg7 X5 X7 r 0) (bb arg8 X8)
    ∧ p.carry.2.2.2.2.2.2.1 = log6 0 (blk arg5 arg7 X5 X7 r 1) (bb arg8 X8)
    ∧ p.carry.2.2.2.2.2.2.2.1 = log6 1 (blk arg5 arg7 X5 X7 r 1) (bb arg8 X8)
  park : ∀ r : Fin 40, r.val + 1 = k → ∀ b q, parked arg9 (arg9.view.writes (Elt F) G9 p.L9) b q = blk arg5 arg7 X5 X7 r q 6 b
  done : ∀ r : Fin 40, r.val + 2 ≤ k → ∀ q h, slotRow arg10 (arg10.view.writes (Elt F) G10 p.L10) (slotOf r) (str q h)
    = rowOf arg5 arg7 arg8 X5 X7 X8 v0 r q h (slotRow arg10 G10 (slotOf r) (str q h))
  rest : ∀ s : Fin 41, k ≤ s.val → ∀ i, slotRow arg10 (arg10.view.writes (Elt F) G10 p.L10) s i = slotRow arg10 G10 s i

variable {arg5 arg7 arg8 arg9 arg10 v0 X5 X7 X8 G9 G10}

theorem row_eq {p : Made F} {v : Fin 8 → Fin 4 → FVec F S64x256 .f32} {r : Fin 40} {q : Fin 2} (h : Fin 2) {a a' : FVec F S8x128 .f32} {o o' : Vec F S1x1x128 .f32}
    (e6 : ∀ b, v 6 b = blk arg5 arg7 X5 X7 r q 6 b) (e7 : ∀ b, v 7 b = blk arg5 arg7 X5 X7 r q 7 b)
    (ha : a = hinge6 h (blk arg5 arg7 X5 X7 r q) (bb arg8 X8)) (ha' : a' = log6 h (blk arg5 arg7 X5 X7 r q) (bb arg8 X8)) (ho : o = o') :
    fin v0 (hinge8 h v (bb arg8 X8) a) (log8 h v (bb arg8 X8) a') o = rowOf arg5 arg7 arg8 X5 X7 X8 v0 r q h o' := by
  subst ha ha' ho
  unfold rowOf
  rw [hinge8_congr h _ _ e6 e7, log8_congr h _ _ e6 e7]

theorem good_step {k : Fin k0_t2_loop.trips} {p : Made F} (g : Good arg5 arg7 arg8 arg9 arg10 v0 X5 X7 X8 G9 G10 k.val p) :
    Good arg5 arg7 arg8 arg9 arg10 v0 X5 X7 X8 G9 G10 (k.val + 1) (nextMade arg5 arg7 arg8 arg9 arg10 v0 X5 X7 X8 G9 G10 k p) := by
  obtain ⟨⟨v3, t, hr, h7⟩, hs, hp, hd, hrest⟩ := g
  have hk : k.val < 40 := Nat.lt_of_lt_of_le k.isLt k0_t2_abs.2.1
  have en : (⟨min k.val 39, by omega⟩ : Fin 40) = now k := Fin.ext (by show min k.val 39 = k.val; omega)
  rw [en] at hr
  obtain ⟨⟨t', hr'⟩, ho7, ho⟩ := trip_units arg5 arg7 X5 X7 k v3 t _ hr
  have hnow : ∀ r : Fin 40, r.val + 1 = k.val + 1 → r = now k := fun r hr => Fin.ext (by show r.val = k.val; omega)
  -- the sub-tiles left by the trip before
  have p6 : ∀ r : Fin 40, r.val + 1 = k.val → ∀ q b, prevV arg5 arg7 arg9 X5 X7 (arg9.view.writes (Elt F) G9 p.L9) k p.carry.2.2.2.2.2.2.2.2 q 6 b = blk arg5 arg7 X5 X7 r q 6 b :=
    fun r hr q b => hp r hr b q
  have p7 : ∀ r : Fin 40, r.val + 1 = k.val → ∀ q b, prevV arg5 arg7 arg9 X5 X7 (arg9.view.writes (Elt F) G9 p.L9) k p.carry.2.2.2.2.2.2.2.2 q 7 b = blk arg5 arg7 X5 X7 r q 7 b :=
    fun r hr q b => ho7 q b _ (h7 r hr q b)
  have o12 : k0_off12 k = ![k.val, 0, 0] := k0_off12_eq k
  have o13 : k0_off13 k = ![k.val, 1, 0] := k0_off13_eq k
  have o14 : k0_off14 k = ![k.val, 2, 0] := k0_off14_eq k
  have o15 : k0_off15 k = ![k.val, 3, 0] := k0_off15_eq k
  refine ⟨⟨_, t', hr', fun r hr q b => by rw [hnow r hr]⟩, fun r hr => ?_, fun r hr b q => ?_, fun r hr q h => ?_, fun s hs' i => ?_⟩
  · rw [hnow r hr]
    exact ⟨hinge6_congr _ _ (ho 0), hinge6_congr _ _ (ho 0), hinge6_congr _ _ (ho 1), hinge6_congr _ _ (ho 1), log6_congr _ _ (ho 0), log6_congr _ _ (ho 0), log6_congr _ _ (ho 1), log6_congr _ _ (ho 1)⟩
  · rw [hnow r hr, ← ho q 6 b (by decide)]
    exact parked_parkL arg5 arg7 arg9 X5 X7 G9 p.L9 k _ b q
  · show slotRow arg10 (arg10.view.writes (Elt F) G10 (_ :: _ :: _ :: _ :: p.L10)) (slotOf r) (str q h) = _
    by_cases hlt : r.val + 2 ≤ k.val
    · have hne : k.val ≠ (slotOf r).val := by show k.val ≠ r.val + 1; omega
      rw [slotRow_miss _ _ _ _ _ _ _ _ _ _ o15 (.inl hne), slotRow_miss _ _ _ _ _ _ _ _ _ _ o14 (.inl hne), slotRow_miss _ _ _ _ _ _ _ _ _ _ o13 (.inl hne),
        slotRow_miss _ _ _ _ _ _ _ _ _ _ o12 (.inl hne)]
      exact hd r hlt q h
    · have hrk : r.val + 1 = k.val := by omega
      have hsk : (slotOf r).val = k.val := hrk
      obtain ⟨s0, s1, s2, s3, s4, s5, s6, s7⟩ := hs r hrk
      have old : ∀ (i : Fin 8) (off : Fin 3 → ℕ) (inb : ∀ a, off a + S1x1x128.size a ≤ S41x8x128.size a), off = ![k.val, i.val, 0] →
          View.readAt (Elt F) arg10.view (Rect.unit (s := S41x8x128) off S1x1x128.size inb).toLoadRect (arg10.view.writes (Elt F) G10 p.L10) = slotRow arg10 G10 (slotOf r) i := by
        intro i off inb e
        rw [readAt_slotRow arg10 _ off inb (slotOf r) i (by rw [e, hsk]), hrest (slotOf r) (by omega) i]
      match q, h with
      | 1, 1 =>
        rw [slotRow_hit _ _ _ _ _ _ _ (str 1 1) (by rw [o15, hsk]; rfl)]
        exact row_eq (p := p) 1 (p6 r hrk 1) (p7 r hrk 1) s3 s7 (old 3 _ _ o15)
      | 1, 0 =>
        rw [slotRow_miss _ _ _ _ _ _ _ _ _ _ o15 (.inr (by decide)), slotRow_hit _ _ _ _ _ _ _ (str 1 0) (by rw [o14, hsk]; rfl)]
        exact row_eq (p := p) 0 (p6 r hrk 1) (p7 r hrk 1) s2 s6 (old 2 _ _ o14)
      | 0, 1 =>
        rw [slotRow_miss _ _ _ _ _ _ _ _ _ _ o15 (.inr (by decide)), slotRow_miss _ _ _ _ _ _ _ _ _ _ o14 (.inr (by decide)), slotRow_hit _ _ _ _ _ _ _ (str 0 1) (by rw [o13, hsk]; rfl)]
        exact row_eq (p := p) 1 (p6 r hrk 0) (p7 r hrk 0) s1 s5 (old 1 _ _ o13)
      | 0, 0 =>
        rw [slotRow_miss _ _ _ _ _ _ _ _ _ _ o15 (.inr (by decide)), slotRow_miss _ _ _ _ _ _ _ _ _ _ o14 (.inr (by decide)), slotRow_miss _ _ _ _ _ _ _ _ _ _ o13 (.inr (by decide)),
          slotRow_hit _ _ _ _ _ _ _ (str 0 0) (by rw [o12, hsk]; rfl)]
        exact row_eq (p := p) 0 (p6 r hrk 0) (p7 r hrk 0) s0 s4 (old 0 _ _ o12)
  · show slotRow arg10 (arg10.view.writes (Elt F) G10 (_ :: _ :: _ :: _ :: p.L10)) s i = _
    have hne : k.val ≠ s.val := by omega
    rw [slotRow_miss _ _ _ _ _ _ _ _ _ _ o15 (.inl hne), slotRow_miss _ _ _ _ _ _ _ _ _ _ o14 (.inl hne), slotRow_miss _ _ _ _ _ _ _ _ _ _ o13 (.inl hne),
      slotRow_miss _ _ _ _ _ _ _ _ _ _ o12 (.inl hne)]
    exact hrest s (by omega) i

/-- Before the first trip. -/
theorem good_init {init : Carry F} (h : Rep init.2.2.2.2.2.2.2.2 (between arg5 X5 (fun _ _ => none) (fun _ => constant _ .bf16 0) 0) []) :
    Good arg5 arg7 arg8 arg9 arg10 v0 X5 X7 X8 G9 G10 0 ⟨init, [], []⟩ where
  units := ⟨_, _, h, fun r hr => absurd hr (by omega)⟩
  sums r hr := absurd hr (by omega)
  park r hr := absurd hr (by omega)
  done r hr := absurd hr (by omega)
  rest s _ i := rfl

end Loop

theorem mk_congr {a a' : Carry F} {L9 L9' M9 : List (View.Piece (Elt F) S4x2x64x256 .f32)} {L10 L10' M10 : List (View.Piece (Elt F) S41x8x128 .f32)}
    (ha : a = a') (h9 : L9 = L9') (h10 : L10 = L10') : (⟨a, L9 ++ M9, L10 ++ M10⟩ : Made F) = ⟨a', L9' ++ M9, L10' ++ M10⟩ := by
  subst ha h9 h10; rfl

theorem more_eq (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (k : Fin k0_t2_loop.trips) (p : Made F) :
    more (F := F) c i arg2 harg2 arg3 harg3 arg4 harg4 arg5 harg5 arg6 harg6 arg7 harg7 arg8 harg8 arg9 harg9 arg10 harg10 k0_mxu1 v0 X5 X7 X8 G9 G10 k p = nextMade arg5 arg7 arg8 arg9 arg10 v0 X5 X7 X8 G9 G10 k p := by
  exact mk_congr (trip_carry ..) (trip_park ..) (trip_sums ..)

/-- Before every trip, and after the last. -/
theorem good_made (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (k0_mxu1 : Mxu F) (v0 : BitVec 1) (init : Carry F)
    (X5 : BufTy.Contents (Elt F) arg5.view.ty) (X7 : BufTy.Contents (Elt F) arg7.view.ty) (X8 : BufTy.Contents (Elt F) arg8.view.ty)
    (G9 : BufTy.Contents (Elt F) arg9.view.ty) (G10 : BufTy.Contents (Elt F) arg10.view.ty) (h : Rep init.2.2.2.2.2.2.2.2 (between arg5 X5 (fun _ _ => none) (fun _ => constant _ .bf16 0) 0) []) : ∀ k : ℕ, k ≤ k0_t2_loop.trips →
    Good arg5 arg7 arg8 arg9 arg10 v0 X5 X7 X8 G9 G10 k (made (F := F) c i arg2 harg2 arg3 harg3 arg4 harg4 arg5 harg5 arg6 harg6 arg7 harg7 arg8 harg8 arg9 harg9 arg10 harg10 k0_mxu1 v0 init X5 X7 X8 G9 G10 k)
  | 0, _ => good_init h
  | k + 1, hk => by
    rw [made_succ (F := F) c i arg2 harg2 arg3 harg3 arg4 harg4 arg5 harg5 arg6 harg6 arg7 harg7 arg8 harg8 arg9 harg9 arg10 harg10 k0_mxu1 v0 init X5 X7 X8 G9 G10 ⟨k, hk⟩, more_eq]
    exact good_step (k := ⟨k, hk⟩) (good_made c i arg2 harg2 arg3 harg3 arg4 harg4 arg5 harg5 arg6 harg6 arg7 harg7 arg8 harg8 arg9 harg9 arg10 harg10 k0_mxu1 v0 init X5 X7 X8 G9 G10 h k (by omega))

end Cert.Proof.KernelIdeal

end
-- ==== Proof.Softplus.lean ====
/- One softplus in the extended reals: the reference's formula, and the kernel's from the half logit, with the logarithms of factors
   between 1 and 2 taken together. -/
module

public import Idealize.ShloMosaic.PureOps.Ideal
public import Mathlib.Analysis.SpecialFunctions.Log.Basic
public import Mathlib.Analysis.SpecialFunctions.Trigonometric.DerivHyp
public import Mathlib.Data.EReal.Operations
public import Mathlib.Data.EReal.Inv

@[expose] public section

noncomputable section

namespace Cert.Proof.Softplus

open Idealize.ShloMosaic

/-- The factor of a half logit, as a real. -/
def fac : EReal → ℝ
  | ⊥ => 2
  | ⊤ => 2
  | (r : ℝ) => 1 + Real.tanh |r|

/-- The logarithm of half of it. -/
def lg (y : EReal) : ℝ := Real.log (fac y) - Real.log 2

/-- The softplus of `z`. -/
def sp (z : EReal) : EReal := max z 0 + Ideal.log1p (Ideal.exp (-(max z (-z))))

theorem coe_max (a b : ℝ) : ((max a b : ℝ) : EReal) = max (a : EReal) (b : EReal) := EReal.coe_strictMono.monotone.map_max

theorem tanh_nonneg {x : ℝ} (hx : 0 ≤ x) : 0 ≤ Real.tanh x := by
  rw [Real.tanh_eq_sinh_div_cosh]
  exact div_nonneg (Real.sinh_nonneg_iff.2 hx) (Real.cosh_pos x).le

theorem fac_pos (y : EReal) : 0 < fac y := by
  induction y with
  | bot => exact two_pos
  | top => exact two_pos
  | coe r => have := tanh_nonneg (abs_nonneg r); show 0 < 1 + Real.tanh |r|; linarith

theorem one_add_tanh (a : ℝ) : 1 + Real.tanh a = 2 / (1 + Real.exp (-(2 * a))) := by
  have hc := Real.cosh_pos a
  rw [Real.tanh_eq_sinh_div_cosh, Real.cosh_eq, Real.sinh_eq]
  have e : Real.exp (-(2 * a)) = Real.exp (-a) * Real.exp (-a) := by rw [← Real.exp_add]; congr 1; ring
  have h1 := Real.exp_pos a
  have h2 := Real.exp_pos (-a)
  have h3 : Real.exp a * Real.exp (-a) = 1 := by rw [← Real.exp_add]; simp
  rw [e]
  have : Real.exp a + Real.exp (-a) ≠ 0 := by positivity
  have : 1 + Real.exp (-a) * Real.exp (-a) ≠ 0 := by positivity
  field_simp
  nlinarith [h3]

/-- The factor is one plus the hyperbolic tangent of the absolute value. -/
theorem fac_eq (y : EReal) : (1 : EReal) + Ideal.tanh (max y (-y)) = (fac y : EReal) := by
  induction y with
  | bot =>
    rw [EReal.neg_bot, max_eq_right (bot_le : (⊥ : EReal) ≤ ⊤)]
    show (1 : EReal) + 1 = ((2 : ℝ) : EReal)
    norm_num
    rfl
  | top =>
    rw [EReal.neg_top, max_eq_left (bot_le : (⊥ : EReal) ≤ ⊤)]
    show (1 : EReal) + 1 = ((2 : ℝ) : EReal)
    norm_num
    rfl
  | coe r =>
    have : max (r : EReal) (-(r : EReal)) = ((|r| : ℝ) : EReal) := by
      rw [← EReal.coe_neg, ← coe_max]; rfl
    rw [this]
    show ((1 : ℝ) : EReal) + ((Real.tanh |r| : ℝ) : EReal) = ((1 + Real.tanh |r| : ℝ) : EReal)
    rw [EReal.coe_add]

theorem lg_coe (r : ℝ) : lg r = -Real.log (1 + Real.exp (-(2 * |r|))) := by
  show Real.log (1 + Real.tanh |r|) - Real.log 2 = _
  have h := Real.exp_pos (-(2 * |r|))
  rw [one_add_tanh, Real.log_div two_ne_zero (by positivity)]
  ring

/-- The kernel's softplus of `2 y`. -/
theorem sp_two (y : EReal) : 2 * max y 0 - (lg y : EReal) = sp (2 * y) := by
  unfold sp
  induction y with
  | bot =>
    have h2 : (2 : EReal) * ⊥ = ⊥ := EReal.mul_bot_of_pos (by norm_num)
    rw [h2, EReal.neg_bot, max_eq_right (bot_le : (⊥ : EReal) ≤ ⊤), max_eq_right (bot_le : (⊥ : EReal) ≤ 0)]
    show 2 * 0 - ((Real.log 2 - Real.log 2 : ℝ) : EReal) = 0 + Ideal.log (1 + Ideal.exp (-⊤))
    rw [EReal.neg_top]
    show 2 * 0 - ((Real.log 2 - Real.log 2 : ℝ) : EReal) = 0 + Ideal.log (((1 : ℝ) : EReal) + ((0 : ℝ) : EReal))
    rw [← EReal.coe_add]
    show 2 * 0 - ((Real.log 2 - Real.log 2 : ℝ) : EReal) = 0 + (if (1 + 0 : ℝ) ≤ 0 then ⊥ else ((Real.log (1 + 0) : ℝ) : EReal))
    rw [if_neg (by norm_num)]
    simp
  | top =>
    have h2 : (2 : EReal) * ⊤ = ⊤ := EReal.mul_top_of_pos (by norm_num)
    rw [h2, EReal.neg_top, max_eq_left (bot_le : (⊥ : EReal) ≤ ⊤), max_eq_left (le_top : (0 : EReal) ≤ ⊤), h2, EReal.neg_top]
    show ⊤ - ((Real.log 2 - Real.log 2 : ℝ) : EReal) = ⊤ + Ideal.log (((1 : ℝ) : EReal) + ((0 : ℝ) : EReal))
    rw [← EReal.coe_add]
    show ⊤ - ((Real.log 2 - Real.log 2 : ℝ) : EReal) = ⊤ + (if (1 + 0 : ℝ) ≤ 0 then ⊥ else ((Real.log (1 + 0) : ℝ) : EReal))
    rw [if_neg (by norm_num)]
    simp
  | coe r =>
    have e2 : (2 : EReal) * (r : EReal) = ((2 * r : ℝ) : EReal) := by rw [EReal.coe_mul]; rfl
    have em : max ((2 * r : ℝ) : EReal) (-((2 * r : ℝ) : EReal)) = ((2 * |r| : ℝ) : EReal) := by
      rw [← EReal.coe_neg, ← coe_max]
      congr 1
      show |2 * r| = 2 * |r|
      rw [abs_mul, abs_two]
    rw [e2, em, lg_coe, ← EReal.coe_neg (2 * |r|)]
    have hp := Real.exp_pos (-(2 * |r|))
    show (2 : EReal) * max (r : EReal) ((0 : ℝ) : EReal) - _ = max ((2 * r : ℝ) : EReal) ((0 : ℝ) : EReal) + Ideal.log (((1 : ℝ) : EReal) + ((Real.exp (-(2 * |r|)) : ℝ) : EReal))
    rw [← EReal.coe_add]
    show _ = max ((2 * r : ℝ) : EReal) ((0 : ℝ) : EReal) + (if (1 + Real.exp (-(2 * |r|)) : ℝ) ≤ 0 then ⊥ else ((Real.log (1 + Real.exp (-(2 * |r|))) : ℝ) : EReal))
    rw [if_neg (by linarith), ← coe_max, ← coe_max, ← EReal.coe_add]
    have e3 : (2 : EReal) * ((max r 0 : ℝ) : EReal) = ((2 * max r 0 : ℝ) : EReal) := by rw [EReal.coe_mul]; rfl
    rw [e3, ← EReal.coe_sub]
    congr 1
    rw [sub_neg_eq_add]
    congr 1
    rw [mul_max_of_nonneg _ _ (by norm_num : (0 : ℝ) ≤ 2), mul_zero]

/-- A product of factors, scaled, has the sum of the halved factors' logarithms as its logarithm. -/
theorem log_scaled {P : ℝ} (hP : 0 < P) (n : ℕ) : Ideal.log ((P : EReal) * (((2 : ℝ) ^ (-(n : ℤ)) : ℝ) : EReal)) = ((Real.log P - n * Real.log 2 : ℝ) : EReal) := by
  rw [← EReal.coe_mul]
  have h2 : (0 : ℝ) < (2 : ℝ) ^ (-(n : ℤ)) := by positivity
  show (if P * (2 : ℝ) ^ (-(n : ℤ)) ≤ 0 then ⊥ else ((Real.log (P * (2 : ℝ) ^ (-(n : ℤ))) : ℝ) : EReal)) = _
  rw [if_neg (not_le.2 (mul_pos hP h2)), Real.log_mul hP.ne' h2.ne', Real.log_zpow]
  congr 1
  push_cast
  ring

/-- Hinges and logarithms summed apart. -/
theorem two_sub_sum {ι : Type*} (s : Finset ι) (f : ι → EReal) :
    2 * (∑ i ∈ s, max (f i) 0) - ((∑ i ∈ s, lg (f i) : ℝ) : EReal) = ∑ i ∈ s, sp (2 * f i) := by
  classical
  induction s using Finset.induction_on with
  | empty => simp
  | insert a s ha ih =>
    rw [Finset.sum_insert ha, Finset.sum_insert ha, Finset.sum_insert ha, ← ih, ← sp_two,
      EReal.left_distrib_of_nonneg (le_max_right _ _) (Finset.sum_nonneg fun i _ => le_max_right _ _), EReal.coe_add,
      sub_eq_add_neg (2 * max _ _ + _), EReal.neg_add (.inl (EReal.coe_ne_bot _)) (.inl (EReal.coe_ne_top _))]
    simp only [sub_eq_add_neg]
    exact add_add_add_comm _ _ _ _

end Cert.Proof.Softplus

end
-- ==== Proof.StripI.lean ====
/- A row of sums over the extended reals: what was there, and the softplus of every label of the tile at every lane. -/
module

public import proofs.«01_k».proof.Proof.LoopVal
public import proofs.«01_k».proof.Proof.Softplus
public import Idealize.ShloMosaic.Lib.Pointwise

@[expose] public section

set_option maxRecDepth 16384

noncomputable section

namespace Cert.Proof.KernelIdeal

open Cert.KernelIdeal Cert.KernelIdeal.Gen Cert.Proof.MxuRun Cert.Proof.Softplus
open Idealize.ShloMosaic Idealize.ShloMosaic.TcCoe

/-- Row `8 g + ρ` of a piece. -/
def at8 (ρ : Fin 8) (g : Fin 8) : Fin 64 := ⟨8 * g.val + ρ.val, by omega⟩

theorem rows_apply (m : FVec Ideal S64x128 .f32) (g : Fin 8) (ρ : Fin 8) (l : Fin 128) : rows m g (ix2 ρ l) = m (ix2 (at8 ρ g) l) := by
  match g with
  | 0 | 1 | 2 | 3 | 4 | 5 | 6 | 7 =>
    unfold rows
    pointwise
    exact congrArg (fun r : Fin 64 => m (ix2 r l)) (Fin.ext (by simp [at8]))

/-- The hinges, the logarithms of the factors and of their halves, in one row of eight. -/
def sumH (y : FVec Ideal S64x128 .f32) (ρ : Fin 8) (l : Fin 128) : EReal := ∑ g : Fin 8, max (y (ix2 (at8 ρ g) l)) 0
def prodF (y : FVec Ideal S64x128 .f32) (ρ : Fin 8) (l : Fin 128) : ℝ := ∏ g : Fin 8, fac (y (ix2 (at8 ρ g) l))
def sumL2 (y : FVec Ideal S64x128 .f32) (ρ : Fin 8) (l : Fin 128) : ℝ := ∑ g : Fin 8, lg (y (ix2 (at8 ρ g) l))

theorem relu_apply (y : FVec Ideal S64x128 .f32) (x : S64x128.Idx) : relu y x = max (y x) 0 := by
  unfold relu
  show max (y x) (Ideal.ofBits .f32 0x00000000#32) = _
  rw [Ideal.ofBits_zero_f32]

theorem onePlus_apply (y : FVec Ideal S64x128 .f32) (x : S64x128.Idx) : onePlus y x = ((fac (y x) : ℝ) : EReal) := by
  unfold onePlus
  show Ideal.ofBits .f32 0x3F800000#32 + Ideal.tanh (max (y x) (-(y x))) = _
  rw [Ideal.ofBits_one_f32]
  exact fac_eq (y x)

theorem add7_apply (a : FVec Ideal S8x128 .f32) (m : FVec Ideal S64x128 .f32) (ρ : Fin 8) (l : Fin 128) :
    add7 a m (ix2 ρ l) = a (ix2 ρ l) + rows m 1 (ix2 ρ l) + rows m 2 (ix2 ρ l) + rows m 3 (ix2 ρ l) + rows m 4 (ix2 ρ l) + rows m 5 (ix2 ρ l) + rows m 6 (ix2 ρ l) + rows m 7 (ix2 ρ l) := rfl
theorem mul7_apply (a : FVec Ideal S8x128 .f32) (m : FVec Ideal S64x128 .f32) (ρ : Fin 8) (l : Fin 128) :
    mul7 a m (ix2 ρ l) = a (ix2 ρ l) * rows m 1 (ix2 ρ l) * rows m 2 (ix2 ρ l) * rows m 3 (ix2 ρ l) * rows m 4 (ix2 ρ l) * rows m 5 (ix2 ρ l) * rows m 6 (ix2 ρ l) * rows m 7 (ix2 ρ l) := rfl

theorem add8_relu (a : FVec Ideal S8x128 .f32) (y : FVec Ideal S64x128 .f32) (ρ : Fin 8) (l : Fin 128) : add8 a (relu y) (ix2 ρ l) = a (ix2 ρ l) + sumH y ρ l := by
  unfold add8 sumH
  rw [add7_apply, Fin.sum_univ_eight]
  show a (ix2 ρ l) + rows (relu y) 0 (ix2 ρ l) + _ + _ + _ + _ + _ + _ + _ = _
  simp only [rows_apply, relu_apply, add_assoc]

theorem hingeInto_apply (ys : List (FVec Ideal S64x128 .f32)) (a : FVec Ideal S8x128 .f32) (ρ : Fin 8) (l : Fin 128) :
    hingeInto a ys (ix2 ρ l) = a (ix2 ρ l) + (ys.map fun y => sumH y ρ l).sum := by
  unfold hingeInto
  induction ys generalizing a with
  | nil => simp
  | cons y ys ih => rw [List.foldl_cons, ih, add8_relu, List.map_cons, List.sum_cons, add_assoc]

theorem hingeOf_apply (y : FVec Ideal S64x128 .f32) (ys : List (FVec Ideal S64x128 .f32)) (ρ : Fin 8) (l : Fin 128) :
    hingeOf y ys (ix2 ρ l) = sumH y ρ l + (ys.map fun y => sumH y ρ l).sum := by
  unfold hingeOf
  rw [hingeInto_apply]
  congr 1
  unfold sumH
  rw [add7_apply, Fin.sum_univ_eight]
  simp only [rows_apply, relu_apply]

theorem mul8_onePlus {a : FVec Ideal S8x128 .f32} {r : ℝ} {ρ : Fin 8} {l : Fin 128} (h : a (ix2 ρ l) = (r : EReal)) (y : FVec Ideal S64x128 .f32) :
    mul8 a (onePlus y) (ix2 ρ l) = ((r * prodF y ρ l : ℝ) : EReal) := by
  unfold mul8 prodF
  rw [mul7_apply, Fin.prod_univ_eight]
  show a (ix2 ρ l) * rows (onePlus y) 0 (ix2 ρ l) * _ * _ * _ * _ * _ * _ * _ = _
  simp only [rows_apply, onePlus_apply, h, ← EReal.coe_mul]
  congr 1
  ring

theorem prodOf_aux (ys : List (FVec Ideal S64x128 .f32)) (a : FVec Ideal S8x128 .f32) (r : ℝ) (ρ : Fin 8) (l : Fin 128) (h : a (ix2 ρ l) = (r : EReal)) :
    (ys.foldl (fun a y => mul8 a (onePlus y)) a) (ix2 ρ l) = ((r * (ys.map fun y => prodF y ρ l).prod : ℝ) : EReal) := by
  induction ys generalizing a r with
  | nil => simpa using h
  | cons y ys ih => rw [List.foldl_cons, ih _ _ (mul8_onePlus h y), List.map_cons, List.prod_cons, mul_assoc]

theorem prodOf_apply (y : FVec Ideal S64x128 .f32) (ys : List (FVec Ideal S64x128 .f32)) (ρ : Fin 8) (l : Fin 128) :
    prodOf y ys (ix2 ρ l) = ((prodF y ρ l * (ys.map fun y => prodF y ρ l).prod : ℝ) : EReal) := by
  unfold prodOf
  refine prodOf_aux ys _ _ ρ l ?_
  unfold prodF
  rw [mul7_apply, Fin.prod_univ_eight]
  simp only [rows_apply, onePlus_apply, ← EReal.coe_mul]

theorem prodF_pos (y : FVec Ideal S64x128 .f32) (ρ : Fin 8) (l : Fin 128) : 0 < prodF y ρ l := Finset.prod_pos fun _ _ => fac_pos _

theorem log_prodF (y : FVec Ideal S64x128 .f32) (ρ : Fin 8) (l : Fin 128) : Real.log (prodF y ρ l) = sumL2 y ρ l + 8 * Real.log 2 := by
  unfold prodF sumL2 lg
  rw [Real.log_prod (fun _ _ => (fac_pos _).ne'), Finset.sum_sub_distrib]
  simp

theorem log_prods (ys : List (FVec Ideal S64x128 .f32)) (ρ : Fin 8) (l : Fin 128) :
    0 < (ys.map fun y => prodF y ρ l).prod ∧ Real.log (ys.map fun y => prodF y ρ l).prod = (ys.map fun y => sumL2 y ρ l).sum + ys.length * (8 * Real.log 2) := by
  induction ys with
  | nil => simp
  | cons y ys ih =>
    rw [List.map_cons, List.prod_cons, List.map_cons, List.sum_cons, List.length_cons]
    refine ⟨mul_pos (prodF_pos y ρ l) ih.1, ?_⟩
    rw [Real.log_mul (prodF_pos y ρ l).ne' ih.1.ne', ih.2, log_prodF]
    push_cast
    ring

theorem scale_eq : Ideal.ofBits .f32 0x1F800000#32 = (((2 : ℝ) ^ (-((64 : ℕ) : ℤ)) : ℝ) : EReal) := by
  simp [Ideal.ofBits, Ideal.ieee, -EReal.coe_mul]; norm_num

theorem logOf_apply (y : FVec Ideal S64x128 .f32) (ys : List (FVec Ideal S64x128 .f32)) (hys : ys.length = 7) (ρ : Fin 8) (l : Fin 128) :
    logOf y ys (ix2 ρ l) = ((sumL2 y ρ l + (ys.map fun y => sumL2 y ρ l).sum : ℝ) : EReal) := by
  unfold logOf
  show Ideal.log (prodOf y ys (ix2 ρ l) * Ideal.ofBits .f32 0x1F800000#32) = _
  obtain ⟨hp, hl⟩ := log_prods ys ρ l
  rw [prodOf_apply, scale_eq, log_scaled (mul_pos (prodF_pos y ρ l) hp), Real.log_mul (prodF_pos y ρ l).ne' hp.ne', hl, log_prodF, hys]
  congr 1
  push_cast
  ring

section Row

variable (v : Fin 8 → Fin 4 → FVec Ideal S64x256 .f32) (b : Fin 8 → Fin 4 → Vec Ideal S64x128 .f32) (h : Fin 2)

theorem hinges (ρ : Fin 8) (l : Fin 128) :
    hinge8 h v b (hinge6 h v b) (ix2 ρ l) = ∑ sb : Fin 8, ∑ p : Fin 4, sumH (halfY h (v sb p) (b sb p)) ρ l := by
  unfold hinge8 hinge6
  rw [hingeInto_apply, hingeOf_apply, Fin.sum_univ_eight]
  simp only [Fin.sum_univ_four, List.map_cons, List.map_nil, List.sum_cons, List.sum_nil, add_zero, add_assoc]

theorem logs (ρ : Fin 8) (l : Fin 128) :
    log8 h v b (log6 h v b) (ix2 ρ l) = ((∑ sb : Fin 8, ∑ p : Fin 4, sumL2 (halfY h (v sb p) (b sb p)) ρ l : ℝ) : EReal) := by
  have e : ∀ s0 s1, logPart h v b s0 s1 (ix2 ρ l) = (((∑ p : Fin 4, sumL2 (halfY h (v s0 p) (b s0 p)) ρ l) + ∑ p : Fin 4, sumL2 (halfY h (v s1 p) (b s1 p)) ρ l : ℝ) : EReal) := by
    intro s0 s1
    unfold logPart
    rw [logOf_apply _ _ rfl]
    congr 1
    simp only [Fin.sum_univ_four, List.map_cons, List.map_nil, List.sum_cons, List.sum_nil, add_zero, add_assoc]
  show logPart h v b 0 1 (ix2 ρ l) + logPart h v b 2 3 (ix2 ρ l) + logPart h v b 4 5 (ix2 ρ l) + logPart h v b 6 7 (ix2 ρ l) = _
  rw [e, e, e, e, ← EReal.coe_add, ← EReal.coe_add, ← EReal.coe_add, Fin.sum_univ_eight]
  congr 1
  ring

/-- The eight rows taken together are the piece's 64. -/
theorem sum_rows (f : Fin 64 → EReal) : ∑ ρ : Fin 8, ∑ g : Fin 8, f (at8 ρ g) = ∑ r : Fin 64, f r := by
  rw [Finset.sum_comm, ← Finset.sum_product']
  refine Finset.sum_bij (fun p _ => at8 p.2 p.1) (fun _ _ => Finset.mem_univ _) (fun p _ p' _ e => ?_) (fun r _ => ?_) (fun _ _ => rfl)
  · have := congrArg Fin.val e
    simp only [at8] at this
    exact Prod.ext (Fin.ext (by omega)) (Fin.ext (by omega))
  · exact ⟨(⟨r.val / 8, by omega⟩, ⟨r.val % 8, by omega⟩), Finset.mem_univ _, Fin.ext (by simp only [at8]; omega)⟩

theorem two_eq : Ideal.ofBits .f32 0x40000000#32 = 2 := by
  rw [show (2 : EReal) = ((2 : ℝ) : EReal) by norm_cast]
  simp [Ideal.ofBits, Ideal.ieee, -EReal.coe_mul]; norm_num

theorem row_sum (l : Fin 128) :
    ∑ ρ : Fin 8, (2 * hinge8 h v b (hinge6 h v b) (ix2 ρ l) - log8 h v b (log6 h v b) (ix2 ρ l))
      = ∑ sb : Fin 8, ∑ p : Fin 4, ∑ r : Fin 64, sp (2 * halfY h (v sb p) (b sb p) (ix2 r l)) := by
  have e : ∀ ρ : Fin 8, 2 * hinge8 h v b (hinge6 h v b) (ix2 ρ l) - log8 h v b (log6 h v b) (ix2 ρ l)
      = ∑ x : (Fin 8 × Fin 4) × Fin 8, sp (2 * halfY h (v x.1.1 x.1.2) (b x.1.1 x.1.2) (ix2 (at8 ρ x.2) l)) := by
    intro ρ
    rw [hinges, logs, ← two_sub_sum]
    simp only [Fintype.sum_prod_type, sumH, sumL2]
  rw [Finset.sum_congr rfl fun ρ _ => e ρ]
  simp only [Fintype.sum_prod_type]
  rw [Finset.sum_comm]
  refine Finset.sum_congr rfl fun sb _ => ?_
  rw [Finset.sum_comm]
  refine Finset.sum_congr rfl fun p _ => ?_
  exact sum_rows fun r => sp (2 * halfY h (v sb p) (b sb p) (ix2 r l))

theorem fin_apply (v0 : BitVec 1) (hinge log : FVec Ideal S8x128 .f32) (old : Vec Ideal S1x1x128 .f32) (l : Fin 128) :
    fin v0 hinge log old (ix3 0 0 l) = (if v0 = 1#1 then 0 else old (ix3 0 0 l)) + ∑ ρ : Fin 8, (2 * hinge (ix2 ρ l) - log (ix2 ρ l)) := by
  unfold fin k0_pay475
  pointwise
  rw [two_eq]
  rfl

end Row

theorem rowOf_apply (arg5 : Memref sig .tc .vmem S40x256x512 .i32) (arg7 : Memref sig .tc .vmem S1024x2x512 .bf16) (arg8 : Memref sig .tc .vmem S2048x128 .f32)
    (X5 : BufTy.Contents (Elt Ideal) arg5.view.ty) (X7 : BufTy.Contents (Elt Ideal) arg7.view.ty) (X8 : BufTy.Contents (Elt Ideal) arg8.view.ty)
    (v0 : BitVec 1) (r : Fin 40) (q h : Fin 2) (old : Vec Ideal S1x1x128 .f32) (l : Fin 128) :
    rowOf arg5 arg7 arg8 X5 X7 X8 v0 r q h old (ix3 0 0 l)
      = (if v0 = 1#1 then 0 else old (ix3 0 0 l))
        + ∑ sb : Fin 8, ∑ p : Fin 4, ∑ ρ : Fin 64, sp (2 * halfY h (blk arg5 arg7 X5 X7 r q sb p) (bb arg8 X8 sb p) (ix2 ρ l)) := by
  unfold rowOf
  rw [fin_apply, row_sum]

end Cert.Proof.KernelIdeal

end
-- ==== Proof.Decode.lean ====
/- What the decode loop stores, as functions of the codes and the scales. -/
module

public import proofs.«01_k».proof.Proof.Gen.KernelIdeal.Loops

@[expose] public section

set_option maxRecDepth 65536
set_option maxHeartbeats 4000000

noncomputable section

namespace Cert.Proof.KernelIdeal

open Cert.KernelIdeal Cert.KernelIdeal.Gen
open Idealize.ShloMosaic Idealize.ShloMosaic.TcCoe

variable {F : FTy → Type} [FloatOps F]

/-- The group of 64 lanes a lane is in, as the quotient rounded down. -/
def grp (v2 : IVec S16x128 32) : IVec S16x128 32 :=
  select (andi (cmpi .ne (subi (extui 32 (cmpi .sgt v2 (broadcast S16x128 0#32)) natLt_1_32) (extui 32 (cmpi .slt v2 (broadcast S16x128 0#32)) natLt_1_32)) (broadcast S16x128 1#32))
      (cmpi .ne (remsi v2 (broadcast S16x128 64#32)) (broadcast S16x128 0#32)))
    (subi (divsi v2 (broadcast S16x128 64#32)) (broadcast S16x128 1#32)) (divsi v2 (broadcast S16x128 64#32))

/-- The lane a scale is taken from: the group, `h` groups on, `n` lanes on. -/
def from0 (v2 : IVec S16x128 32) (h n : BitVec 32) : IVec S16x128 32 := addi (addi (grp v2) (broadcast S16x128 h)) (broadcast S16x128 n)
def pick (v2 : IVec S16x128 32) (h n : BitVec 32) : IVec S16x128 32 :=
  shapeCast S16x128 (shapeCast S16x128x1 (select (cmpi .slt (from0 v2 h n) (broadcast S16x128 0#32)) (addi (from0 v2 h n) (broadcast S16x128 128#32)) (from0 v2 h n))
    shapeCasts_S16x128_S16x128x1) shapeCasts_S16x128x1_S16x128

/-- The scales of 32 labels by 128 features. -/
def scl (r : FVec F S16x128 .f32) (v2 : IVec S16x128 32) (h n n' : BitVec 32) : FVec F S32x128 .bf16 :=
  concatenate S32x128 0 [⟨S16x128, truncf .bf16 (dynamicGather 1 r (pick v2 h n)) bitsLt_bf16_f32⟩, ⟨S16x128, truncf .bf16 (dynamicGather 1 r (pick v2 h n')) bitsLt_bf16_f32⟩]
    concatenates_S16x128_S16x128_S32x128_d0

/-- The low and the high halves of the bytes, sixteenfold. -/
def lowN (x : Vec F S32x128 .i8) : FVec F S32x128 .bf16 :=
  sitofp .bf16 (bitcast S32x128 8 (andi (shli (bitcast S8x128 32 x bitcasts_S32x128_w8_S8x128_w32) (broadcast S8x128 4#32)) (broadcast S8x128 4042322160#32)) bitcasts_S8x128_w32_S32x128_w8)
def highN (x : Vec F S32x128 .i8) : FVec F S32x128 .bf16 :=
  sitofp .bf16 (bitcast S32x128 8 (andi (bitcast S8x128 32 x bitcasts_S32x128_w8_S8x128_w32) (broadcast S8x128 4042322160#32)) bitcasts_S8x128_w32_S32x128_w8)

/-- Rows in pairs, as the words hold them. -/
def paired (x : FVec F S32x128 .bf16) : Vec F S16x2x128 .bf16 :=
  interleaveRows S16x2x128 (shapeCast S16x1x128 (rowsOfParity 0 S16x128 x bitcasts_S32x128_w16_S16x128_w32) shapeCasts_S16x128_S16x1x128)
    (shapeCast S16x1x128 (rowsOfParity 1 S16x128 x bitcasts_S32x128_w16_S16x128_w32) shapeCasts_S16x128_S16x1x128) bitcasts_S16x2x128_w16_S16x1x128_w32

section
variable (arg2 : Memref sig .tc .vmem S2048x256 .i8) (arg3 : Memref sig .tc .vmem S4x16x128 .bf16) (v2 : IVec S16x128 32)
  (X2 : BufTy.Contents (Elt F) arg2.view.ty) (X3 : BufTy.Contents (Elt F) arg3.view.ty) (k : Fin k0_t1_loop.trips)

/-- The scales of a trip. -/
def tripScales : FVec F S16x128 .f32 :=
  extf .f32 (shapeCast S16x128 (View.readAt (Elt F) arg3.view (Rect.unit (s := S4x16x128) (k0_off1 k) S1x16x128.size (k0_off1_inb k)).toLoadRect X3) shapeCasts_S1x16x128_S16x128) bitsLt_bf16_f32

/-- The four stores of 32 labels. -/
def four (o c n n' : BitVec 32) (h2 : ∀ a, k0_off2 k c a + S32x128.size a ≤ S2048x256.size a) (h5 : ∀ a, k0_off5 k c a + S32x128.size a ≤ S2048x256.size a)
    (h3 : ∀ a, k0_off3 k o a + S16x2x128.size a ≤ S1024x2x512.size a) (h4 : ∀ a, k0_off4 k o a + S16x2x128.size a ≤ S1024x2x512.size a)
    (h6 : ∀ a, k0_off6 k o a + S16x2x128.size a ≤ S1024x2x512.size a) (h7 : ∀ a, k0_off7 k o a + S16x2x128.size a ≤ S1024x2x512.size a)
    (L : List (View.Piece (Elt F) S1024x2x512 .bf16)) : List (View.Piece (Elt F) S1024x2x512 .bf16) :=
  ⟨Rect.unit (s := S1024x2x512) (k0_off7 k o) S16x2x128.size h7, paired (mulf (highN (View.readAt (Elt F) arg2.view (Rect.unit (s := S2048x256) (k0_off5 k c) S32x128.size h5).toLoadRect X2)) (scl (tripScales arg3 X3 k) v2 2#32 n n'))⟩
    :: ⟨Rect.unit (s := S1024x2x512) (k0_off6 k o) S16x2x128.size h6, paired (mulf (lowN (View.readAt (Elt F) arg2.view (Rect.unit (s := S2048x256) (k0_off5 k c) S32x128.size h5).toLoadRect X2)) (scl (tripScales arg3 X3 k) v2 2#32 n n'))⟩
    :: ⟨Rect.unit (s := S1024x2x512) (k0_off4 k o) S16x2x128.size h4, paired (mulf (highN (View.readAt (Elt F) arg2.view (Rect.unit (s := S2048x256) (k0_off2 k c) S32x128.size h2).toLoadRect X2)) (scl (tripScales arg3 X3 k) v2 0#32 n n'))⟩
    :: ⟨Rect.unit (s := S1024x2x512) (k0_off3 k o) S16x2x128.size h3, paired (mulf (lowN (View.readAt (Elt F) arg2.view (Rect.unit (s := S2048x256) (k0_off2 k c) S32x128.size h2).toLoadRect X2)) (scl (tripScales arg3 X3 k) v2 0#32 n n'))⟩
    :: L

/-- Those of labels `32 j …` of the trip's. -/
def quad (j : Fin 16) (L : List (View.Piece (Elt F) S1024x2x512 .bf16)) : List (View.Piece (Elt F) S1024x2x512 .bf16) :=
  four arg2 arg3 v2 X2 X3 k (BitVec.ofNat 32 (16 * j.val)) (BitVec.ofNat 32 (32 * j.val)) (BitVec.ofNat 32 (8 * j.val)) (BitVec.ofNat 32 (8 * j.val + 4))
    (k0_off2_inb k j) (k0_off5_inb k j) (k0_off3_inb k j) (k0_off4_inb k j) (k0_off6_inb k j) (k0_off7_inb k j) L

def quads : List (View.Piece (Elt F) S1024x2x512 .bf16) :=
  four arg2 arg3 v2 X2 X3 k 240#32 480#32 120#32 124#32 (k0_off2_inb k 15) (k0_off5_inb k 15) (k0_off3_inb k 15) (k0_off4_inb k 15) (k0_off6_inb k 15) (k0_off7_inb k 15) (
    four arg2 arg3 v2 X2 X3 k 224#32 448#32 112#32 116#32 (k0_off2_inb k 14) (k0_off5_inb k 14) (k0_off3_inb k 14) (k0_off4_inb k 14) (k0_off6_inb k 14) (k0_off7_inb k 14) (
    four arg2 arg3 v2 X2 X3 k 208#32 416#32 104#32 108#32 (k0_off2_inb k 13) (k0_off5_inb k 13) (k0_off3_inb k 13) (k0_off4_inb k 13) (k0_off6_inb k 13) (k0_off7_inb k 13) (
    four arg2 arg3 v2 X2 X3 k 192#32 384#32 96#32 100#32 (k0_off2_inb k 12) (k0_off5_inb k 12) (k0_off3_inb k 12) (k0_off4_inb k 12) (k0_off6_inb k 12) (k0_off7_inb k 12) (
    four arg2 arg3 v2 X2 X3 k 176#32 352#32 88#32 92#32 (k0_off2_inb k 11) (k0_off5_inb k 11) (k0_off3_inb k 11) (k0_off4_inb k 11) (k0_off6_inb k 11) (k0_off7_inb k 11) (
    four arg2 arg3 v2 X2 X3 k 160#32 320#32 80#32 84#32 (k0_off2_inb k 10) (k0_off5_inb k 10) (k0_off3_inb k 10) (k0_off4_inb k 10) (k0_off6_inb k 10) (k0_off7_inb k 10) (
    four arg2 arg3 v2 X2 X3 k 144#32 288#32 72#32 76#32 (k0_off2_inb k 9) (k0_off5_inb k 9) (k0_off3_inb k 9) (k0_off4_inb k 9) (k0_off6_inb k 9) (k0_off7_inb k 9) (
    four arg2 arg3 v2 X2 X3 k 128#32 256#32 64#32 68#32 (k0_off2_inb k 8) (k0_off5_inb k 8) (k0_off3_inb k 8) (k0_off4_inb k 8) (k0_off6_inb k 8) (k0_off7_inb k 8) (
    four arg2 arg3 v2 X2 X3 k 112#32 224#32 56#32 60#32 (k0_off2_inb k 7) (k0_off5_inb k 7) (k0_off3_inb k 7) (k0_off4_inb k 7) (k0_off6_inb k 7) (k0_off7_inb k 7) (
    four arg2 arg3 v2 X2 X3 k 96#32 192#32 48#32 52#32 (k0_off2_inb k 6) (k0_off5_inb k 6) (k0_off3_inb k 6) (k0_off4_inb k 6) (k0_off6_inb k 6) (k0_off7_inb k 6) (
    four arg2 arg3 v2 X2 X3 k 80#32 160#32 40#32 44#32 (k0_off2_inb k 5) (k0_off5_inb k 5) (k0_off3_inb k 5) (k0_off4_inb k 5) (k0_off6_inb k 5) (k0_off7_inb k 5) (
    four arg2 arg3 v2 X2 X3 k 64#32 128#32 32#32 36#32 (k0_off2_inb k 4) (k0_off5_inb k 4) (k0_off3_inb k 4) (k0_off4_inb k 4) (k0_off6_inb k 4) (k0_off7_inb k 4) (
    four arg2 arg3 v2 X2 X3 k 48#32 96#32 24#32 28#32 (k0_off2_inb k 3) (k0_off5_inb k 3) (k0_off3_inb k 3) (k0_off4_inb k 3) (k0_off6_inb k 3) (k0_off7_inb k 3) (
    four arg2 arg3 v2 X2 X3 k 32#32 64#32 16#32 20#32 (k0_off2_inb k 2) (k0_off5_inb k 2) (k0_off3_inb k 2) (k0_off4_inb k 2) (k0_off6_inb k 2) (k0_off7_inb k 2) (
    four arg2 arg3 v2 X2 X3 k 16#32 32#32 8#32 12#32 (k0_off2_inb k 1) (k0_off5_inb k 1) (k0_off3_inb k 1) (k0_off4_inb k 1) (k0_off6_inb k 1) (k0_off7_inb k 1) (
    four arg2 arg3 v2 X2 X3 k 0#32 0#32 0#32 4#32 (k0_off2_inb k 0) (k0_off5_inb k 0) (k0_off3_inb k 0) (k0_off4_inb k 0) (k0_off6_inb k 0) (k0_off7_inb k 0) (
    []))))))))))))))))
end

theorem trip_quads (𝒱 : Variants) (c : Dev nD) (bd : Option 𝒱.V) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (v2 : IVec S16x128 32) (X2 : BufTy.Contents (Elt F) arg2.view.ty) (X3 : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 arg10 harg10 v2 X2 X3 k = quads arg2 arg3 v2 X2 X3 k := by
  unfold tripL_k0_t1 trip_k0_t1; rfl

end Cert.Proof.KernelIdeal
-- ==== Proof.EpiVal.lean ====
/- The body's last part: the last row block's sums are finished after the loop, and at the last tile of a chunk the rows of sums are copied
   out. -/
module

public import proofs.«01_k».proof.Proof.BodyI
public import proofs.«01_k».proof.Proof.LoopVal

@[expose] public section

set_option maxRecDepth 65536
set_option maxHeartbeats 1000000

noncomputable section

namespace Cert.Proof.KernelIdeal

open Cert.KernelIdeal Cert.KernelIdeal.Gen Cert.Proof.MxuRun
open Idealize.ShloMosaic Idealize.ShloMosaic.TcCoe Idealize.ShloMosaic.Tactic

variable {F : FTy → Type} [FloatOps F]

/-- The eight pops after the loop. -/
def lastPop (s : Mxu F) : Fin 2 → Fin 4 → BlockV F :=
  let s1 := s.pop 0 192 64 fits_192_64
  let s2 := s1.pop 1 192 64 fits_192_64
  let s3 := s2.pop 0 208 64 fits_208_64
  let s4 := s3.pop 1 208 64 fits_208_64
  let s5 := s4.pop 0 224 64 fits_224_64
  let s6 := s5.pop 1 224 64 fits_224_64
  let s7 := s6.pop 0 240 64 fits_240_64
  fun q => match q with
  | 0 => ![s.read 0 192 fits_192_64, s2.read 0 208 fits_208_64, s4.read 0 224 fits_224_64, s6.read 0 240 fits_240_64]
  | 1 => ![s1.read 1 192 fits_192_64, s3.read 1 208 fits_208_64, s5.read 1 224 fits_224_64, s7.read 1 240 fits_240_64]

/-- Sub-tiles 6 and 7 of the last row block. -/
def lastV (arg9 : Memref sig .tc .vmem S4x2x64x256 .f32) (f9 : BufTy.Contents (Elt F) arg9.view.ty) (s : Mxu F) (q : Fin 2) (sb : Fin 8) (b : Fin 4) : BlockV F :=
  if sb = 6 then parked arg9 f9 b q else lastPop s q b

/-- The last four rows of sums. -/
def lastL (arg8 : Memref sig .tc .vmem S2048x128 .f32) (arg9 : Memref sig .tc .vmem S4x2x64x256 .f32) (arg10 : Memref sig .tc .vmem S41x8x128 .f32) (v0 : BitVec 1)
    (X8 : BufTy.Contents (Elt F) arg8.view.ty) (f9 : BufTy.Contents (Elt F) arg9.view.ty) (f10 : BufTy.Contents (Elt F) arg10.view.ty) (p : Made F) : List (View.Piece (Elt F) S41x8x128 .f32) :=
  let h0 := ((⟨Rect.unit (s := S41x8x128) ![40, 0, 0] S1x1x128.size (slot_inb 40 0),
    fin v0 (hinge8 0 (lastV arg9 f9 p.carry.2.2.2.2.2.2.2.2 0) (bb arg8 X8) p.carry.1) (log8 0 (lastV arg9 f9 p.carry.2.2.2.2.2.2.2.2 0) (bb arg8 X8) p.carry.2.2.2.2.1) (View.readAt (Elt F) arg10.view (Rect.unit (s := S41x8x128) ![40, 0, 0] S1x1x128.size (slot_inb 40 0)).toLoadRect (arg10.view.writes (Elt F) f10 (p.L10)))⟩ : View.Piece (Elt F) S41x8x128 .f32) :: p.L10)
  let h1 := ((⟨Rect.unit (s := S41x8x128) ![40, 1, 0] S1x1x128.size (slot_inb 40 1),
    fin v0 (hinge8 1 (lastV arg9 f9 p.carry.2.2.2.2.2.2.2.2 0) (bb arg8 X8) p.carry.2.1) (log8 1 (lastV arg9 f9 p.carry.2.2.2.2.2.2.2.2 0) (bb arg8 X8) p.carry.2.2.2.2.2.1) (View.readAt (Elt F) arg10.view (Rect.unit (s := S41x8x128) ![40, 1, 0] S1x1x128.size (slot_inb 40 1)).toLoadRect (arg10.view.writes (Elt F) f10 (h0)))⟩ : View.Piece (Elt F) S41x8x128 .f32) :: h0)
  let h2 := ((⟨Rect.unit (s := S41x8x128) ![40, 2, 0] S1x1x128.size (slot_inb 40 2),
    fin v0 (hinge8 0 (lastV arg9 f9 p.carry.2.2.2.2.2.2.2.2 1) (bb arg8 X8) p.carry.2.2.1) (log8 0 (lastV arg9 f9 p.carry.2.2.2.2.2.2.2.2 1) (bb arg8 X8) p.carry.2.2.2.2.2.2.1) (View.readAt (Elt F) arg10.view (Rect.unit (s := S41x8x128) ![40, 2, 0] S1x1x128.size (slot_inb 40 2)).toLoadRect (arg10.view.writes (Elt F) f10 (h1)))⟩ : View.Piece (Elt F) S41x8x128 .f32) :: h1)
  let h3 := ((⟨Rect.unit (s := S41x8x128) ![40, 3, 0] S1x1x128.size (slot_inb 40 3),
    fin v0 (hinge8 1 (lastV arg9 f9 p.carry.2.2.2.2.2.2.2.2 1) (bb arg8 X8) p.carry.2.2.2.1) (log8 1 (lastV arg9 f9 p.carry.2.2.2.2.2.2.2.2 1) (bb arg8 X8) p.carry.2.2.2.2.2.2.2.1) (View.readAt (Elt F) arg10.view (Rect.unit (s := S41x8x128) ![40, 3, 0] S1x1x128.size (slot_inb 40 3)).toLoadRect (arg10.view.writes (Elt F) f10 (h2)))⟩ : View.Piece (Elt F) S41x8x128 .f32) :: h2)
  h3

/-- The first tile's flag. -/
def first (i : grid0.Coords) : BitVec 1 := Scalar.cmpi .eq (BitVec.ofNat 32 (i 1)) 0#32

/-- The units when the loop starts: the first row block's tiles are in the registers. -/
def startMxu (arg5 : Memref sig .tc .vmem S40x256x512 .i32) (X5 : BufTy.Contents (Elt F) arg5.view.ty) : Mxu F :=
  (((Mxu.init.pushed 0 0 false (tile arg5 X5 0 0 0)).pushed 1 0 false (tile arg5 X5 0 0 1)).pushed 0 1 false (tile arg5 X5 0 1 0)).pushed 1 1 false (tile arg5 X5 0 1 1)

theorem start_rep (arg5 : Memref sig .tc .vmem S40x256x512 .i32) (X5 : BufTy.Contents (Elt F) arg5.view.ty) :
    Rep (startMxu arg5 X5) (between arg5 X5 (fun _ _ => none) (fun _ => constant _ .bf16 0) 0) [] := by
  have h := (((rep_init (F := F).push 0 0 (tile arg5 X5 0 0 0) rfl).push 1 0 (tile arg5 X5 0 0 1) rfl).push 0 1 (tile arg5 X5 0 1 0) rfl).push 1 1 (tile arg5 X5 0 1 1) rfl
  have e : step (step (step (step (⟨fun _ _ => none, fun _ => constant _ .bf16 0, fun _ _ => none, []⟩ : Abs F) (.push 0 0 (tile arg5 X5 0 0 0))) (.push 1 0 (tile arg5 X5 0 0 1))) (.push 0 1 (tile arg5 X5 0 1 0))) (.push 1 1 (tile arg5 X5 0 1 1))
      = between arg5 X5 (fun _ _ => none) (fun _ => constant _ .bf16 0) 0 := by
    rw [Abs.mk.injEq]
    refine ⟨funext fun q => funext fun i => ?_, rfl, funext fun q => funext fun r => ?_, rfl⟩
    · unfold between; dsimp only [step]; split <;> rfl
    · match q, r with
      | 0, 0 => rfl
      | 0, 1 => rfl
      | 1, 0 => rfl
      | 1, 1 => rfl
  rw [← e]; exact h

attribute [local irreducible] made pb_k0_t1 Scf.trips

/-- The decoded weights. -/
def dec7  (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (f10 : BufTy.Contents (Elt F) arg10.view.ty) : BufTy.Contents (Elt F) arg7.view.ty :=
  arg7.view.writes (Elt F) f7 (pb_k0_t1 Variants.none c none i arg2 harg2 arg3 harg3 arg4 harg4 arg5 harg5 arg6 harg6 arg7 harg7 arg8 harg8 arg9 harg9 arg10 harg10 runRest.sl.v2 f2 f3 k0_t1_loop.trips)

/-- The spread bias. -/
def bias8  (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (f10 : BufTy.Contents (Elt F) arg10.view.ty) : BufTy.Contents (Elt F) arg8.view.ty :=
  arg8.view.writes (Elt F) arg8.view.junk (runRest.sl.H8_256 arg4 f4)

def start9  (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (f10 : BufTy.Contents (Elt F) arg10.view.ty) : BufTy.Contents (Elt F) arg9.view.ty :=
  arg9.view.writes (Elt F) arg9.view.junk runRest.sl.H9_1

/-- What the loop has made. -/
def atEnd  (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (f10 : BufTy.Contents (Elt F) arg10.view.ty) : Made F :=
  made c i arg2 harg2 arg3 harg3 arg4 harg4 arg5 harg5 arg6 harg6 arg7 harg7 arg8 harg8 arg9 harg9 arg10 harg10 Mxu.init (first i) (k0_pay1566, k0_pay1566, k0_pay1566, k0_pay1566, k0_pay1566, k0_pay1566, k0_pay1566, k0_pay1566, startMxu arg5 f5) f5
    (dec7 c i arg2 harg2 arg3 harg3 arg4 harg4 arg5 harg5 arg6 harg6 arg7 harg7 arg8 harg8 arg9 harg9 arg10 harg10 f2 f3 f4 f5 f7 f10) (bias8 c i arg2 harg2 arg3 harg3 arg4 harg4 arg5 harg5 arg6 harg6 arg7 harg7 arg8 harg8 arg9 harg9 arg10 harg10 f2 f3 f4 f5 f7 f10) (start9 c i arg2 harg2 arg3 harg3 arg4 harg4 arg5 harg5 arg6 harg6 arg7 harg7 arg8 harg8 arg9 harg9 arg10 harg10 f2 f3 f4 f5 f7 f10) f10 k0_t2_loop.trips

theorem rest_L10  (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : ¬ k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    (runRest (F := F) c i arg2 harg2 arg3 harg3 arg4 harg4 arg5 harg5 arg6 harg6 arg7 harg7 arg8 harg8 arg9 harg9 arg10 harg10 hc f2 f3 f4 f5 f6 f7 f8 f9 f10).1
      = lastL arg8 arg9 arg10 (first i) (bias8 c i arg2 harg2 arg3 harg3 arg4 harg4 arg5 harg5 arg6 harg6 arg7 harg7 arg8 harg8 arg9 harg9 arg10 harg10 f2 f3 f4 f5 f7 f10) (arg9.view.writes (Elt F) arg9.view.junk ((atEnd c i arg2 harg2 arg3 harg3 arg4 harg4 arg5 harg5 arg6 harg6 arg7 harg7 arg8 harg8 arg9 harg9 arg10 harg10 f2 f3 f4 f5 f7 f10).L9 ++ runRest.sl.H9_1)) f10 (atEnd c i arg2 harg2 arg3 harg3 arg4 harg4 arg5 harg5 arg6 harg6 arg7 harg7 arg8 harg8 arg9 harg9 arg10 harg10 f2 f3 f4 f5 f7 f10) := by
  unfold runRest; rfl

theorem last_L10  (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    (runLast (F := F) c i arg2 harg2 arg3 harg3 arg4 harg4 arg5 harg5 arg6 harg6 arg7 harg7 arg8 harg8 arg9 harg9 arg10 harg10 hc f2 f3 f4 f5 f6 f7 f8 f9 f10).2.1
      = lastL arg8 arg9 arg10 (first i) (bias8 c i arg2 harg2 arg3 harg3 arg4 harg4 arg5 harg5 arg6 harg6 arg7 harg7 arg8 harg8 arg9 harg9 arg10 harg10 f2 f3 f4 f5 f7 f10) (arg9.view.writes (Elt F) arg9.view.junk ((atEnd c i arg2 harg2 arg3 harg3 arg4 harg4 arg5 harg5 arg6 harg6 arg7 harg7 arg8 harg8 arg9 harg9 arg10 harg10 f2 f3 f4 f5 f7 f10).L9 ++ runRest.sl.H9_1)) f10 (atEnd c i arg2 harg2 arg3 harg3 arg4 harg4 arg5 harg5 arg6 harg6 arg7 harg7 arg8 harg8 arg9 harg9 arg10 harg10 f2 f3 f4 f5 f7 f10) := by
  unfold runLast; rfl

/-- Row `i` of slot `s`, as it is copied out. -/
def copied (arg10 : Memref sig .tc .vmem S41x8x128 .f32) (g10 : BufTy.Contents (Elt F) arg10.view.ty) (s : Fin 41) (i : Fin 8) : FVec F S1x1x128 .f32 :=
  shapeCast S1x1x128 (shapeCast S1x128 (slotRow arg10 g10 s i) shapeCasts_S1x1x128_S1x128) shapeCasts_S1x128_S1x1x128

/-- A row copied out to columns `o …` of row `m`. -/
def outPiece (arg10 : Memref sig .tc .vmem S41x8x128 .f32) (g10 : BufTy.Contents (Elt F) arg10.view.ty) (m o s i : ℕ)
    (h : ∀ a, (![0, m, o] : Fin 3 → Nat) a + S1x1x128.size a ≤ S1x32x640.size a) (hs : s < 41) (hi : i < 8) : View.Piece (Elt F) S1x32x640 .f32 :=
  ⟨Rect.unit (s := S1x32x640) ![0, m, o] S1x1x128.size h, copied arg10 g10 ⟨s, hs⟩ ⟨i, hi⟩⟩

theorem out_inb (m o : ℕ) (hm : m < 32) (ho : o + 128 ≤ 640) : ∀ a, (![0, m, o] : Fin 3 → Nat) a + S1x1x128.size a ≤ S1x32x640.size a := by
  intro a
  match a with
  | 0 => exact Nat.le_refl _
  | 1 => exact hm
  | 2 => exact ho

/-- The pieces of the rows before `n`: column group `j` of row `m` is strip `5 m + j` of the 160. -/
def outN (arg10 : Memref sig .tc .vmem S41x8x128 .f32) (g10 : BufTy.Contents (Elt F) arg10.view.ty) : (n : ℕ) → n ≤ 32 → List (View.Piece (Elt F) S1x32x640 .f32)
  | 0, _ => []
  | n + 1, h =>
      outPiece arg10 g10 n 512 (1 + (5 * n + 4) / 4) ((5 * n + 4) % 4) (out_inb _ _ h (by omega)) (by omega) (by omega)
      :: outPiece arg10 g10 n 384 (1 + (5 * n + 3) / 4) ((5 * n + 3) % 4) (out_inb _ _ h (by omega)) (by omega) (by omega)
      :: outPiece arg10 g10 n 256 (1 + (5 * n + 2) / 4) ((5 * n + 2) % 4) (out_inb _ _ h (by omega)) (by omega) (by omega)
      :: outPiece arg10 g10 n 128 (1 + (5 * n + 1) / 4) ((5 * n + 1) % 4) (out_inb _ _ h (by omega)) (by omega) (by omega)
      :: outPiece arg10 g10 n 0 (1 + (5 * n + 0) / 4) ((5 * n + 0) % 4) (out_inb _ _ h (by omega)) (by omega) (by omega)
      :: outN arg10 g10 n (by omega)

theorem outN_succ (arg10 : Memref sig .tc .vmem S41x8x128 .f32) (g10 : BufTy.Contents (Elt F) arg10.view.ty) (n : ℕ) (h : n + 1 ≤ 32) (s0 s1 s2 s3 s4 i0 i1 i2 i3 i4 : ℕ)
    (hs0 : s0 < 41) (hs1 : s1 < 41) (hs2 : s2 < 41) (hs3 : s3 < 41) (hs4 : s4 < 41) (hi0 : i0 < 8) (hi1 : i1 < 8) (hi2 : i2 < 8) (hi3 : i3 < 8) (hi4 : i4 < 8)
    (e : (s0 = 1 + (5 * n + 0) / 4 ∧ s1 = 1 + (5 * n + 1) / 4 ∧ s2 = 1 + (5 * n + 2) / 4 ∧ s3 = 1 + (5 * n + 3) / 4 ∧ s4 = 1 + (5 * n + 4) / 4)
      ∧ (i0 = (5 * n + 0) % 4 ∧ i1 = (5 * n + 1) % 4 ∧ i2 = (5 * n + 2) % 4 ∧ i3 = (5 * n + 3) % 4 ∧ i4 = (5 * n + 4) % 4)) {L' : List (View.Piece (Elt F) S1x32x640 .f32)}
    (e' : L' = outN arg10 g10 n (Nat.le_of_succ_le h)) :
    outPiece arg10 g10 n 512 s4 i4 (out_inb _ _ h (by omega)) hs4 hi4 :: outPiece arg10 g10 n 384 s3 i3 (out_inb _ _ h (by omega)) hs3 hi3
      :: outPiece arg10 g10 n 256 s2 i2 (out_inb _ _ h (by omega)) hs2 hi2 :: outPiece arg10 g10 n 128 s1 i1 (out_inb _ _ h (by omega)) hs1 hi1
      :: outPiece arg10 g10 n 0 s0 i0 (out_inb _ _ h (by omega)) hs0 hi0 :: L' = outN arg10 g10 (n + 1) h := by
  obtain ⟨⟨rfl, rfl, rfl, rfl, rfl⟩, rfl, rfl, rfl, rfl, rfl⟩ := e
  subst e'
  rfl

section Out

variable (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (f10 : BufTy.Contents (Elt F) arg10.view.ty)

theorem outL_1 : runLast.sl.H6_5 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 1 (by decide) :=
  Eq.trans (by unfold runLast.sl.H6_5; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 0 (by decide) 1 1 1 1 2 0 1 2 3 0 (by decide) (by decide) (by decide) (by decide) (by decide) (by decide) (by decide) (by decide) (by decide) (by decide) (by decide) rfl)
theorem outL_2 : runLast.sl.H6_10 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 2 (by decide) :=
  Eq.trans (by unfold runLast.sl.H6_10; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 1 (by decide) 2 2 2 3 3 1 2 3 0 1 (by decide) (by decide) (by decide) (by decide) (by decide) (by decide) (by decide) (by decide) (by decide) (by decide) (by decide) (outL_1 c i arg2 harg2 arg3 harg3 arg4 harg4 arg5 harg5 arg6 harg6 arg7 harg7 arg8 harg8 arg9 harg9 arg10 harg10 f2 f3 f4 f5 f7 f10))
theorem outL_3 : runLast.sl.H6_15 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 3 (by decide) :=
  Eq.trans (by unfold runLast.sl.H6_15; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 2 (by decide) 3 3 4 4 4 2 3 0 1 2 (by decide) (by decide) (by decide) (by decide) (by decide) (by decide) (by decide) (by decide) (by decide) (by decide) (by decide) (outL_2 c i arg2 harg2 arg3 harg3 arg4 harg4 arg5 harg5 arg6 harg6 arg7 harg7 arg8 harg8 arg9 harg9 arg10 harg10 f2 f3 f4 f5 f7 f10))
theorem outL_4 : runLast.sl.H6_20 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 4 (by decide) :=
  Eq.trans (by unfold runLast.sl.H6_20; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 3 (by decide) 4 5 5 5 5 3 0 1 2 3 (by decide) (by decide) (by decide) (by decide) (by decide) (by decide) (by decide) (by decide) (by decide) (by decide) (by decide) (outL_3 c i arg2 harg2 arg3 harg3 arg4 harg4 arg5 harg5 arg6 harg6 arg7 harg7 arg8 harg8 arg9 harg9 arg10 harg10 f2 f3 f4 f5 f7 f10))
theorem outL_5 : runLast.sl.H6_25 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 5 (by decide) :=
  Eq.trans (by unfold runLast.sl.H6_25; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 4 (by decide) 6 6 6 6 7 0 1 2 3 0 (by decide) (by decide) (by decide) (by decide) (by decide) (by decide) (by decide) (by decide) (by decide) (by decide) (by decide) (outL_4 c i arg2 harg2 arg3 harg3 arg4 harg4 arg5 harg5 arg6 harg6 arg7 harg7 arg8 harg8 arg9 harg9 arg10 harg10 f2 f3 f4 f5 f7 f10))
theorem outL_6 : runLast.sl.H6_30 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 6 (by decide) :=
  Eq.trans (by unfold runLast.sl.H6_30; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 5 (by decide) 7 7 7 8 8 1 2 3 0 1 (by decide) (by decide) (by decide) (by decide) (by decide) (by decide) (by decide) (by decide) (by decide) (by decide) (by decide) (outL_5 c i arg2 harg2 arg3 harg3 arg4 harg4 arg5 harg5 arg6 harg6 arg7 harg7 arg8 harg8 arg9 harg9 arg10 harg10 f2 f3 f4 f5 f7 f10))
theorem outL_7 : runLast.sl.H6_35 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 7 (by decide) :=
  Eq.trans (by unfold runLast.sl.H6_35; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 6 (by decide) 8 8 9 9 9 2 3 0 1 2 (by decide) (by decide) (by decide) (by decide) (by decide) (by decide) (by decide) (by decide) (by decide) (by decide) (by decide) (outL_6 c i arg2 harg2 arg3 harg3 arg4 harg4 arg5 harg5 arg6 harg6 arg7 harg7 arg8 harg8 arg9 harg9 arg10 harg10 f2 f3 f4 f5 f7 f10))
theorem outL_8 : runLast.sl.H6_40 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 8 (by decide) :=
  Eq.trans (by unfold runLast.sl.H6_40; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 7 (by decide) 9 10 10 10 10 3 0 1 2 3 (by decide) (by decide) (by decide) (by decide) (by decide) (by decide) (by decide) (by decide) (by decide) (by decide) (by decide) (outL_7 c i arg2 harg2 arg3 harg3 arg4 harg4 arg5 harg5 arg6 harg6 arg7 harg7 arg8 harg8 arg9 harg9 arg10 harg10 f2 f3 f4 f5 f7 f10))
theorem outL_9 : runLast.sl.H6_45 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 9 (by decide) :=
  Eq.trans (by unfold runLast.sl.H6_45; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 8 (by decide) 11 11 11 11 12 0 1 2 3 0 (by decide) (by decide) (by decide) (by decide) (by decide) (by decide) (by decide) (by decide) (by decide) (by decide) (by decide) (outL_8 c i arg2 harg2 arg3 harg3 arg4 harg4 arg5 harg5 arg6 harg6 arg7 harg7 arg8 harg8 arg9 harg9 arg10 harg10 f2 f3 f4 f5 f7 f10))
theorem outL_10 : runLast.sl.H6_50 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 10 (by decide) :=
  Eq.trans (by unfold runLast.sl.H6_50; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 9 (by decide) 12 12 12 13 13 1 2 3 0 1 (by decide) (by decide) (by decide) (by decide) (by decide) (by decide) (by decide) (by decide) (by decide) (by decide) (by decide) (outL_9 c i arg2 harg2 arg3 harg3 arg4 harg4 arg5 harg5 arg6 harg6 arg7 harg7 arg8 harg8 arg9 harg9 arg10 harg10 f2 f3 f4 f5 f7 f10))
theorem outL_11 : runLast.sl.H6_55 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 11 (by decide) :=
  Eq.trans (by unfold runLast.sl.H6_55; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 10 (by decide) 13 13 14 14 14 2 3 0 1 2 (by decide) (by decide) (by decide) (by decide) (by decide) (by decide) (by decide) (by decide) (by decide) (by decide) (by decide) (outL_10 c i arg2 harg2 arg3 harg3 arg4 harg4 arg5 harg5 arg6 harg6 arg7 harg7 arg8 harg8 arg9 harg9 arg10 harg10 f2 f3 f4 f5 f7 f10))
theorem outL_12 : runLast.sl.H6_60 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 12 (by decide) :=
  Eq.trans (by unfold runLast.sl.H6_60; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 11 (by decide) 14 15 15 15 15 3 0 1 2 3 (by decide) (by decide) (by decide) (by decide) (by decide) (by decide) (by decide) (by decide) (by decide) (by decide) (by decide) (outL_11 c i arg2 harg2 arg3 harg3 arg4 harg4 arg5 harg5 arg6 harg6 arg7 harg7 arg8 harg8 arg9 harg9 arg10 harg10 f2 f3 f4 f5 f7 f10))
theorem outL_13 : runLast.sl.H6_65 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 13 (by decide) :=
  Eq.trans (by unfold runLast.sl.H6_65; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 12 (by decide) 16 16 16 16 17 0 1 2 3 0 (by decide) (by decide) (by decide) (by decide) (by decide) (by decide) (by decide) (by decide) (by decide) (by decide) (by decide) (outL_12 c i arg2 harg2 arg3 harg3 arg4 harg4 arg5 harg5 arg6 harg6 arg7 harg7 arg8 harg8 arg9 harg9 arg10 harg10 f2 f3 f4 f5 f7 f10))
theorem outL_14 : runLast.sl.H6_70 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 14 (by decide) :=
  Eq.trans (by unfold runLast.sl.H6_70; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 13 (by decide) 17 17 17 18 18 1 2 3 0 1 (by decide) (by decide) (by decide) (by decide) (by decide) (by decide) (by decide) (by decide) (by decide) (by decide) (by decide) (outL_13 c i arg2 harg2 arg3 harg3 arg4 harg4 arg5 harg5 arg6 harg6 arg7 harg7 arg8 harg8 arg9 harg9 arg10 harg10 f2 f3 f4 f5 f7 f10))
theorem outL_15 : runLast.sl.H6_75 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 15 (by decide) :=
  Eq.trans (by unfold runLast.sl.H6_75; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 14 (by decide) 18 18 19 19 19 2 3 0 1 2 (by decide) (by decide) (by decide) (by decide) (by decide) (by decide) (by decide) (by decide) (by decide) (by decide) (by decide) (outL_14 c i arg2 harg2 arg3 harg3 arg4 harg4 arg5 harg5 arg6 harg6 arg7 harg7 arg8 harg8 arg9 harg9 arg10 harg10 f2 f3 f4 f5 f7 f10))
theorem outL_16 : runLast.sl.H6_80 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 16 (by decide) :=
  Eq.trans (by unfold runLast.sl.H6_80; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 15 (by decide) 19 20 20 20 20 3 0 1 2 3 (by decide) (by decide) (by decide) (by decide) (by decide) (by decide) (by decide) (by decide) (by decide) (by decide) (by decide) (outL_15 c i arg2 harg2 arg3 harg3 arg4 harg4 arg5 harg5 arg6 harg6 arg7 harg7 arg8 harg8 arg9 harg9 arg10 harg10 f2 f3 f4 f5 f7 f10))
theorem outL_17 : runLast.sl.H6_85 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 17 (by decide) :=
  Eq.trans (by unfold runLast.sl.H6_85; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 16 (by decide) 21 21 21 21 22 0 1 2 3 0 (by decide) (by decide) (by decide) (by decide) (by decide) (by decide) (by decide) (by decide) (by decide) (by decide) (by decide) (outL_16 c i arg2 harg2 arg3 harg3 arg4 harg4 arg5 harg5 arg6 harg6 arg7 harg7 arg8 harg8 arg9 harg9 arg10 harg10 f2 f3 f4 f5 f7 f10))
theorem outL_18 : runLast.sl.H6_90 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 18 (by decide) :=
  Eq.trans (by unfold runLast.sl.H6_90; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 17 (by decide) 22 22 22 23 23 1 2 3 0 1 (by decide) (by decide) (by decide) (by decide) (by decide) (by decide) (by decide) (by decide) (by decide) (by decide) (by decide) (outL_17 c i arg2 harg2 arg3 harg3 arg4 harg4 arg5 harg5 arg6 harg6 arg7 harg7 arg8 harg8 arg9 harg9 arg10 harg10 f2 f3 f4 f5 f7 f10))
theorem outL_19 : runLast.sl.H6_95 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 19 (by decide) :=
  Eq.trans (by unfold runLast.sl.H6_95; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 18 (by decide) 23 23 24 24 24 2 3 0 1 2 (by decide) (by decide) (by decide) (by decide) (by decide) (by decide) (by decide) (by decide) (by decide) (by decide) (by decide) (outL_18 c i arg2 harg2 arg3 harg3 arg4 harg4 arg5 harg5 arg6 harg6 arg7 harg7 arg8 harg8 arg9 harg9 arg10 harg10 f2 f3 f4 f5 f7 f10))
theorem outL_20 : runLast.sl.H6_100 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 20 (by decide) :=
  Eq.trans (by unfold runLast.sl.H6_100; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 19 (by decide) 24 25 25 25 25 3 0 1 2 3 (by decide) (by decide) (by decide) (by decide) (by decide) (by decide) (by decide) (by decide) (by decide) (by decide) (by decide) (outL_19 c i arg2 harg2 arg3 harg3 arg4 harg4 arg5 harg5 arg6 harg6 arg7 harg7 arg8 harg8 arg9 harg9 arg10 harg10 f2 f3 f4 f5 f7 f10))
theorem outL_21 : runLast.sl.H6_105 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 21 (by decide) :=
  Eq.trans (by unfold runLast.sl.H6_105; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 20 (by decide) 26 26 26 26 27 0 1 2 3 0 (by decide) (by decide) (by decide) (by decide) (by decide) (by decide) (by decide) (by decide) (by decide) (by decide) (by decide) (outL_20 c i arg2 harg2 arg3 harg3 arg4 harg4 arg5 harg5 arg6 harg6 arg7 harg7 arg8 harg8 arg9 harg9 arg10 harg10 f2 f3 f4 f5 f7 f10))
theorem outL_22 : runLast.sl.H6_110 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 22 (by decide) :=
  Eq.trans (by unfold runLast.sl.H6_110; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 21 (by decide) 27 27 27 28 28 1 2 3 0 1 (by decide) (by decide) (by decide) (by decide) (by decide) (by decide) (by decide) (by decide) (by decide) (by decide) (by decide) (outL_21 c i arg2 harg2 arg3 harg3 arg4 harg4 arg5 harg5 arg6 harg6 arg7 harg7 arg8 harg8 arg9 harg9 arg10 harg10 f2 f3 f4 f5 f7 f10))
theorem outL_23 : runLast.sl.H6_115 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 23 (by decide) :=
  Eq.trans (by unfold runLast.sl.H6_115; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 22 (by decide) 28 28 29 29 29 2 3 0 1 2 (by decide) (by decide) (by decide) (by decide) (by decide) (by decide) (by decide) (by decide) (by decide) (by decide) (by decide) (outL_22 c i arg2 harg2 arg3 harg3 arg4 harg4 arg5 harg5 arg6 harg6 arg7 harg7 arg8 harg8 arg9 harg9 arg10 harg10 f2 f3 f4 f5 f7 f10))
theorem outL_24 : runLast.sl.H6_120 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 24 (by decide) :=
  Eq.trans (by unfold runLast.sl.H6_120; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 23 (by decide) 29 30 30 30 30 3 0 1 2 3 (by decide) (by decide) (by decide) (by decide) (by decide) (by decide) (by decide) (by decide) (by decide) (by decide) (by decide) (outL_23 c i arg2 harg2 arg3 harg3 arg4 harg4 arg5 harg5 arg6 harg6 arg7 harg7 arg8 harg8 arg9 harg9 arg10 harg10 f2 f3 f4 f5 f7 f10))
theorem outL_25 : runLast.sl.H6_125 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 25 (by decide) :=
  Eq.trans (by unfold runLast.sl.H6_125; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 24 (by decide) 31 31 31 31 32 0 1 2 3 0 (by decide) (by decide) (by decide) (by decide) (by decide) (by decide) (by decide) (by decide) (by decide) (by decide) (by decide) (outL_24 c i arg2 harg2 arg3 harg3 arg4 harg4 arg5 harg5 arg6 harg6 arg7 harg7 arg8 harg8 arg9 harg9 arg10 harg10 f2 f3 f4 f5 f7 f10))
theorem outL_26 : runLast.sl.H6_130 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 26 (by decide) :=
  Eq.trans (by unfold runLast.sl.H6_130; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 25 (by decide) 32 32 32 33 33 1 2 3 0 1 (by decide) (by decide) (by decide) (by decide) (by decide) (by decide) (by decide) (by decide) (by decide) (by decide) (by decide) (outL_25 c i arg2 harg2 arg3 harg3 arg4 harg4 arg5 harg5 arg6 harg6 arg7 harg7 arg8 harg8 arg9 harg9 arg10 harg10 f2 f3 f4 f5 f7 f10))
theorem outL_27 : runLast.sl.H6_135 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 27 (by decide) :=
  Eq.trans (by unfold runLast.sl.H6_135; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 26 (by decide) 33 33 34 34 34 2 3 0 1 2 (by decide) (by decide) (by decide) (by decide) (by decide) (by decide) (by decide) (by decide) (by decide) (by decide) (by decide) (outL_26 c i arg2 harg2 arg3 harg3 arg4 harg4 arg5 harg5 arg6 harg6 arg7 harg7 arg8 harg8 arg9 harg9 arg10 harg10 f2 f3 f4 f5 f7 f10))
theorem outL_28 : runLast.sl.H6_140 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 28 (by decide) :=
  Eq.trans (by unfold runLast.sl.H6_140; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 27 (by decide) 34 35 35 35 35 3 0 1 2 3 (by decide) (by decide) (by decide) (by decide) (by decide) (by decide) (by decide) (by decide) (by decide) (by decide) (by decide) (outL_27 c i arg2 harg2 arg3 harg3 arg4 harg4 arg5 harg5 arg6 harg6 arg7 harg7 arg8 harg8 arg9 harg9 arg10 harg10 f2 f3 f4 f5 f7 f10))
theorem outL_29 : runLast.sl.H6_145 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 29 (by decide) :=
  Eq.trans (by unfold runLast.sl.H6_145; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 28 (by decide) 36 36 36 36 37 0 1 2 3 0 (by decide) (by decide) (by decide) (by decide) (by decide) (by decide) (by decide) (by decide) (by decide) (by decide) (by decide) (outL_28 c i arg2 harg2 arg3 harg3 arg4 harg4 arg5 harg5 arg6 harg6 arg7 harg7 arg8 harg8 arg9 harg9 arg10 harg10 f2 f3 f4 f5 f7 f10))
theorem outL_30 : runLast.sl.H6_150 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 30 (by decide) :=
  Eq.trans (by unfold runLast.sl.H6_150; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 29 (by decide) 37 37 37 38 38 1 2 3 0 1 (by decide) (by decide) (by decide) (by decide) (by decide) (by decide) (by decide) (by decide) (by decide) (by decide) (by decide) (outL_29 c i arg2 harg2 arg3 harg3 arg4 harg4 arg5 harg5 arg6 harg6 arg7 harg7 arg8 harg8 arg9 harg9 arg10 harg10 f2 f3 f4 f5 f7 f10))
theorem outL_31 : runLast.sl.H6_155 c i arg2 harg2 arg3 harg3 arg4 harg4 arg5 harg5 arg6 harg6 arg7 harg7 arg8 harg8 arg9 harg9 arg10 harg10 f2 f3 f4 f5 f7 f10 = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 31 (by decide) :=
  Eq.trans (by unfold runLast.sl.H6_155; rfl) (outN_succ arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 30 (by decide) 38 38 39 39 39 2 3 0 1 2 (by decide) (by decide) (by decide) (by decide) (by decide) (by decide) (by decide) (by decide) (by decide) (by decide) (by decide) (outL_30 c i arg2 harg2 arg3 harg3 arg4 harg4 arg5 harg5 arg6 harg6 arg7 harg7 arg8 harg8 arg9 harg9 arg10 harg10 f2 f3 f4 f5 f7 f10))

end Out

end Cert.Proof.KernelIdeal

end
-- ==== Proof.OutVal.lean ====
/- All the rows of sums copied out. -/
module

public import proofs.«01_k».proof.Proof.EpiVal

@[expose] public section

set_option maxRecDepth 65536
set_option maxHeartbeats 1000000

noncomputable section

namespace Cert.Proof.KernelIdeal

open Cert.KernelIdeal Cert.KernelIdeal.Gen Cert.Proof.MxuRun
open Idealize.ShloMosaic Idealize.ShloMosaic.TcCoe Idealize.ShloMosaic.Tactic

variable {F : FTy → Type} [FloatOps F]

attribute [local irreducible] made pb_k0_t1 Scf.trips

/-- The value of the last store for a strip. -/
def lastW (arg8 : Memref sig .tc .vmem S2048x128 .f32) (arg9 : Memref sig .tc .vmem S4x2x64x256 .f32) (arg10 : Memref sig .tc .vmem S41x8x128 .f32) (v0 : BitVec 1)
    (X8 : BufTy.Contents (Elt F) arg8.view.ty) (f9 : BufTy.Contents (Elt F) arg9.view.ty) (f10 : BufTy.Contents (Elt F) arg10.view.ty) (p : Made F) (q h : Fin 2) : FVec F S1x1x128 .f32 :=
  let a : FVec F S8x128 .f32 := match q, h with | 0, 0 => p.carry.1 | 0, 1 => p.carry.2.1 | 1, 0 => p.carry.2.2.1 | 1, 1 => p.carry.2.2.2.1
  let l : FVec F S8x128 .f32 := match q, h with | 0, 0 => p.carry.2.2.2.2.1 | 0, 1 => p.carry.2.2.2.2.2.1 | 1, 0 => p.carry.2.2.2.2.2.2.1 | 1, 1 => p.carry.2.2.2.2.2.2.2.1
  fin v0 (hinge8 h (lastV arg9 f9 p.carry.2.2.2.2.2.2.2.2 q) (bb arg8 X8) a) (log8 h (lastV arg9 f9 p.carry.2.2.2.2.2.2.2.2 q) (bb arg8 X8) l)
    (slotRow arg10 (arg10.view.writes (Elt F) f10 p.L10) 40 (str q h))

theorem slotRow_lastW (arg8 : Memref sig .tc .vmem S2048x128 .f32) (arg9 : Memref sig .tc .vmem S4x2x64x256 .f32) (arg10 : Memref sig .tc .vmem S41x8x128 .f32) (v0 : BitVec 1)
    (X8 : BufTy.Contents (Elt F) arg8.view.ty) (f9 : BufTy.Contents (Elt F) arg9.view.ty) (f10 : BufTy.Contents (Elt F) arg10.view.ty) (p : Made F)
    (g : BufTy.Contents (Elt F) arg10.view.ty) (q h : Fin 2) :
    slotRow arg10 (arg10.view.writes (Elt F) g (lastL arg8 arg9 arg10 v0 X8 f9 f10 p)) 40 (str q h) = lastW arg8 arg9 arg10 v0 X8 f9 f10 p q h := by
  match q, h with
  | 0, 0 =>
    unfold lastL
    exact (slotRow_miss arg10 g _ _ _ _ 40 (str 0 0) 40 3 rfl (.inr (by decide))).trans ((slotRow_miss arg10 g _ _ _ _ 40 (str 0 0) 40 2 rfl (.inr (by decide))).trans
      ((slotRow_miss arg10 g _ _ _ _ 40 (str 0 0) 40 1 rfl (.inr (by decide))).trans (slotRow_hit arg10 g _ _ _ _ 40 (str 0 0) rfl)))
  | 0, 1 =>
    unfold lastL
    refine (slotRow_miss arg10 g _ _ _ _ 40 (str 0 1) 40 3 rfl (.inr (by decide))).trans ((slotRow_miss arg10 g _ _ _ _ 40 (str 0 1) 40 2 rfl (.inr (by decide))).trans
      ((slotRow_hit arg10 g _ _ _ _ 40 (str 0 1) rfl).trans ?_))
    exact congrArg (fin v0 _ _) (slotRow_miss arg10 f10 _ _ _ _ 40 (str 0 1) 40 0 rfl (.inr (by decide)))
  | 1, 0 =>
    unfold lastL
    refine (slotRow_miss arg10 g _ _ _ _ 40 (str 1 0) 40 3 rfl (.inr (by decide))).trans ((slotRow_hit arg10 g _ _ _ _ 40 (str 1 0) rfl).trans ?_)
    exact congrArg (fin v0 _ _) ((slotRow_miss arg10 f10 _ _ _ _ 40 (str 1 0) 40 1 rfl (.inr (by decide))).trans (slotRow_miss arg10 f10 _ _ _ _ 40 (str 1 0) 40 0 rfl (.inr (by decide))))
  | 1, 1 =>
    unfold lastL
    refine (slotRow_hit arg10 g _ _ _ _ 40 (str 1 1) rfl).trans ?_
    exact congrArg (fin v0 _ _) ((slotRow_miss arg10 f10 _ _ _ _ 40 (str 1 1) 40 2 rfl (.inr (by decide))).trans ((slotRow_miss arg10 f10 _ _ _ _ 40 (str 1 1) 40 1 rfl (.inr (by decide))).trans
      (slotRow_miss arg10 f10 _ _ _ _ 40 (str 1 1) 40 0 rfl (.inr (by decide)))))

/-- Other slots are left alone by the last stores. -/
theorem slotRow_lastL_of_ne (arg8 : Memref sig .tc .vmem S2048x128 .f32) (arg9 : Memref sig .tc .vmem S4x2x64x256 .f32) (arg10 : Memref sig .tc .vmem S41x8x128 .f32) (v0 : BitVec 1)
    (X8 : BufTy.Contents (Elt F) arg8.view.ty) (f9 : BufTy.Contents (Elt F) arg9.view.ty) (f10 : BufTy.Contents (Elt F) arg10.view.ty) (p : Made F)
    (g : BufTy.Contents (Elt F) arg10.view.ty) (s : Fin 41) (i : Fin 8) (hs : 40 ≠ s.val) :
    slotRow arg10 (arg10.view.writes (Elt F) g (lastL arg8 arg9 arg10 v0 X8 f9 f10 p)) s i = slotRow arg10 (arg10.view.writes (Elt F) g p.L10) s i := by
  unfold lastL
  exact (slotRow_miss arg10 g _ _ _ _ s i 40 3 rfl (.inl hs)).trans ((slotRow_miss arg10 g _ _ _ _ s i 40 2 rfl (.inl hs)).trans
      ((slotRow_miss arg10 g _ _ _ _ s i 40 1 rfl (.inl hs)).trans (slotRow_miss arg10 g _ _ _ _ s i 40 0 rfl (.inl hs))))

theorem outPiece_congr (arg10 : Memref sig .tc .vmem S41x8x128 .f32) (g g' : BufTy.Contents (Elt F) arg10.view.ty) (m o s i : ℕ)
    (h : ∀ a, (![0, m, o] : Fin 3 → Nat) a + S1x1x128.size a ≤ S1x32x640.size a) (hs : s < 41) (hi : i < 8) (e : slotRow arg10 g ⟨s, hs⟩ ⟨i, hi⟩ = slotRow arg10 g' ⟨s, hs⟩ ⟨i, hi⟩) :
    outPiece arg10 g m o s i h hs hi = outPiece arg10 g' m o s i h hs hi := by
  unfold outPiece copied; rw [e]

theorem out_last (arg10 : Memref sig .tc .vmem S41x8x128 .f32) (g g' : BufTy.Contents (Elt F) arg10.view.ty) (L : List (View.Piece (Elt F) S1x32x640 .f32))
    (hL : L = outN arg10 g' 31 (by decide))
    (e : ∀ q h, slotRow arg10 g 40 (str q h) = slotRow arg10 g' 40 (str q h)) :
    outPiece arg10 g 31 512 40 3 (out_inb 31 512 (by decide) (by decide)) (by decide) (by decide)
      :: outPiece arg10 g 31 384 40 2 (out_inb 31 384 (by decide) (by decide)) (by decide) (by decide)
      :: outPiece arg10 g 31 256 40 1 (out_inb 31 256 (by decide) (by decide)) (by decide) (by decide)
      :: outPiece arg10 g 31 128 40 0 (out_inb 31 128 (by decide) (by decide)) (by decide) (by decide)
      :: outPiece arg10 g' 31 0 39 3 (out_inb 31 0 (by decide) (by decide)) (by decide) (by decide) :: L
      = outN arg10 g' 32 (by decide) := by
  rw [outPiece_congr arg10 g g' 31 512 40 3 _ _ _ (e 1 1), outPiece_congr arg10 g g' 31 384 40 2 _ _ _ (e 1 0),
    outPiece_congr arg10 g g' 31 256 40 1 _ _ _ (e 0 1), outPiece_congr arg10 g g' 31 128 40 0 _ _ _ (e 0 0)]
  exact outN_succ arg10 g' 31 (by decide) 39 40 40 40 40 3 0 1 2 3 (by decide) (by decide) (by decide) (by decide) (by decide) (by decide) (by decide) (by decide) (by decide) (by decide) (by decide) hL

attribute [local irreducible] outN lastL in
theorem last_L6   (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    (runLast (F := F) c i arg2 harg2 arg3 harg3 arg4 harg4 arg5 harg5 arg6 harg6 arg7 harg7 arg8 harg8 arg9 harg9 arg10 harg10 hc f2 f3 f4 f5 f6 f7 f8 f9 f10).1
      = outN arg10 (arg10.view.writes (Elt F) f10 (runLast (F := F) c i arg2 harg2 arg3 harg3 arg4 harg4 arg5 harg5 arg6 harg6 arg7 harg7 arg8 harg8 arg9 harg9 arg10 harg10 hc f2 f3 f4 f5 f6 f7 f8 f9 f10).2.1) 32 (Nat.le_refl _) := by
  have hL := last_L10 c i arg2 harg2 arg3 harg3 arg4 harg4 arg5 harg5 arg6 harg6 arg7 harg7 arg8 harg8 arg9 harg9 arg10 harg10 hc f2 f3 f4 f5 f6 f7 f8 f9 f10
  have hrow : ∀ q h, slotRow arg10 (arg10.view.writes (Elt F) arg10.view.junk (runLast (F := F) c i arg2 harg2 arg3 harg3 arg4 harg4 arg5 harg5 arg6 harg6 arg7 harg7 arg8 harg8 arg9 harg9 arg10 harg10 hc f2 f3 f4 f5 f6 f7 f8 f9 f10).2.1) 40 (str q h) = slotRow arg10 (arg10.view.writes (Elt F) f10 (runLast (F := F) c i arg2 harg2 arg3 harg3 arg4 harg4 arg5 harg5 arg6 harg6 arg7 harg7 arg8 harg8 arg9 harg9 arg10 harg10 hc f2 f3 f4 f5 f6 f7 f8 f9 f10).2.1) 40 (str q h) := by
    intro q h
    rw [hL]
    rw [slotRow_lastW, slotRow_lastW]
  clear hL
  revert hrow
  unfold runLast
  intro hrow
  have hrow' : ∀ q h, slotRow arg10 (arg10.view.writes (Elt F) arg10.view.junk (runLast.sl.H10_4 c i arg2 harg2 arg3 harg3 arg4 harg4 arg5 harg5 arg6 harg6 arg7 harg7 arg8 harg8 arg9 harg9 arg10 harg10 f2 f3 f4 f5 f7 f10)) 40 (str q h) = slotRow arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 40 (str q h) := hrow
  show _ = outN arg10 (arg10.view.writes (Elt F) f10 (runLast.sl.H10_4 c i arg2 harg2 arg3 harg3 arg4 harg4 arg5 harg5 arg6 harg6 arg7 harg7 arg8 harg8 arg9 harg9 arg10 harg10 f2 f3 f4 f5 f7 f10)) 32 _
  refine Eq.trans ?_ (out_last arg10 (arg10.view.writes (Elt F) arg10.view.junk (runLast.sl.H10_4 c i arg2 harg2 arg3 harg3 arg4 harg4 arg5 harg5 arg6 harg6 arg7 harg7 arg8 harg8 arg9 harg9 arg10 harg10 f2 f3 f4 f5 f7 f10)) (arg10.view.writes (Elt F) f10 (runLast.sl.H10_4 c i arg2 harg2 arg3 harg3 arg4 harg4 arg5 harg5 arg6 harg6 arg7 harg7 arg8 harg8 arg9 harg9 arg10 harg10 f2 f3 f4 f5 f7 f10)) _ (outL_31 c i arg2 harg2 arg3 harg3 arg4 harg4 arg5 harg5 arg6 harg6 arg7 harg7 arg8 harg8 arg9 harg9 arg10 harg10 f2 f3 f4 f5 f7 f10) hrow')
  rfl

end Cert.Proof.KernelIdeal

end
-- ==== Proof.BodyVal.lean ====
/- What the body leaves: every row of sums, and at the last tile of a chunk the rows copied out. -/
module

public import proofs.«01_k».proof.Proof.OutVal

@[expose] public section

set_option maxRecDepth 16384

noncomputable section

namespace Cert.Proof.KernelIdeal

open Cert.KernelIdeal Cert.KernelIdeal.Gen Cert.Proof.MxuRun
open Idealize.ShloMosaic Idealize.ShloMosaic.TcCoe

variable {F : FTy → Type} [FloatOps F]

/-- The pops after the loop give what the last quarter of the accumulators holds. -/
theorem lastPop_eq {arg5 : Memref sig .tc .vmem S40x256x512 .i32} {X5 : BufTy.Contents (Elt F) arg5.view.ty} {v3 : Fin 2 → Fin 4 → Option (BlockV F)} {t : Fin 2 → TileV F} {k : Fin 40}
    {s : Mxu F} (h0 : Rep s (between arg5 X5 v3 t k) []) {q : Fin 2} {b : Fin 4} {x : BlockV F} (e : v3 q b = some x) : lastPop s q b = x := by
  have h1 := h0.pop 0 12 (A := 192) rfl fits_192_64
  have h2 := h1.pop 1 12 (A := 192) rfl fits_192_64
  have h3 := h2.pop 0 13 (A := 208) rfl fits_208_64
  have h4 := h3.pop 1 13 (A := 208) rfl fits_208_64
  have h5 := h4.pop 0 14 (A := 224) rfl fits_224_64
  have h6 := h5.pop 1 14 (A := 224) rfl fits_224_64
  have h7 := h6.pop 0 15 (A := 240) rfl fits_240_64
  match q, b with
  | 0, 0 => exact h0.read 0 12 x e
  | 1, 0 => exact h1.read 1 12 x e
  | 0, 1 => exact h2.read 0 13 x e
  | 1, 1 => exact h3.read 1 13 x e
  | 0, 2 => exact h4.read 0 14 x e
  | 1, 2 => exact h5.read 1 14 x e
  | 0, 3 => exact h6.read 0 15 x e
  | 1, 3 => exact h7.read 1 15 x e

/-- Every row of sums after the last stores. -/
theorem row_lastL {arg5 : Memref sig .tc .vmem S40x256x512 .i32} {arg7 : Memref sig .tc .vmem S1024x2x512 .bf16} {arg8 : Memref sig .tc .vmem S2048x128 .f32}
    {arg9 : Memref sig .tc .vmem S4x2x64x256 .f32} {arg10 : Memref sig .tc .vmem S41x8x128 .f32} {v0 : BitVec 1}
    {X5 : BufTy.Contents (Elt F) arg5.view.ty} {X7 : BufTy.Contents (Elt F) arg7.view.ty} {X8 : BufTy.Contents (Elt F) arg8.view.ty}
    {G9 : BufTy.Contents (Elt F) arg9.view.ty} {G10 : BufTy.Contents (Elt F) arg10.view.ty} {p : Made F} (g : Good arg5 arg7 arg8 arg9 arg10 v0 X5 X7 X8 G9 G10 40 p)
    {f9 : BufTy.Contents (Elt F) arg9.view.ty} (h9 : f9 = arg9.view.writes (Elt F) G9 p.L9) (r : Fin 40) (q h : Fin 2) :
    slotRow arg10 (arg10.view.writes (Elt F) G10 (lastL arg8 arg9 arg10 v0 X8 f9 G10 p)) (slotOf r) (str q h)
      = rowOf arg5 arg7 arg8 X5 X7 X8 v0 r q h (slotRow arg10 G10 (slotOf r) (str q h)) := by
  by_cases hr : r.val + 2 ≤ 40
  · rw [slotRow_lastL_of_ne _ _ _ _ _ _ _ _ _ _ _ (by show 40 ≠ r.val + 1; omega)]
    exact g.done r hr q h
  · have hr' : r.val + 1 = 40 := by have := r.isLt; omega
    have hs : slotOf r = 40 := Fin.ext hr'
    obtain ⟨v3, t, hrep, h7⟩ := g.units
    obtain ⟨s0, s1, s2, s3, s4, s5, s6, s7⟩ := g.sums r hr'
    rw [hs, slotRow_lastW]
    have e6 : ∀ b, lastV arg9 f9 p.carry.2.2.2.2.2.2.2.2 q 6 b = blk arg5 arg7 X5 X7 r q 6 b := fun b => by
      rw [h9]; exact g.park r hr' b q
    have e7 : ∀ b, lastV arg9 f9 p.carry.2.2.2.2.2.2.2.2 q 7 b = blk arg5 arg7 X5 X7 r q 7 b := fun b => lastPop_eq hrep (h7 r hr' q b)
    have eo := g.rest 40 (Nat.le_refl 40) (str q h)
    unfold lastW
    match q, h with
    | 0, 0 => exact row_eq (p := p) 0 e6 e7 s0 s4 eo
    | 0, 1 => exact row_eq (p := p) 1 e6 e7 s1 s5 eo
    | 1, 0 => exact row_eq (p := p) 0 e6 e7 s2 s6 eo
    | 1, 1 => exact row_eq (p := p) 1 e6 e7 s3 s7 eo

theorem t2_trips : k0_t2_loop.trips = 40 := by decide

attribute [local irreducible] made pb_k0_t1 Scf.trips

theorem good_end (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole)
    (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (f10 : BufTy.Contents (Elt F) arg10.view.ty) :
    Good arg5 arg7 arg8 arg9 arg10 (first i) f5 (dec7 c i arg2 harg2 arg3 harg3 arg4 harg4 arg5 harg5 arg6 harg6 arg7 harg7 arg8 harg8 arg9 harg9 arg10 harg10 f2 f3 f4 f5 f7 f10) (bias8 c i arg2 harg2 arg3 harg3 arg4 harg4 arg5 harg5 arg6 harg6 arg7 harg7 arg8 harg8 arg9 harg9 arg10 harg10 f2 f3 f4 f5 f7 f10) (start9 c i arg2 harg2 arg3 harg3 arg4 harg4 arg5 harg5 arg6 harg6 arg7 harg7 arg8 harg8 arg9 harg9 arg10 harg10 f2 f3 f4 f5 f7 f10) f10 40 (atEnd c i arg2 harg2 arg3 harg3 arg4 harg4 arg5 harg5 arg6 harg6 arg7 harg7 arg8 harg8 arg9 harg9 arg10 harg10 f2 f3 f4 f5 f7 f10) := by
  unfold atEnd
  have := good_made (F := F) c i arg2 harg2 arg3 harg3 arg4 harg4 arg5 harg5 arg6 harg6 arg7 harg7 arg8 harg8 arg9 harg9 arg10 harg10 Mxu.init (first i) (k0_pay1566, k0_pay1566, k0_pay1566, k0_pay1566, k0_pay1566, k0_pay1566, k0_pay1566, k0_pay1566, startMxu arg5 f5) f5
    (dec7 c i arg2 harg2 arg3 harg3 arg4 harg4 arg5 harg5 arg6 harg6 arg7 harg7 arg8 harg8 arg9 harg9 arg10 harg10 f2 f3 f4 f5 f7 f10) (bias8 c i arg2 harg2 arg3 harg3 arg4 harg4 arg5 harg5 arg6 harg6 arg7 harg7 arg8 harg8 arg9 harg9 arg10 harg10 f2 f3 f4 f5 f7 f10) (start9 c i arg2 harg2 arg3 harg3 arg4 harg4 arg5 harg5 arg6 harg6 arg7 harg7 arg8 harg8 arg9 harg9 arg10 harg10 f2 f3 f4 f5 f7 f10) f10 (start_rep arg5 f5) k0_t2_loop.trips (Nat.le_refl _)
  rwa [t2_trips] at this ⊢

theorem rest_row (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : ¬(k0_cond1 i = 1#1))
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (r : Fin 40) (q h : Fin 2) :
    slotRow arg10 (arg10.view.writes (Elt F) f10 (runRest (F := F) c i arg2 harg2 arg3 harg3 arg4 harg4 arg5 harg5 arg6 harg6 arg7 harg7 arg8 harg8 arg9 harg9 arg10 harg10 hc f2 f3 f4 f5 f6 f7 f8 f9 f10).1) (slotOf r) (str q h)
      = rowOf arg5 arg7 arg8 f5 (dec7 c i arg2 harg2 arg3 harg3 arg4 harg4 arg5 harg5 arg6 harg6 arg7 harg7 arg8 harg8 arg9 harg9 arg10 harg10 f2 f3 f4 f5 f7 f10) (bias8 c i arg2 harg2 arg3 harg3 arg4 harg4 arg5 harg5 arg6 harg6 arg7 harg7 arg8 harg8 arg9 harg9 arg10 harg10 f2 f3 f4 f5 f7 f10) (first i) r q h (slotRow arg10 f10 (slotOf r) (str q h)) := by
  rw [rest_L10]
  exact row_lastL (good_end c i arg2 harg2 arg3 harg3 arg4 harg4 arg5 harg5 arg6 harg6 arg7 harg7 arg8 harg8 arg9 harg9 arg10 harg10 f2 f3 f4 f5 f7 f10) (View.writes_append _ _ _ _) r q h

theorem last_row (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (r : Fin 40) (q h : Fin 2) :
    slotRow arg10 (arg10.view.writes (Elt F) f10 (runLast (F := F) c i arg2 harg2 arg3 harg3 arg4 harg4 arg5 harg5 arg6 harg6 arg7 harg7 arg8 harg8 arg9 harg9 arg10 harg10 hc f2 f3 f4 f5 f6 f7 f8 f9 f10).2.1) (slotOf r) (str q h)
      = rowOf arg5 arg7 arg8 f5 (dec7 c i arg2 harg2 arg3 harg3 arg4 harg4 arg5 harg5 arg6 harg6 arg7 harg7 arg8 harg8 arg9 harg9 arg10 harg10 f2 f3 f4 f5 f7 f10) (bias8 c i arg2 harg2 arg3 harg3 arg4 harg4 arg5 harg5 arg6 harg6 arg7 harg7 arg8 harg8 arg9 harg9 arg10 harg10 f2 f3 f4 f5 f7 f10) (first i) r q h (slotRow arg10 f10 (slotOf r) (str q h)) := by
  rw [last_L10]
  exact row_lastL (good_end c i arg2 harg2 arg3 harg3 arg4 harg4 arg5 harg5 arg6 harg6 arg7 harg7 arg8 harg8 arg9 harg9 arg10 harg10 f2 f3 f4 f5 f7 f10) (View.writes_append _ _ _ _) r q h

end Cert.Proof.KernelIdeal

end
-- ==== Proof.DecodeI.lean ====
/- The decoded weights over the extended reals, label by label. -/
module

public import proofs.«01_k».proof.Proof.Decode
public import proofs.«01_k».proof.Proof.BodyVal
public import Idealize.ShloMosaic.Lib.Pointwise
public import Idealize.ShloMosaic.Lib.BitcastFour
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe

/-! ### The two halves of a byte -/

/-- A byte's half sixteenfold, as a byte with its sign. -/
def low16 (b : BitVec 8) : BitVec 8 := (b <<< 4) &&& 240#8
def high16 (b : BitVec 8) : BitVec 8 := b &&& 240#8

theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ix2 p l)).getLsbD q = (x (ix2 a l)).getLsbD (8 * (p.val % 4) + q) := by
  have hrow : (⟨2, ![R, n]⟩ : Shape).row (ix2 p l) = p.val := rfl
  rw [bitcast_getLsbD x h _ q hq (by decide)]
  show (x (h.srcIdx _ ((p.val * 8 + q) / 32) _)).getLsbD ((p.val * 8 + q) % 32) = _
  have e1 : (p.val * 8 + q) / 32 = a.val := by omega
  have e2 : (p.val * 8 + q) % 32 = 8 * (p.val % 4) + q := by omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem mask_bit (t q : Nat) (ht : t < 4) (hq : q < 8) : (4042322160#32 : BitVec 32).getLsbD (8 * t + q) = decide (4 ≤ q) := by
  interval_cases t <;> interval_cases q <;> rfl
theorem mask8_bit (q : Nat) (hq : q < 8) : (240#8 : BitVec 8).getLsbD q = decide (4 ≤ q) := by
  interval_cases q <;> rfl

theorem word_bit (x : S32x128.Idx → BitVec 8) (p : Fin 32) (l : Fin 128) (q : Nat) (hq : q < 8) :
    (bitcast S8x128 32 x bitcasts_S32x128_w8_S8x128_w32 (ix2 ⟨p.val / 4, by omega⟩ l)).getLsbD (8 * (p.val % 4) + q) = (x (ix2 p l)).getLsbD q := by
  have e3 : (8 * (p.val % 4) + q) % 8 = q := by omega
  have h := bitcast_8_32_getLsbD_ix2 x bitcasts_S32x128_w8_S8x128_w32 ⟨p.val / 4, by omega⟩ l (8 * (p.val % 4) + q) (by omega) p (by show p.val = 4 * (p.val / 4) + _; omega)
  rw [e3] at h
  exact h

theorem low_bits (x : S32x128.Idx → BitVec 8) (p : Fin 32) (l : Fin 128) :
    bitcast S32x128 8 (andi (shli (bitcast S8x128 32 x bitcasts_S32x128_w8_S8x128_w32) (broadcast S8x128 4#32)) (broadcast S8x128 4042322160#32)) bitcasts_S8x128_w32_S32x128_w8 (ix2 p l)
      = low16 (x (ix2 p l)) := by
  apply BitVec.eq_of_getLsbD_eq
  intro q hq
  rw [bitcast_32_8_getLsbD_ix2 _ _ p l q hq ⟨p.val / 4, by omega⟩ rfl]
  show (((bitcast S8x128 32 x bitcasts_S32x128_w8_S8x128_w32 (ix2 ⟨p.val / 4, _⟩ l)) <<< 4) &&& 4042322160#32).getLsbD _ = _
  unfold low16
  rw [BitVec.getLsbD_and, BitVec.getLsbD_and, mask_bit _ _ (by omega) hq, mask8_bit _ hq, BitVec.getLsbD_shiftLeft, BitVec.getLsbD_shiftLeft]
  by_cases h4 : 4 ≤ q
  · have e : 8 * (p.val % 4) + q - 4 = 8 * (p.val % 4) + (q - 4) := by omega
    have hlt : 8 * (p.val % 4) + q < 32 := by omega
    have hn : ¬ (8 * (p.val % 4) + q < 4) := by omega
    have hn' : ¬ (q < 4) := by omega
    rw [e, word_bit x p l _ (by omega)]
    simp [hlt, hn, hn', hq, h4]
  · simp [h4]

theorem high_bits (x : S32x128.Idx → BitVec 8) (p : Fin 32) (l : Fin 128) :
    bitcast S32x128 8 (andi (bitcast S8x128 32 x bitcasts_S32x128_w8_S8x128_w32) (broadcast S8x128 4042322160#32)) bitcasts_S8x128_w32_S32x128_w8 (ix2 p l)
      = high16 (x (ix2 p l)) := by
  apply BitVec.eq_of_getLsbD_eq
  intro q hq
  rw [bitcast_32_8_getLsbD_ix2 _ _ p l q hq ⟨p.val / 4, by omega⟩ rfl]
  show ((bitcast S8x128 32 x bitcasts_S32x128_w8_S8x128_w32 (ix2 ⟨p.val / 4, _⟩ l)) &&& 4042322160#32).getLsbD _ = _
  unfold high16
  rw [BitVec.getLsbD_and, BitVec.getLsbD_and, mask_bit _ _ (by omega) hq, mask8_bit _ hq, word_bit x p l _ hq]

theorem lowN_apply (x : Vec Ideal S32x128 .i8) (p : Fin 32) (l : Fin 128) : lowN (F := Ideal) x (ix2 p l) = (((low16 (x (ix2 p l))).toInt : ℝ) : EReal) :=
  congrArg (fun b : BitVec 8 => ((b.toInt : ℝ) : EReal)) (low_bits x p l)
theorem highN_apply (x : Vec Ideal S32x128 .i8) (p : Fin 32) (l : Fin 128) : highN (F := Ideal) x (ix2 p l) = (((high16 (x (ix2 p l))).toInt : ℝ) : EReal) :=
  congrArg (fun b : BitVec 8 => ((b.toInt : ℝ) : EReal)) (high_bits x p l)

theorem paired_apply (x : FVec Ideal S32x128 .bf16) (a : Fin 16) (b : Fin 2) (l : Fin 128) :
    paired x (ix3 a b l) = x (ix2 ⟨2 * a.val + b.val, by omega⟩ l) := by
  match b with
  | 0 | 1 =>
    unfold paired
    pointwise

/-! ### The scales -/

theorem group_val (l : Fin 128) (h : Fin 4) (n : Fin 125) :
    let w : BitVec 32 := BitVec.ofNat 32 l.val
    let g : BitVec 32 := BitVec.ofNat 32 (l.val / 64)
    Scalar.select (IntOp.andi (IntOp.cmpi .ne (IntOp.subi (BitVec.setWidth 32 (IntOp.cmpi .sgt w 0#32)) (BitVec.setWidth 32 (IntOp.cmpi .slt w 0#32))) 1#32) (IntOp.cmpi .ne (IntOp.remsi .vector w 64#32) 0#32))
      (IntOp.subi (IntOp.divsi .vector w 64#32) 1#32) (IntOp.divsi .vector w 64#32) = g := by
  clear n h
  revert l
  decide +kernel

theorem iota_lane (a : Fin 16) (l : Fin 128) : (runRest.sl.v2 : IVec S16x128 32) (ix2 a l) = BitVec.ofNat 32 l.val := by
  unfold runRest.sl.v2
  pointwise

theorem grp_apply (a : Fin 16) (l : Fin 128) : grp runRest.sl.v2 (ix2 a l) = BitVec.ofNat 32 (l.val / 64) := by
  rw [← group_val l 0 0, ← iota_lane a l]
  rfl

theorem lane_of (g h n : Nat) (hb : g + h + n < 128) :
    (Scalar.select (IntOp.cmpi .slt (IntOp.addi (IntOp.addi (BitVec.ofNat 32 g) (BitVec.ofNat 32 h)) (BitVec.ofNat 32 n)) 0#32)
      (IntOp.addi (IntOp.addi (IntOp.addi (BitVec.ofNat 32 g) (BitVec.ofNat 32 h)) (BitVec.ofNat 32 n)) 128#32)
      (IntOp.addi (IntOp.addi (BitVec.ofNat 32 g) (BitVec.ofNat 32 h)) (BitVec.ofNat 32 n))).toNat % 128 = g + h + n := by
  have e : IntOp.addi (IntOp.addi (BitVec.ofNat 32 g) (BitVec.ofNat 32 h)) (BitVec.ofNat 32 n) = BitVec.ofNat 32 (g + h + n) := by
    unfold IntOp.addi; rw [← BitVec.ofNat_add, ← BitVec.ofNat_add]
  rw [e]
  have key : ∀ m : Fin 128, (Scalar.select (IntOp.cmpi .slt (BitVec.ofNat 32 m.val) 0#32) (IntOp.addi (BitVec.ofNat 32 m.val) 128#32) (BitVec.ofNat 32 m.val)).toNat % 128 = m.val := by
    decide +kernel
  exact key ⟨g + h + n, hb⟩

theorem pick_apply (h n : Nat) (a : Fin 16) (l : Fin 128) (hb : l.val / 64 + h + n < 128) :
    (pick runRest.sl.v2 (BitVec.ofNat 32 h) (BitVec.ofNat 32 n) (ix2 a l)).toNat % 128 = l.val / 64 + h + n := by
  rw [← lane_of _ h n hb, ← grp_apply a l]
  unfold pick from0
  pointwise
  try rfl

theorem gather_apply (r : FVec Ideal S16x128 .f32) (idx : IVec S16x128 32) (a : Fin 16) (l m : Fin 128) (hm : (idx (ix2 a l)).toNat % 128 = m.val) :
    dynamicGather 1 r idx (ix2 a l) = r (ix2 a m) := by
  have e : (⟨(idx (ix2 a l)).toNat % 128, Nat.mod_lt _ (by decide)⟩ : Fin 128) = m := Fin.ext hm
  rw [← e]
  pointwise

theorem scl_apply (r : FVec Ideal S16x128 .f32) (h n : Nat) (p : Fin 32) (l : Fin 128) (hb : l.val / 64 + h + n + 4 < 128) :
    scl (F := Ideal) r runRest.sl.v2 (BitVec.ofNat 32 h) (BitVec.ofNat 32 n) (BitVec.ofNat 32 (n + 4)) (ix2 p l)
      = r (ix2 ⟨p.val % 16, by omega⟩ ⟨l.val / 64 + h + n + 4 * (p.val / 16), by omega⟩) := by
  unfold scl
  by_cases hp : p.val < 16
  · rw [show p = (⟨p.val, by omega⟩ : Fin 32) from rfl]
    have := gather_apply r (pick runRest.sl.v2 (BitVec.ofNat 32 h) (BitVec.ofNat 32 n)) ⟨p.val, hp⟩ l ⟨l.val / 64 + h + n, by omega⟩ (pick_apply h n _ l (by omega))
    refine Eq.trans ?_ (this.trans ?_)
    · pointwise
      simp [hp]
    · congr 2 <;> apply Fin.ext <;> simp <;> omega
  · have := gather_apply r (pick runRest.sl.v2 (BitVec.ofNat 32 h) (BitVec.ofNat 32 (n + 4))) ⟨p.val - 16, by omega⟩ l ⟨l.val / 64 + h + (n + 4), by omega⟩ (pick_apply h (n + 4) _ l (by omega))
    refine Eq.trans ?_ (this.trans ?_)
    · pointwise
      simp [hp]
    · congr 2 <;> apply Fin.ext <;> simp <;> omega

end Cert.Proof.KernelIdeal
-- ==== Proof.WriteI.lean ====
/- Reading what a list of pieces wrote, when every piece holds the values of one function. -/
module

public import proofs.«01_k».proof.Proof.DecodeI

@[expose] public section

set_option maxRecDepth 16384

noncomputable section

namespace Cert.Proof.KernelIdeal

open Cert.KernelIdeal Cert.KernelIdeal.Gen
open Idealize.ShloMosaic Idealize.ShloMosaic.TcCoe

section
variable {Val : EltTy → Type} {sig : RefSig} {κ : Kind} {sp : Space} {s : Shape} {e : EltTy}

/-- A piece holds the values of `W`. -/
def Holds (W : s.Idx → Val e) (p : View.Piece Val s e) : Prop := ∀ x, p.2 x = W (p.1.emb x)

theorem read_of_holds (v : View sig κ sp s e) (f : BufTy.Contents Val v.ty) (W : s.Idx → Val e) (y : s.Idx) :
    ∀ L : List (View.Piece Val s e), (∀ p ∈ L, Holds W p) → (∃ p ∈ L, ∃ x, p.1.emb x = y) → v.read Val (v.writes Val f L) y = W y
  | [], _, ⟨_, h, _⟩ => absurd h List.not_mem_nil
  | p :: L, hp, hc => by
    by_cases hy : ∃ x, p.1.emb x = y
    · obtain ⟨x, rfl⟩ := hy
      rw [View.read_writes_cons_emb]
      exact hp p List.mem_cons_self x
    · have hn : y ∉ p.1.set := fun h => hy (by
        rw [← Rect.map_emb_univ] at h
        obtain ⟨x, _, hx⟩ := Finset.mem_map.mp h
        exact ⟨x, hx⟩)
      rw [View.read_writes_cons_miss _ _ _ _ _ hn]
      refine read_of_holds v f W y L (fun q hq => hp q (List.mem_cons_of_mem _ hq)) ?_
      obtain ⟨q, hq, x, hx⟩ := hc
      rcases List.mem_cons.mp hq with rfl | hq
      · exact absurd ⟨x, hx⟩ hy
      · exact ⟨q, hq, x, hx⟩

theorem readAt_unit (v : View sig κ sp s e) (f : BufTy.Contents Val v.ty) {off off' size : Fin s.rank → ℕ} (hoff : off = off') (inb : ∀ a, off a + size a ≤ s.size a)
    (x : (Rect.unit off size inb).shape.Idx) (y : s.Idx) (hy : ∀ a, (y a).val = off' a + (x a).val) :
    View.readAt Val v (Rect.unit off size inb).toLoadRect f x = v.read Val f y := by
  subst hoff
  rw [View.readAt_apply]
  congr 1
  funext a
  apply Fin.ext
  show off a + 1 * (x a).val = (y a).val
  rw [hy a, Nat.one_mul]

theorem emb_unit {off size : Fin s.rank → ℕ} (inb : ∀ a, off a + size a ≤ s.size a)
    (x : (Rect.unit off size inb).shape.Idx) (y : s.Idx) (hy : ∀ a, (y a).val = off a + (x a).val) : (Rect.unit off size inb).emb x = y := by
  funext a
  apply Fin.ext
  show off a + 1 * (x a).val = (y a).val
  rw [hy a, Nat.one_mul]
end

end Cert.Proof.KernelIdeal
-- ==== Proof.WeightI.lean ====
/- The decoded weights: every word of the scratch is a half of a code byte by its label's scale. -/
module

public import proofs.«01_k».proof.Proof.WriteI

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

/-- The sixteenfold half of a byte by a scale. -/
def half16 (hi : Bool) (b : BitVec 8) : EReal := (((if hi then high16 b else low16 b).toInt : ℝ) : EReal)

/-- Label `n` of the tile, lane `d` of 512. -/
def wt (C : S2048x256.Idx → BitVec 8) (S : S4x16x128.Idx → EReal) (n : Fin 2048) (d : Fin 512) : EReal :=
  half16 (decide (256 ≤ d.val)) (C (ix2 n ⟨d.val % 256, by omega⟩))
    * S (ix3 ⟨n.val / 512, by omega⟩ ⟨n.val % 16, by omega⟩ ⟨4 * (n.val % 512 / 16) + d.val % 256 / 64, by omega⟩)

/-- The same by the scratch's own index. -/
def wtAt (C : S2048x256.Idx → BitVec 8) (S : S4x16x128.Idx → EReal) (y : S1024x2x512.Idx) : EReal :=
  wt C S ⟨2 * (y 0).val + (y 1).val, by have h0 : (y 0).val < 1024 := (y 0).isLt; have h1 : (y 1).val < 2 := (y 1).isLt; omega⟩ (y 2)

theorem wt_congr (C : S2048x256.Idx → BitVec 8) (S : S4x16x128.Idx → EReal) (n n' : Fin 2048) (d d' : Fin 512) (hi : Bool) (c : Fin 256) (a : Fin 4) (b : Fin 16) (g : Fin 128)
    (hn : n.val = n'.val) (hd : d.val = d'.val) (hhi : hi = decide (256 ≤ d.val)) (hc : c.val = d.val % 256) (ha : a.val = n.val / 512) (hb : b.val = n.val % 16)
    (hg : g.val = 4 * (n.val % 512 / 16) + d.val % 256 / 64) : half16 hi (C (ix2 n c)) * S (ix3 a b g) = wt C S n' d' := by
  obtain rfl := Fin.ext hn
  obtain rfl := Fin.ext hd
  subst hhi
  unfold wt
  rw [show c = ⟨d.val % 256, by omega⟩ from Fin.ext hc, show a = ⟨n.val / 512, by omega⟩ from Fin.ext ha, show b = ⟨n.val % 16, by omega⟩ from Fin.ext hb,
    show g = ⟨4 * (n.val % 512 / 16) + d.val % 256 / 64, by omega⟩ from Fin.ext hg]

section
variable (arg2 : Memref sig .tc .vmem S2048x256 .i8) (arg3 : Memref sig .tc .vmem S4x16x128 .bf16)
  (X2 : BufTy.Contents (Elt Ideal) arg2.view.ty) (X3 : BufTy.Contents (Elt Ideal) arg3.view.ty) (k : Fin k0_t1_loop.trips)

def codesOf : S2048x256.Idx → BitVec 8 := arg2.view.read (Elt Ideal) X2
def scalesOf : S4x16x128.Idx → EReal := arg3.view.read (Elt Ideal) X3

theorem k_lt : k.val < 4 := Nat.lt_of_lt_of_le k.isLt (by decide)

theorem scales_apply (v : Vec Ideal S1x16x128 .bf16) (a : Fin 16) (m : Fin 128) :
    (extf .f32 (shapeCast S16x128 v shapeCasts_S1x16x128_S16x128 : FVec Ideal S16x128 .bf16) bitsLt_bf16_f32 : FVec Ideal S16x128 .f32) (ix2 a m) = v (ix3 0 a m) := by
  pointwise

theorem tripScales_apply (a : Fin 16) (m : Fin 128) :
    tripScales arg3 X3 k (ix2 a m) = scalesOf arg3 X3 (ix3 ⟨k.val, k_lt k⟩ a m) := by
  refine (scales_apply _ a m).trans ?_
  refine readAt_unit arg3.view X3 (k0_off1_eq k) _ _ _ fun c => ?_
  match c with
  | 0 => rfl
  | 1 => exact (Nat.zero_add _).symm
  | 2 => exact (Nat.zero_add _).symm

/-- A store of the trip: `hi` which half, `o` where its lanes start, `h` its first group. -/
theorem store_holds (hi : Bool) (j : Fin 16) (h : Nat) (hh : h = 0 ∨ h = 2) (v : Vec Ideal S32x128 .i8) (sc : FVec Ideal S32x128 .bf16)
    {off : Fin 3 → Nat} (hoff : off = ![256 * k.val + 16 * j.val, 0, (if hi then 256 else 0) + 64 * h]) (inb : ∀ a, off a + S16x2x128.size a ≤ S1024x2x512.size a)
    (hv : ∀ (p : Fin 32) (l : Fin 128), v (ix2 p l) = codesOf arg2 X2 (ix2 ⟨512 * k.val + 32 * j.val + p.val, by have := k_lt k; omega⟩ ⟨64 * h + l.val, by omega⟩))
    (hs : sc = scl (tripScales arg3 X3 k) runRest.sl.v2 (BitVec.ofNat 32 h) (BitVec.ofNat 32 (8 * j.val)) (BitVec.ofNat 32 (8 * j.val + 4)))
    (w : Vec Ideal S16x2x128 .bf16) (hw : w = paired (mulf (if hi then highN v else lowN v) sc)) :
    Holds (Val := Elt Ideal) (e := .bf16) (wtAt (codesOf arg2 X2) (scalesOf arg3 X3)) ⟨Rect.unit (s := S1024x2x512) off S16x2x128.size inb, w⟩ := by
  subst hoff hw hs
  have hk := k_lt k
  intro x
  obtain ⟨a, b, l, rfl⟩ : ∃ a b l, x = (ix3 (n0 := 16) (n1 := 2) (n2 := 128) a b l) := ⟨x 0, x 1, x 2, by funext c; match c with | 0 | 1 | 2 => rfl⟩
  refine Eq.trans ?_ (congrArg (wtAt _ _) (emb_unit inb _ (ix3 (n0 := 1024) (n1 := 2) (n2 := 512) ⟨256 * k.val + 16 * j.val + a.val, by omega⟩ b ⟨(if hi then 256 else 0) + 64 * h + l.val, by split <;> omega⟩)
    (fun c => match c with | 0 => rfl | 1 => (Nat.zero_add _).symm | 2 => rfl)).symm)
  refine (paired_apply _ a b l).trans ?_
  have e : (mulf (if hi then highN v else lowN v) (scl (tripScales arg3 X3 k) runRest.sl.v2 (BitVec.ofNat 32 h) (BitVec.ofNat 32 (8 * j.val)) (BitVec.ofNat 32 (8 * j.val + 4)))
      : FVec Ideal S32x128 .bf16) (ix2 ⟨2 * a.val + b.val, by omega⟩ l)
      = half16 hi (v (ix2 ⟨2 * a.val + b.val, by omega⟩ l)) * tripScales arg3 X3 k (ix2 ⟨(2 * a.val + b.val) % 16, by omega⟩ ⟨l.val / 64 + h + 8 * j.val + 4 * ((2 * a.val + b.val) / 16), by omega⟩) := by
    rw [← scl_apply (tripScales arg3 X3 k) h (8 * j.val) ⟨2 * a.val + b.val, by omega⟩ l (by omega)]
    cases hi
    · exact congrArg (· * _) (lowN_apply v _ l)
    · exact congrArg (· * _) (highN_apply v _ l)
  refine e.trans ?_
  rw [hv, tripScales_apply]
  unfold wtAt
  refine wt_congr _ _ _ _ ⟨(if hi then 256 else 0) + 64 * h + l.val, by split <;> omega⟩ _ _ _ _ _ _ ?_ rfl ?_ ?_ ?_ ?_ ?_
  · show 512 * k.val + 32 * j.val + (2 * a.val + b.val) = 2 * (256 * k.val + 16 * j.val + a.val) + b.val
    omega
  · cases hi <;> simp <;> omega
  · show 64 * h + l.val = ((if hi then 256 else 0) + 64 * h + l.val) % 256
    split <;> omega
  · show k.val = (512 * k.val + 32 * j.val + (2 * a.val + b.val)) / 512
    omega
  · show (2 * a.val + b.val) % 16 = (512 * k.val + 32 * j.val + (2 * a.val + b.val)) % 16
    omega
  · show l.val / 64 + h + 8 * j.val + 4 * ((2 * a.val + b.val) / 16) = 4 * ((512 * k.val + 32 * j.val + (2 * a.val + b.val)) % 512 / 16) + ((if hi then 256 else 0) + 64 * h + l.val) % 256 / 64
    split <;> omega

theorem codes2 (j : Fin 16) (p : Fin 32) (l : Fin 128) :
    View.readAt (Elt Ideal) arg2.view (Rect.unit (s := S2048x256) (k0_off2 k (BitVec.ofNat 32 (32 * j.val))) S32x128.size (k0_off2_inb k j)).toLoadRect X2 (ix2 p l)
      = codesOf arg2 X2 (ix2 ⟨512 * k.val + 32 * j.val + p.val, by have := k_lt k; omega⟩ ⟨64 * 0 + l.val, by omega⟩) := by
  refine readAt_unit arg2.view X2 (k0_off2_eq k j) _ _ _ fun c => ?_
  match c with
  | 0 => rfl
  | 1 => rfl
theorem codes5 (j : Fin 16) (p : Fin 32) (l : Fin 128) :
    View.readAt (Elt Ideal) arg2.view (Rect.unit (s := S2048x256) (k0_off5 k (BitVec.ofNat 32 (32 * j.val))) S32x128.size (k0_off5_inb k j)).toLoadRect X2 (ix2 p l)
      = codesOf arg2 X2 (ix2 ⟨512 * k.val + 32 * j.val + p.val, by have := k_lt k; omega⟩ ⟨64 * 2 + l.val, by omega⟩) := by
  refine readAt_unit arg2.view X2 (k0_off5_eq k j) _ _ _ fun c => ?_
  match c with
  | 0 => rfl
  | 1 => rfl

theorem quad_holds (j : Fin 16) (L : List (View.Piece (Elt Ideal) S1024x2x512 .bf16)) (hL : ∀ p ∈ L, Holds (wtAt (codesOf arg2 X2) (scalesOf arg3 X3)) p) :
    ∀ p ∈ quad arg2 arg3 runRest.sl.v2 X2 X3 k j L, Holds (wtAt (codesOf arg2 X2) (scalesOf arg3 X3)) p := by
  intro p hp
  unfold quad four at hp
  rcases List.mem_cons.mp hp with rfl | hp
  · exact store_holds arg2 arg3 X2 X3 k true j 2 (.inr rfl) _ _ (k0_off7_eq k j) _ (codes5 arg2 X2 k j) rfl _ rfl
  rcases List.mem_cons.mp hp with rfl | hp
  · exact store_holds arg2 arg3 X2 X3 k false j 2 (.inr rfl) _ _ (k0_off6_eq k j) _ (codes5 arg2 X2 k j) rfl _ rfl
  rcases List.mem_cons.mp hp with rfl | hp
  · exact store_holds arg2 arg3 X2 X3 k true j 0 (.inl rfl) _ _ (k0_off4_eq k j) _ (codes2 arg2 X2 k j) rfl _ rfl
  rcases List.mem_cons.mp hp with rfl | hp
  · exact store_holds arg2 arg3 X2 X3 k false j 0 (.inl rfl) _ _ (k0_off3_eq k j) _ (codes2 arg2 X2 k j) rfl _ rfl
  exact hL p hp

theorem mem_quad (j : Fin 16) (L : List (View.Piece (Elt Ideal) S1024x2x512 .bf16)) : ∀ p ∈ L, p ∈ quad arg2 arg3 runRest.sl.v2 X2 X3 k j L := by
  intro p hp
  unfold quad four
  simp [hp]

theorem quad_covers (j : Fin 16) (L : List (View.Piece (Elt Ideal) S1024x2x512 .bf16)) (y : S1024x2x512.Idx)
    (h0 : (y 0).val / 16 = 16 * k.val + j.val) : ∃ p ∈ quad arg2 arg3 runRest.sl.v2 X2 X3 k j L, ∃ x, p.1.emb x = y := by
  have h2 : (y 2).val < 512 := (y 2).isLt
  have key : ∀ (o : Nat) (off : Fin 3 → Nat) (hoff : off = ![256 * k.val + 16 * j.val, 0, o]) (inb : ∀ a, off a + S16x2x128.size a ≤ S1024x2x512.size a)
      (ho : o ≤ (y 2).val) (ho' : (y 2).val < o + 128), ∃ x, (Rect.unit (s := S1024x2x512) off S16x2x128.size inb).emb x = y := by
    intro o off hoff inb ho ho'
    subst hoff
    refine ⟨ix3 (n0 := 16) (n1 := 2) (n2 := 128) ⟨(y 0).val % 16, by omega⟩ (y 1) ⟨(y 2).val - o, by omega⟩, emb_unit inb _ y fun c => ?_⟩
    match c with
    | 0 => show (y 0).val = 256 * k.val + 16 * j.val + (y 0).val % 16; omega
    | 1 => exact (Nat.zero_add _).symm
    | 2 => show (y 2).val = o + ((y 2).val - o); omega
  unfold quad four
  by_cases c3 : (y 2).val < 128
  · exact ⟨_, List.mem_cons_of_mem _ (List.mem_cons_of_mem _ (List.mem_cons_of_mem _ List.mem_cons_self)), key 0 _ (k0_off3_eq k j) (k0_off3_inb k j) (by omega) (by omega)⟩
  by_cases c6 : (y 2).val < 256
  · exact ⟨_, List.mem_cons_of_mem _ List.mem_cons_self, key 128 _ (k0_off6_eq k j) (k0_off6_inb k j) (by omega) (by omega)⟩
  by_cases c4 : (y 2).val < 384
  · exact ⟨_, List.mem_cons_of_mem _ (List.mem_cons_of_mem _ List.mem_cons_self), key 256 _ (k0_off4_eq k j) (k0_off4_inb k j) (by omega) (by omega)⟩
  · exact ⟨_, List.mem_cons_self, key 384 _ (k0_off7_eq k j) (k0_off7_inb k j) (by omega) (by omega)⟩

/-- The quads of the first `n` blocks of labels. -/
def quadsN : (n : Nat) → n ≤ 16 → List (View.Piece (Elt Ideal) S1024x2x512 .bf16)
  | 0, _ => []
  | n + 1, h => quad arg2 arg3 runRest.sl.v2 X2 X3 k ⟨n, h⟩ (quadsN n (Nat.le_of_succ_le h))

theorem quads_eq : quads arg2 arg3 runRest.sl.v2 X2 X3 k = quadsN arg2 arg3 X2 X3 k 16 le_rfl := rfl

theorem quadsN_holds : ∀ (n : Nat) (h : n ≤ 16), ∀ p ∈ quadsN arg2 arg3 X2 X3 k n h, Holds (wtAt (codesOf arg2 X2) (scalesOf arg3 X3)) p
  | 0, _, _, hp => absurd hp List.not_mem_nil
  | n + 1, h, p, hp => quad_holds arg2 arg3 X2 X3 k ⟨n, h⟩ _ (quadsN_holds n (Nat.le_of_succ_le h)) p hp

theorem quadsN_covers (y : S1024x2x512.Idx) (j : Nat) (h0 : (y 0).val / 16 = 16 * k.val + j) :
    ∀ (n : Nat) (h : n ≤ 16) (_ : j < n), ∃ p ∈ quadsN arg2 arg3 X2 X3 k n h, ∃ x, p.1.emb x = y
  | 0, _, hj => absurd hj (Nat.not_lt_zero _)
  | n + 1, h, hj => by
    by_cases e : j = n
    · subst e
      exact quad_covers arg2 arg3 X2 X3 k ⟨j, h⟩ _ y h0
    · obtain ⟨p, hp, hx⟩ := quadsN_covers y j h0 n (Nat.le_of_succ_le h) (by omega)
      exact ⟨p, mem_quad arg2 arg3 X2 X3 k ⟨n, h⟩ _ p hp, hx⟩
end

section
variable (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f7 : BufTy.Contents (Elt Ideal) arg7.view.ty) (f10 : BufTy.Contents (Elt Ideal) arg10.view.ty)

/-- The pieces of the trips before `n`. -/
theorem trips_hold : ∀ n : Nat, n ≤ 4 →
    (∀ p ∈ pb_k0_t1 (F := Ideal) Variants.none c none i arg2 harg2 arg3 harg3 arg4 harg4 arg5 harg5 arg6 harg6 arg7 harg7 arg8 harg8 arg9 harg9 arg10 harg10 runRest.sl.v2 f2 f3 n, Holds (wtAt (codesOf arg2 f2) (scalesOf arg3 f3)) p)
    ∧ ∀ y : S1024x2x512.Idx, (y 0).val < 256 * n → ∃ p ∈ pb_k0_t1 (F := Ideal) Variants.none c none i arg2 harg2 arg3 harg3 arg4 harg4 arg5 harg5 arg6 harg6 arg7 harg7 arg8 harg8 arg9 harg9 arg10 harg10 runRest.sl.v2 f2 f3 n, ∃ x, p.1.emb x = y
  | 0, _ => ⟨fun _ hp => absurd hp List.not_mem_nil, fun _ h => absurd h (Nat.not_lt_zero _)⟩
  | n + 1, hn => by
    obtain ⟨ih1, ih2⟩ := trips_hold n (Nat.le_of_succ_le hn)
    have hk : n < k0_t1_loop.trips := Nat.lt_of_lt_of_le hn (by decide)
    have e := pb_k0_t1_succ (F := Ideal) Variants.none c none i arg2 harg2 arg3 harg3 arg4 harg4 arg5 harg5 arg6 harg6 arg7 harg7 arg8 harg8 arg9 harg9 arg10 harg10 runRest.sl.v2 f2 f3 ⟨n, hk⟩
    rw [trip_quads, quads_eq] at e
    constructor
    · intro p hp
      rw [e] at hp
      rcases List.mem_append.mp hp with hp | hp
      · exact quadsN_holds arg2 arg3 f2 f3 ⟨n, hk⟩ 16 le_rfl p hp
      · exact ih1 p hp
    · intro y hy
      rw [e]
      by_cases hlt : (y 0).val < 256 * n
      · obtain ⟨p, hp, hx⟩ := ih2 y hlt
        exact ⟨p, List.mem_append_right _ hp, hx⟩
      · obtain ⟨p, hp, hx⟩ := quadsN_covers arg2 arg3 f2 f3 ⟨n, hk⟩ y ((y 0).val / 16 - 16 * n) (by show _ = 16 * n + _; omega) 16 le_rfl (by omega)
        exact ⟨p, List.mem_append_left _ hp, hx⟩

/-- The decoded weights, read at a word. -/
theorem dec7_apply (y : S1024x2x512.Idx) :
    arg7.view.read (Elt Ideal) (dec7 c i arg2 harg2 arg3 harg3 arg4 harg4 arg5 harg5 arg6 harg6 arg7 harg7 arg8 harg8 arg9 harg9 arg10 harg10 f2 f3 f4 f5 f7 f10) y
      = wtAt (codesOf arg2 f2) (scalesOf arg3 f3) y := by
  have h4 : k0_t1_loop.trips = 4 := by decide
  unfold dec7
  rw [h4]
  obtain ⟨h1, h2⟩ := trips_hold c i arg2 harg2 arg3 harg3 arg4 harg4 arg5 harg5 arg6 harg6 arg7 harg7 arg8 harg8 arg9 harg9 arg10 harg10 f2 f3 4 le_rfl
  exact read_of_holds arg7.view f7 _ y _ h1 (h2 y (y 0).isLt)
end

end Cert.Proof.KernelIdeal
-- ==== Proof.BiasI.lean ====
/- The spread bias: row `n` of the scratch holds label `n`'s half bias in every lane. -/
module

public import proofs.«01_k».proof.Proof.WriteI

@[expose] public section

set_option maxRecDepth 65536
set_option maxHeartbeats 4000000

noncomputable section

namespace Cert.Proof.KernelIdeal

open Cert.KernelIdeal Cert.KernelIdeal.Gen
open Idealize.ShloMosaic Idealize.ShloMosaic.TcCoe

theorem bias_inb (J : Fin 256) : ∀ a, (![8 * J.val, 0] : Fin 2 → Nat) a + S8x128.size a ≤ S2048x128.size a := by
  intro a; have := J.isLt
  match a with
  | 0 => show 8 * J.val + 8 ≤ 2048; omega
  | 1 => exact Nat.le_refl 128
theorem bias_slices (J : Fin 256) : S8x128.Slices ![0, J.val % 128] S8x1 := by decide +revert
theorem plane_inb (J : Fin 256) : ∀ a, (![J.val / 128, 0, 0] : Fin 3 → Nat) a + S1x8x128.size a ≤ S2x8x128.size a := by
  intro a; have := J.isLt
  match a with
  | 0 => show J.val / 128 + 1 ≤ 2; omega
  | 1 => exact Nat.le_refl 8
  | 2 => exact Nat.le_refl 128

section
variable {F : FTy → Type} [FloatOps F] (arg4 : Memref sig .tc .vmem S2x8x128 .f32) (X4 : BufTy.Contents (Elt F) arg4.view.ty)

/-- Eight labels' biases, each spread over the lanes. -/
def spread (J : Fin 256) : FVec F S8x128 .f32 :=
  shapeCast S8x128 (broadcastTo S8x128 (shapeCast S8x1 (extractStridedSlice S8x1 ![0, J.val % 128]
    (shapeCast S8x128 (View.readAt (Elt F) arg4.view (Rect.unit (s := S2x8x128) ![J.val / 128, 0, 0] S1x8x128.size (plane_inb J)).toLoadRect X4) shapeCasts_S1x8x128_S8x128 : FVec F S8x128 .f32)
    (bias_slices J)) shapeCasts_S8x1_S8x1) broadcasts_S8x1_S8x128) shapeCasts_S8x128_S8x128

def biasN : (n : Nat) → n ≤ 256 → List (View.Piece (Elt F) S2048x128 .f32)
  | 0, _ => []
  | n + 1, h => ⟨Rect.unit (s := S2048x128) ![8 * (⟨n, h⟩ : Fin 256).val, 0] S8x128.size (bias_inb ⟨n, h⟩), spread arg4 X4 ⟨n, h⟩⟩ :: biasN n (Nat.le_of_succ_le h)

theorem bias_eq : runRest.sl.H8_256 arg4 X4 = biasN arg4 X4 256 le_rfl := rfl
end

section
variable (arg4 : Memref sig .tc .vmem S2x8x128 .f32) (X4 : BufTy.Contents (Elt Ideal) arg4.view.ty)

def biasOf : S2x8x128.Idx → EReal := arg4.view.read (Elt Ideal) X4

/-- The half bias of label `n`. -/
def biasAt (B : S2x8x128.Idx → EReal) (n : Fin 2048) : EReal := B (ix3 ⟨n.val / 1024, by omega⟩ ⟨n.val % 8, by omega⟩ ⟨n.val % 1024 / 8, by omega⟩)

theorem lanes_apply (v : Vec Ideal S1x8x128 .f32) (J : Fin 256) (s : Fin 8) (l : Fin 128) :
    (shapeCast S8x128 (broadcastTo S8x128 (shapeCast S8x1 (extractStridedSlice S8x1 ![0, J.val % 128] (shapeCast S8x128 v shapeCasts_S1x8x128_S8x128 : FVec Ideal S8x128 .f32)
      (bias_slices J)) shapeCasts_S8x1_S8x1) broadcasts_S8x1_S8x128) shapeCasts_S8x128_S8x128 : FVec Ideal S8x128 .f32) (ix2 s l) = v (ix3 0 s ⟨J.val % 128, by omega⟩) := by
  pointwise

theorem spread_apply (J : Fin 256) (s : Fin 8) (l : Fin 128) :
    spread arg4 X4 J (ix2 s l) = biasOf arg4 X4 (ix3 ⟨J.val / 128, by omega⟩ s ⟨J.val % 128, by omega⟩) := by
  refine (lanes_apply _ J s l).trans (readAt_unit arg4.view X4 rfl _ _ _ fun c => ?_)
  match c with
  | 0 => rfl
  | 1 => exact (Nat.zero_add _).symm
  | 2 => exact (Nat.zero_add _).symm

theorem biasN_holds : ∀ (n : Nat) (h : n ≤ 256), ∀ p ∈ biasN arg4 X4 n h, Holds (Val := Elt Ideal) (e := .f32) (fun y : S2048x128.Idx => biasAt (biasOf arg4 X4) (y 0)) p
  | 0, _, _, hp => absurd hp List.not_mem_nil
  | n + 1, h, p, hp => by
    rcases List.mem_cons.mp hp with rfl | hp
    · intro x
      obtain ⟨s, l, rfl⟩ : ∃ s l, x = ix2 (n0 := 8) (n1 := 128) s l := ⟨x 0, x 1, by funext c; match c with | 0 | 1 => rfl⟩
      refine (spread_apply arg4 X4 ⟨n, h⟩ s l).trans ?_
      refine Eq.trans ?_ (congrArg (fun y : S2048x128.Idx => biasAt (biasOf arg4 X4) (y 0)) (emb_unit (bias_inb ⟨n, h⟩) _ (ix2 (n0 := 2048) (n1 := 128) ⟨8 * n + s.val, by omega⟩ l)
        (fun c => match c with | 0 => rfl | 1 => (Nat.zero_add _).symm)).symm)
      show _ = biasAt (biasOf arg4 X4) ⟨8 * n + s.val, by omega⟩
      unfold biasAt
      congr 1
      funext c
      match c with
      | 0 => exact Fin.ext (by show n / 128 = (8 * n + s.val) / 1024; omega)
      | 1 => exact Fin.ext (by show s.val = (8 * n + s.val) % 8; omega)
      | 2 => exact Fin.ext (by show n % 128 = (8 * n + s.val) % 1024 / 8; omega)
    · exact biasN_holds n (Nat.le_of_succ_le h) p hp

theorem biasN_covers (y : S2048x128.Idx) : ∀ (n : Nat) (h : n ≤ 256) (_ : (y 0).val < 8 * n), ∃ p ∈ biasN arg4 X4 n h, ∃ x, p.1.emb x = y
  | 0, _, hy => absurd hy (Nat.not_lt_zero _)
  | n + 1, h, hy => by
    by_cases e : (y 0).val < 8 * n
    · obtain ⟨p, hp, hx⟩ := biasN_covers y n (Nat.le_of_succ_le h) e
      exact ⟨p, List.mem_cons_of_mem _ hp, hx⟩
    · refine ⟨_, List.mem_cons_self, ix2 (n0 := 8) (n1 := 128) ⟨(y 0).val - 8 * n, by omega⟩ (y 1), emb_unit (bias_inb ⟨n, h⟩) _ y fun c => ?_⟩
      match c with
      | 0 => show (y 0).val = 8 * n + ((y 0).val - 8 * n); omega
      | 1 => exact (Nat.zero_add _).symm
end

section
variable (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f7 : BufTy.Contents (Elt Ideal) arg7.view.ty) (f10 : BufTy.Contents (Elt Ideal) arg10.view.ty)

/-- The labels of sub-tile `sb`, part `p`. -/
theorem bb_apply (sb : Fin 8) (p : Fin 4) (ρ : Fin 64) (l : Fin 128) :
    bb arg8 (bias8 c i arg2 harg2 arg3 harg3 arg4 harg4 arg5 harg5 arg6 harg6 arg7 harg7 arg8 harg8 arg9 harg9 arg10 harg10 f2 f3 f4 f5 f7 f10) sb p (ix2 ρ l)
      = biasAt (biasOf arg4 f4) ⟨256 * sb.val + 64 * p.val + ρ.val, by omega⟩ := by
  unfold bb
  refine (readAt_unit arg8.view _ rfl _ _ (ix2 (n0 := 2048) (n1 := 128) ⟨256 * sb.val + 64 * p.val + ρ.val, by omega⟩ l) fun c => ?_).trans ?_
  · match c with
    | 0 => rfl
    | 1 => exact (Nat.zero_add _).symm
  unfold bias8
  rw [bias_eq]
  exact read_of_holds arg8.view _ (fun y : S2048x128.Idx => biasAt (biasOf arg4 f4) (y 0)) _ _ (biasN_holds arg4 f4 256 le_rfl) (biasN_covers arg4 f4 (ix2 (n0 := 2048) (n1 := 128) ⟨256 * sb.val + 64 * p.val + ρ.val, by omega⟩ l) 256 le_rfl (by show 256 * sb.val + 64 * p.val + ρ.val < 2048; omega))
end

end Cert.Proof.KernelIdeal
-- ==== Proof.DotI.lean ====
/- The blocks of half logits over the extended reals: every entry is the product of a label's weights and a token's half activations. -/
module

public import proofs.«01_k».proof.Proof.StripI
public import proofs.«01_k».proof.Proof.WeightI
public import proofs.«01_k».proof.Proof.BiasI
public import Idealize.ShloMosaic.Lib.MatmulPlain
public import Idealize.ShloMosaic.Lib.BitcastPair

@[expose] public section

set_option maxRecDepth 16384
set_option maxHeartbeats 1000000

noncomputable section

namespace Cert.Proof.KernelIdeal

open Cert.KernelIdeal Cert.KernelIdeal.Gen Cert.Proof.MxuRun Cert.Proof.Softplus
open Idealize.ShloMosaic Idealize.ShloMosaic.TcCoe

/-- One product of the unit, read at an entry. -/
theorem pass_apply (x : LhsV Ideal) (t : TileV Ideal) (ρ : Fin 64) (col : Fin 256) :
    pass x t (ix2 ρ col) = ∑ k : Fin 256, x (ix2 ρ k) * t (ix2 k col) := by
  show Ideal.mxuPass (DotDims.plain 64 256 256) x t (ix2 ρ col) = _
  unfold Ideal.mxuPass
  rw [← Equiv.sum_comp (DotDims.plainContr 64 256 256).symm]
  refine Finset.sum_congr rfl fun k _ => ?_
  have hk := ValueIdx.contrEquiv1_symm_val _ 256 (DotDims.plain_contr_rank 64 256 256) (DotDims.plain_contr_size 64 256 256) k
  have el : (DotDims.plain 64 256 256).lhsIdx (ix2 ρ col) ((DotDims.plainContr 64 256 256).symm k) = ix2 ρ k := by
    funext a; apply Fin.ext
    match a with
    | ⟨0, _⟩ => rfl
    | ⟨1, _⟩ => exact hk
  have er : (DotDims.plain 64 256 256).rhsIdx (ix2 ρ col) ((DotDims.plainContr 64 256 256).symm k) = ix2 k col := by
    funext a; apply Fin.ext
    match a with
    | ⟨0, _⟩ => exact hk
    | ⟨1, _⟩ => rfl
  rw [el, er]

theorem interleave_apply {α : Type} (lo hi : S32x256.Idx → α) (h : S64x256.Bitcasts 16 S32x256 32) (ρ : Fin 64) (k : Fin 256) :
    interleaveRows S64x256 lo hi h (ix2 ρ k) = if ρ.val % 2 = 0 then lo (ix2 ⟨ρ.val / 2, by omega⟩ k) else hi (ix2 ⟨ρ.val / 2, by omega⟩ k) := by
  unfold interleaveRows
  dsimp only
  have hr : S64x256.row (ix2 ρ k) = ρ.val := rfl
  rw [hr]
  congr 2 <;> funext b <;> match b with | 0 | 1 => rfl

theorem lhs_value (v : Vec Ideal S32x2x256 .bf16) (ρ : Fin 64) (k : Fin 256) :
    k0_pay275 v (ix2 ρ k) = v (ix3 ⟨ρ.val / 2, by omega⟩ ⟨ρ.val % 2, by omega⟩ k) := by
  unfold k0_pay275
  refine (interleave_apply _ _ _ ρ k).trans ?_
  have e (b : Fin 2) (hb : ρ.val % 2 = b.val) (w : S32x256.Idx → EReal) (hw : w (ix2 ⟨ρ.val / 2, by omega⟩ k) = v (ix3 ⟨ρ.val / 2, by omega⟩ b k)) :
      w (ix2 ⟨ρ.val / 2, by omega⟩ k) = v (ix3 ⟨ρ.val / 2, by omega⟩ ⟨ρ.val % 2, by omega⟩ k) := by
    rw [hw]; congr 2; exact Fin.ext hb.symm
  split
  · rename_i h0
    refine e 0 h0 _ ?_
    pointwise
  · refine e 1 (by show _ = 1; omega) _ ?_
    pointwise

theorem tile_value (v : Vec Ideal S1x128x256 .i32) (k col : Fin 256) :
    k0_pay279 v (ix2 k col) = Ideal.ofBits .bf16 ((v (ix3 0 ⟨k.val / 2, by omega⟩ col)).extractLsb' (16 * (k.val % 2)) 16) := by
  have hs (w : S128x256.Idx → BitVec 32) (hw : w = shapeCast S128x256 v shapeCasts_S1x128x256_S128x256) (j : Fin 128) :
      w (ix2 j col) = v (ix3 0 j col) := by subst hw; pointwise
  unfold k0_pay279
  show Ideal.ofBits .bf16 (bitcast S256x256 16 (shapeCast S128x256 v shapeCasts_S1x128x256_S128x256 : IVec S128x256 32) bitcasts_S128x256_w32_S256x256_w16 (ix2 k col)) = _
  rw [bitcast_32_16]
  have hr : S256x256.row (ix2 k col) = k.val := rfl
  congr 2
  refine Eq.trans (congrArg _ ?_) (hs _ rfl ⟨k.val / 2, by omega⟩)
  funext a
  match a with
  | 0 => exact Fin.ext rfl
  | 1 => exact Fin.ext rfl

/-- The half activation of feature `d` of a token: the words hold two features each. -/
def xh (X : S40x256x512.Idx → BitVec 32) (r : Fin 40) (d : Fin 512) (tok : Fin 512) : EReal :=
  Ideal.ofBits .bf16 ((X (ix3 r ⟨d.val / 2, by omega⟩ tok)).extractLsb' (16 * (d.val % 2)) 16)

/-- The half logit, without its bias, of label `n` of the tile. -/
def dotHalf (X : S40x256x512.Idx → BitVec 32) (W : Fin 2048 → Fin 512 → EReal) (r : Fin 40) (tok : Fin 512) (n : Fin 2048) : EReal :=
  ∑ d : Fin 512, W n d * xh X r d tok

section
variable (arg5 : Memref sig .tc .vmem S40x256x512 .i32) (arg7 : Memref sig .tc .vmem S1024x2x512 .bf16) (arg8 : Memref sig .tc .vmem S2048x128 .f32)
  (X5 : BufTy.Contents (Elt Ideal) arg5.view.ty) (X7 : BufTy.Contents (Elt Ideal) arg7.view.ty) (X8 : BufTy.Contents (Elt Ideal) arg8.view.ty)

def wordsOf : S40x256x512.Idx → BitVec 32 := arg5.view.read (Elt Ideal) X5

theorem lhs_apply (W : Fin 2048 → Fin 512 → EReal)
    (hW : ∀ (w : Fin 1024) (b : Fin 2) (d : Fin 512), arg7.view.read (Elt Ideal) X7 (ix3 w b d) = W ⟨2 * w.val + b.val, by omega⟩ d)
    (sb : Fin 8) (h : Fin 2) (p : Fin 4) (ρ : Fin 64) (k : Fin 256) :
    lhs arg7 X7 sb h p (ix2 ρ k) = W ⟨256 * sb.val + 64 * p.val + ρ.val, by omega⟩ ⟨256 * h.val + k.val, by omega⟩ := by
  unfold lhs
  refine (lhs_value _ ρ k).trans ?_
  refine (readAt_unit arg7.view X7 rfl _ _ (ix3 (n0 := 1024) (n1 := 2) (n2 := 512) ⟨128 * sb.val + 32 * p.val + ρ.val / 2, by omega⟩ ⟨ρ.val % 2, by omega⟩ ⟨256 * h.val + k.val, by omega⟩) fun c => ?_).trans ?_
  · match c with
    | 0 => rfl
    | 1 => exact (Nat.zero_add _).symm
    | 2 => rfl
  · rw [hW]
    congr 1
    exact Fin.ext (by show 2 * (128 * sb.val + 32 * p.val + ρ.val / 2) + ρ.val % 2 = 256 * sb.val + 64 * p.val + ρ.val; omega)

theorem tile_apply (r : Fin 40) (h q : Fin 2) (k col : Fin 256) :
    tile arg5 X5 r h q (ix2 k col) = xh (wordsOf arg5 X5) r ⟨256 * h.val + k.val, by omega⟩ ⟨256 * q.val + col.val, by omega⟩ := by
  unfold tile tileAt
  refine (tile_value _ k col).trans ?_
  unfold xh
  have e : (256 * h.val + k.val) % 2 = k.val % 2 := by omega
  rw [show (⟨256 * h.val + k.val, by omega⟩ : Fin 512).val % 2 = k.val % 2 from e]
  congr 2
  refine readAt_unit arg5.view X5 rfl _ _ _ fun c => ?_
  match c with
  | 0 => exact (Nat.add_zero _).symm
  | 1 => show (256 * h.val + k.val) / 2 = 128 * h.val + k.val / 2; omega
  | 2 => rfl

theorem sum_halves (f : Fin 512 → EReal) : ∑ d : Fin 512, f d = ∑ k : Fin 256, f ⟨256 * (0 : Fin 2).val + k.val, by omega⟩ + ∑ k : Fin 256, f ⟨256 * (1 : Fin 2).val + k.val, by omega⟩ := by
  rw [Fin.sum_univ_add (a := 256) (b := 256) (f := f)]
  refine congrArg₂ (· + ·) (Finset.sum_congr rfl fun k _ => congrArg f (Fin.ext ?_)) (Finset.sum_congr rfl fun k _ => congrArg f (Fin.ext ?_))
  · show k.val = 256 * 0 + k.val; omega
  · show 256 + k.val = 256 * 1 + k.val; omega

theorem blk_apply (W : Fin 2048 → Fin 512 → EReal)
    (hW : ∀ (w : Fin 1024) (b : Fin 2) (d : Fin 512), arg7.view.read (Elt Ideal) X7 (ix3 w b d) = W ⟨2 * w.val + b.val, by omega⟩ d)
    (r : Fin 40) (q : Fin 2) (sb : Fin 8) (p : Fin 4) (ρ : Fin 64) (col : Fin 256) :
    blk arg5 arg7 X5 X7 r q sb p (ix2 ρ col)
      = dotHalf (wordsOf arg5 X5) W r ⟨256 * q.val + col.val, by omega⟩ ⟨256 * sb.val + 64 * p.val + ρ.val, by omega⟩ := by
  have e (h h' : Fin 2) (hh : (h = 0 ∧ h' = 1) ∨ (h = 1 ∧ h' = 0)) :
      (addf (pass (lhs arg7 X7 sb h p) (tile arg5 X5 r h q)) (pass (lhs arg7 X7 sb h' p) (tile arg5 X5 r h' q)) : BlockV Ideal) (ix2 ρ col)
        = dotHalf (wordsOf arg5 X5) W r ⟨256 * q.val + col.val, by omega⟩ ⟨256 * sb.val + 64 * p.val + ρ.val, by omega⟩ := by
    show pass (lhs arg7 X7 sb h p) (tile arg5 X5 r h q) (ix2 ρ col) + pass (lhs arg7 X7 sb h' p) (tile arg5 X5 r h' q) (ix2 ρ col) = _
    rw [pass_apply, pass_apply]
    simp only [lhs_apply arg7 X7 W hW, tile_apply]
    unfold dotHalf
    rw [sum_halves]
    rcases hh with ⟨rfl, rfl⟩ | ⟨rfl, rfl⟩
    · rfl
    · exact add_comm _ _
  unfold blk
  refine e _ _ ?_
  clear e
  match sb with
  | 0 | 2 | 4 | 6 => exact .inl ⟨rfl, rfl⟩
  | 1 | 3 | 5 | 7 => exact .inr ⟨rfl, rfl⟩

theorem halfY_apply (h : Fin 2) (acc : FVec Ideal S64x256 .f32) (b : Vec Ideal S64x128 .f32) (ρ : Fin 64) (l : Fin 128) :
    halfY h acc b (ix2 ρ l) = acc (ix2 ρ ⟨128 * h.val + l.val, by omega⟩) + b (ix2 ρ l) := by
  match h with
  | 0 =>
    unfold halfY
    refine congrArg (· + b (ix2 ρ l)) ?_
    pointwise
  | 1 =>
    unfold halfY
    refine congrArg (· + b (ix2 ρ l)) ?_
    pointwise

/-- All labels of the tile, by sub-tile, part and row. -/
theorem sum_labels (f : Fin 2048 → EReal) :
    ∑ sb : Fin 8, ∑ p : Fin 4, ∑ ρ : Fin 64, f ⟨256 * sb.val + 64 * p.val + ρ.val, by omega⟩ = ∑ n : Fin 2048, f n := by
  have h1 : ∑ n : Fin 2048, f n = ∑ sb : Fin 8, ∑ y : Fin 256, f (finProdFinEquiv (m := 8) (n := 256) (sb, y)) := by
    rw [← Fintype.sum_prod_type (f := fun x : Fin 8 × Fin 256 => f (finProdFinEquiv x)), Equiv.sum_comp (finProdFinEquiv (m := 8) (n := 256)) f]
  have h2 (g : Fin 256 → EReal) : ∑ y : Fin 256, g y = ∑ p : Fin 4, ∑ ρ : Fin 64, g (finProdFinEquiv (m := 4) (n := 64) (p, ρ)) := by
    rw [← Fintype.sum_prod_type (f := fun x : Fin 4 × Fin 64 => g (finProdFinEquiv x)), Equiv.sum_comp (finProdFinEquiv (m := 4) (n := 64)) g]
  rw [h1]
  refine Finset.sum_congr rfl fun sb _ => ?_
  rw [h2]
  refine Finset.sum_congr rfl fun p _ => Finset.sum_congr rfl fun ρ _ => congrArg f (Fin.ext ?_)
  simp only [finProdFinEquiv_apply_val]
  omega

/-- A row of sums: what was there, and the softplus of the logits of the tile's labels. -/
theorem rowOf_value (W : Fin 2048 → Fin 512 → EReal) (B : Fin 2048 → EReal)
    (hW : ∀ (w : Fin 1024) (b : Fin 2) (d : Fin 512), arg7.view.read (Elt Ideal) X7 (ix3 w b d) = W ⟨2 * w.val + b.val, by omega⟩ d)
    (hB : ∀ (sb : Fin 8) (p : Fin 4) (ρ : Fin 64) (l : Fin 128), bb arg8 X8 sb p (ix2 ρ l) = B ⟨256 * sb.val + 64 * p.val + ρ.val, by omega⟩)
    (v0 : BitVec 1) (r : Fin 40) (q h : Fin 2) (old : Vec Ideal S1x1x128 .f32) (l : Fin 128) :
    rowOf arg5 arg7 arg8 X5 X7 X8 v0 r q h old (ix3 0 0 l)
      = (if v0 = 1#1 then 0 else old (ix3 0 0 l))
        + ∑ n : Fin 2048, sp (2 * (dotHalf (wordsOf arg5 X5) W r ⟨256 * q.val + 128 * h.val + l.val, by omega⟩ n + B n)) := by
  rw [rowOf_apply, ← sum_labels]
  congr 1
  refine Finset.sum_congr rfl fun sb _ => Finset.sum_congr rfl fun p _ => Finset.sum_congr rfl fun ρ _ => ?_
  rw [halfY_apply, blk_apply arg5 arg7 X5 X7 W hW, hB]
  congr 4
  exact Fin.ext (Nat.add_assoc _ _ _).symm
end

end Cert.Proof.KernelIdeal
-- ==== Proof.StepI.lean ====
/- One call of the body over the extended reals: what it does to the sums, and what it copies out. -/
module

public import proofs.«01_k».proof.Proof.DotI
public import proofs.«01_k».proof.Proof.OutVal

@[expose] public section

set_option maxRecDepth 16384
set_option maxHeartbeats 1000000

noncomputable section

namespace Cert.Proof.KernelIdeal

open Cert.KernelIdeal Cert.KernelIdeal.Gen Cert.Proof.MxuRun Cert.Proof.Softplus
open Idealize.ShloMosaic Idealize.ShloMosaic.TcCoe

/-- The softplus of a token's logits at the labels of a tile, added up. -/
def tileSum (C : S2048x256.Idx → BitVec 8) (S : S4x16x128.Idx → EReal) (B : S2x8x128.Idx → EReal) (X : S40x256x512.Idx → BitVec 32) (r : Fin 40) (tok : Fin 512) : EReal :=
  ∑ n : Fin 2048, sp (2 * (dotHalf X (wt C S) r tok n + biasAt B n))

/-- The sums the scratch holds, by row block and token. -/
def Sums (arg10 : Memref sig .tc .vmem S41x8x128 .f32) (f10 : BufTy.Contents (Elt Ideal) arg10.view.ty) (G : Fin 40 → Fin 512 → EReal) : Prop :=
  ∀ (r : Fin 40) (q h : Fin 2) (l : Fin 128), slotRow arg10 f10 (slotOf r) (str q h) (ix3 0 0 l) = G r ⟨256 * q.val + 128 * h.val + l.val, by omega⟩

/-- The block copied out from such sums. -/
def outOf (G : Fin 40 → Fin 512 → EReal) (y : S1x32x640.Idx) : EReal :=
  G ⟨(640 * (y 1).val + (y 2).val) / 512, by have h1 : (y 1).val < 32 := (y 1).isLt; have h2 : (y 2).val < 640 := (y 2).isLt; omega⟩
    ⟨(640 * (y 1).val + (y 2).val) % 512, by omega⟩

theorem copied_value (v : Vec Ideal S1x1x128 .f32) (l : Fin 128) :
    (shapeCast S1x1x128 (shapeCast S1x128 v shapeCasts_S1x1x128_S1x128 : FVec Ideal S1x128 .f32) shapeCasts_S1x128_S1x1x128 : FVec Ideal S1x1x128 .f32) (ix3 0 0 l) = v (ix3 0 0 l) := by
  pointwise

section
variable {arg10 : Memref sig .tc .vmem S41x8x128 .f32} {g10 : BufTy.Contents (Elt Ideal) arg10.view.ty} {G : Fin 40 → Fin 512 → EReal} (hG : Sums arg10 g10 G)
include hG

theorem outPiece_holds (n j : Nat) (hn : n < 32) (hj : j < 5) (o s k : Nat) (ho : o = 128 * j) (hs : s = 1 + (5 * n + j) / 4) (hk : k = (5 * n + j) % 4)
    (h : ∀ a, (![0, n, o] : Fin 3 → Nat) a + S1x1x128.size a ≤ S1x32x640.size a) (hs' : s < 41) (hi' : k < 8) :
    Holds (Val := Elt Ideal) (e := .f32) (outOf G) (outPiece arg10 g10 n o s k h hs' hi') := by
  subst ho hs hk
  intro x
  obtain ⟨a, b, l, rfl⟩ : ∃ a b l, x = ix3 (n0 := 1) (n1 := 1) (n2 := 128) a b l := ⟨x 0, x 1, x 2, by funext c; match c with | 0 | 1 | 2 => rfl⟩
  obtain rfl : a = 0 := Subsingleton.elim _ _
  obtain rfl : b = 0 := Subsingleton.elim _ _
  refine Eq.trans (copied_value (slotRow arg10 g10 ⟨1 + (5 * n + j) / 4, hs'⟩ ⟨(5 * n + j) % 4, hi'⟩) l) ?_
  have e := hG ⟨(5 * n + j) / 4, by omega⟩ ⟨(5 * n + j) % 4 / 2, by omega⟩ ⟨(5 * n + j) % 2, by omega⟩ l
  refine Eq.trans ?_ (e.trans ?_)
  · congr 1
    · exact Fin.ext (Nat.add_comm _ _)
    · exact Fin.ext (by show (5 * n + j) % 4 = 2 * ((5 * n + j) % 4 / 2) + (5 * n + j) % 2; omega)
  · refine Eq.trans ?_ (congrArg (outOf G) (emb_unit h (ix3 0 0 l) (ix3 (n0 := 1) (n1 := 32) (n2 := 640) 0 ⟨n, hn⟩ ⟨128 * j + l.val, by omega⟩)
      (fun c => match c with | 0 => rfl | 1 => rfl | 2 => rfl)).symm)
    unfold outOf
    exact congr (congrArg G (Fin.ext (show (5 * n + j) / 4 = (640 * n + (128 * j + l.val)) / 512 by omega)))
      (Fin.ext (show 256 * ((5 * n + j) % 4 / 2) + 128 * ((5 * n + j) % 2) + l.val = (640 * n + (128 * j + l.val)) % 512 by omega))

theorem outN_holds : ∀ (n : Nat) (h : n ≤ 32), ∀ p ∈ outN arg10 g10 n h, Holds (Val := Elt Ideal) (e := .f32) (outOf G) p
  | 0, _, _, hp => absurd hp List.not_mem_nil
  | n + 1, h, p, hp => by
    rcases List.mem_cons.mp hp with rfl | hp
    · exact outPiece_holds hG n 4 h (by decide) _ _ _ rfl rfl rfl _ _ _
    rcases List.mem_cons.mp hp with rfl | hp
    · exact outPiece_holds hG n 3 h (by decide) _ _ _ rfl rfl rfl _ _ _
    rcases List.mem_cons.mp hp with rfl | hp
    · exact outPiece_holds hG n 2 h (by decide) _ _ _ rfl rfl rfl _ _ _
    rcases List.mem_cons.mp hp with rfl | hp
    · exact outPiece_holds hG n 1 h (by decide) _ _ _ rfl rfl rfl _ _ _
    rcases List.mem_cons.mp hp with rfl | hp
    · exact outPiece_holds hG n 0 h (by decide) _ _ _ rfl rfl rfl _ _ _
    exact outN_holds n (by omega) p hp
end

theorem outPiece_covers (arg10 : Memref sig .tc .vmem S41x8x128 .f32) (g10 : BufTy.Contents (Elt Ideal) arg10.view.ty) (y : S1x32x640.Idx) (n o s k : Nat)
    (h : ∀ a, (![0, n, o] : Fin 3 → Nat) a + S1x1x128.size a ≤ S1x32x640.size a) (hs : s < 41) (hi : k < 8) (h1 : (y 1).val = n) (h2 : o ≤ (y 2).val ∧ (y 2).val < o + 128) :
    ∃ x, (outPiece arg10 g10 n o s k h hs hi).1.emb x = y := by
  refine ⟨ix3 (n0 := 1) (n1 := 1) (n2 := 128) 0 0 ⟨(y 2).val - o, by omega⟩, emb_unit h _ y fun c => ?_⟩
  match c with
  | 0 => have h0 : (y 0).val < 1 := (y 0).isLt; show (y 0).val = 0 + 0; omega
  | 1 => exact h1
  | 2 => show (y 2).val = o + ((y 2).val - o); omega

theorem outN_covers (arg10 : Memref sig .tc .vmem S41x8x128 .f32) (g10 : BufTy.Contents (Elt Ideal) arg10.view.ty) (y : S1x32x640.Idx) :
    ∀ (n : Nat) (h : n ≤ 32) (_ : (y 1).val < n), ∃ p ∈ outN arg10 g10 n h, ∃ x, p.1.emb x = y
  | 0, _, hy => absurd hy (Nat.not_lt_zero _)
  | n + 1, h, hy => by
    by_cases e : (y 1).val < n
    · obtain ⟨p, hp, hx⟩ := outN_covers arg10 g10 y n (by omega) e
      exact ⟨p, List.mem_cons_of_mem _ (List.mem_cons_of_mem _ (List.mem_cons_of_mem _ (List.mem_cons_of_mem _ (List.mem_cons_of_mem _ hp)))), hx⟩
    · have h1 : (y 1).val = n := by omega
      have h2 : (y 2).val < 640 := (y 2).isLt
      by_cases c4 : 512 ≤ (y 2).val
      · exact ⟨_, List.mem_cons_self, outPiece_covers arg10 g10 y n 512 _ _ _ _ _ h1 ⟨c4, by omega⟩⟩
      by_cases c3 : 384 ≤ (y 2).val
      · exact ⟨_, List.mem_cons_of_mem _ List.mem_cons_self, outPiece_covers arg10 g10 y n 384 _ _ _ _ _ h1 ⟨c3, by omega⟩⟩
      by_cases c2 : 256 ≤ (y 2).val
      · exact ⟨_, List.mem_cons_of_mem _ (List.mem_cons_of_mem _ List.mem_cons_self), outPiece_covers arg10 g10 y n 256 _ _ _ _ _ h1 ⟨c2, by omega⟩⟩
      by_cases c1 : 128 ≤ (y 2).val
      · exact ⟨_, List.mem_cons_of_mem _ (List.mem_cons_of_mem _ (List.mem_cons_of_mem _ List.mem_cons_self)), outPiece_covers arg10 g10 y n 128 _ _ _ _ _ h1 ⟨c1, by omega⟩⟩
      exact ⟨_, List.mem_cons_of_mem _ (List.mem_cons_of_mem _ (List.mem_cons_of_mem _ (List.mem_cons_of_mem _ List.mem_cons_self))), outPiece_covers arg10 g10 y n 0 _ _ _ _ _ h1 ⟨by omega, by omega⟩⟩

section
variable (c : Dev nD) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty)

/-- The sums after a call of the body. -/
def nextSum (i : grid0.Coords) (C : S2048x256.Idx → BitVec 8) (S : S4x16x128.Idx → EReal) (B : S2x8x128.Idx → EReal) (X : S40x256x512.Idx → BitVec 32) (G : Fin 40 → Fin 512 → EReal)
    (r : Fin 40) (tok : Fin 512) : EReal := (if first i = 1#1 then 0 else G r tok) + tileSum C S B X r tok

theorem row_next (G : Fin 40 → Fin 512 → EReal) (hG : first i = 1#1 ∨ Sums arg10 f10 G) (r : Fin 40) (q h : Fin 2) (l : Fin 128) :
    rowOf arg5 arg7 arg8 f5 (dec7 c i arg2 harg2 arg3 harg3 arg4 harg4 arg5 harg5 arg6 harg6 arg7 harg7 arg8 harg8 arg9 harg9 arg10 harg10 f2 f3 f4 f5 f7 f10) (bias8 c i arg2 harg2 arg3 harg3 arg4 harg4 arg5 harg5 arg6 harg6 arg7 harg7 arg8 harg8 arg9 harg9 arg10 harg10 f2 f3 f4 f5 f7 f10) (first i) r q h (slotRow arg10 f10 (slotOf r) (str q h)) (ix3 0 0 l)
      = nextSum i (codesOf arg2 f2) (scalesOf arg3 f3) (biasOf arg4 f4) (wordsOf arg5 f5) G r ⟨256 * q.val + 128 * h.val + l.val, by omega⟩ := by
  rw [rowOf_value arg5 arg7 arg8 f5 _ _ (wt (codesOf arg2 f2) (scalesOf arg3 f3)) (biasAt (biasOf arg4 f4))
    (fun w b d => dec7_apply c i arg2 harg2 arg3 harg3 arg4 harg4 arg5 harg5 arg6 harg6 arg7 harg7 arg8 harg8 arg9 harg9 arg10 harg10 f2 f3 f4 f5 f7 f10 (ix3 w b d))
    (fun sb p ρ l => bb_apply c i arg2 harg2 arg3 harg3 arg4 harg4 arg5 harg5 arg6 harg6 arg7 harg7 arg8 harg8 arg9 harg9 arg10 harg10 f2 f3 f4 f5 f7 f10 sb p ρ l)]
  unfold nextSum tileSum
  congr 1
  split
  · rfl
  · rename_i hn
    exact (hG.resolve_left hn) r q h l

theorem rest_sums (hc : ¬(k0_cond1 i = 1#1)) (G : Fin 40 → Fin 512 → EReal) (hG : first i = 1#1 ∨ Sums arg10 f10 G) :
    Sums arg10 (arg10.view.writes (Elt Ideal) f10 (runRest (F := Ideal) c i arg2 harg2 arg3 harg3 arg4 harg4 arg5 harg5 arg6 harg6 arg7 harg7 arg8 harg8 arg9 harg9 arg10 harg10 hc f2 f3 f4 f5 f6 f7 f8 f9 f10).1)
      (nextSum i (codesOf arg2 f2) (scalesOf arg3 f3) (biasOf arg4 f4) (wordsOf arg5 f5) G) := by
  intro r q h l
  rw [rest_row]
  exact row_next c i arg2 harg2 arg3 harg3 arg4 harg4 arg5 harg5 arg6 harg6 arg7 harg7 arg8 harg8 arg9 harg9 arg10 harg10 f2 f3 f4 f5 f7 f10 G hG r q h l

theorem last_sums (hc : k0_cond1 i = 1#1) (G : Fin 40 → Fin 512 → EReal) (hG : first i = 1#1 ∨ Sums arg10 f10 G) :
    Sums arg10 (arg10.view.writes (Elt Ideal) f10 (runLast (F := Ideal) c i arg2 harg2 arg3 harg3 arg4 harg4 arg5 harg5 arg6 harg6 arg7 harg7 arg8 harg8 arg9 harg9 arg10 harg10 hc f2 f3 f4 f5 f6 f7 f8 f9 f10).2.1)
      (nextSum i (codesOf arg2 f2) (scalesOf arg3 f3) (biasOf arg4 f4) (wordsOf arg5 f5) G) := by
  intro r q h l
  rw [last_row]
  exact row_next c i arg2 harg2 arg3 harg3 arg4 harg4 arg5 harg5 arg6 harg6 arg7 harg7 arg8 harg8 arg9 harg9 arg10 harg10 f2 f3 f4 f5 f7 f10 G hG r q h l

theorem last_out (hc : k0_cond1 i = 1#1) (G : Fin 40 → Fin 512 → EReal) (hG : first i = 1#1 ∨ Sums arg10 f10 G) :
    arg6.view.read (Elt Ideal) (arg6.view.writes (Elt Ideal) f6 (runLast (F := Ideal) c i arg2 harg2 arg3 harg3 arg4 harg4 arg5 harg5 arg6 harg6 arg7 harg7 arg8 harg8 arg9 harg9 arg10 harg10 hc f2 f3 f4 f5 f6 f7 f8 f9 f10).1)
      = outOf (nextSum i (codesOf arg2 f2) (scalesOf arg3 f3) (biasOf arg4 f4) (wordsOf arg5 f5) G) := by
  funext y
  rw [last_L6]
  exact read_of_holds arg6.view f6 _ y _ (outN_holds (last_sums c i arg2 harg2 arg3 harg3 arg4 harg4 arg5 harg5 arg6 harg6 arg7 harg7 arg8 harg8 arg9 harg9 arg10 harg10 f2 f3 f4 f5 f6 f7 f8 f9 f10 hc G hG) 32 le_rfl) (outN_covers arg10 _ y 32 le_rfl (y 1).isLt)
end

end Cert.Proof.KernelIdeal
-- ==== Proof.CallI.lean ====
module

public import proofs.«01_k».proof.Proof.StepI

@[expose] public section

noncomputable section

namespace Cert.Proof.KernelIdeal.Track

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- A call of the body that is not the last of its chunk adds its sums and leaves the result's block alone. -/
theorem sound_rest (c : Dev nD) (E : Set ℕ) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : ¬(k0_cond1 i = 1#1)) (x2 : Vec Ideal S2048x256 .i8) (x3 : Vec Ideal S4x16x128 .bf16) (x4 : Vec Ideal S2x8x128 .f32) (x5 : Vec Ideal S40x256x512 .i32) (x6 : Vec Ideal S1x32x640 .f32) (G : Fin 40 → Fin 512 → EReal) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f : BufTy.Contents (Elt Ideal) arg10.view.ty, ⌜first i = 1#1 ∨ Sums arg10 f G⌝ ∗ (arg10.view.loc (c : Thread nD τ) ↦[arg10.view.set]{fullShare} f)) ∗ ((iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f : BufTy.Contents (Elt Ideal) arg10.view.ty, ⌜Sums arg10 f (nextSum i x2 x3 x4 x5 G)⌝ ∗ (arg10.view.loc (c : Thread nD τ) ↦[arg10.view.set]{fullShare} f))) : sProp 𝕄) -∗ K ⟨⟩)) : sProp 𝕄)
      ⊢ wp frame (wpE (defs₀ (F := Ideal)) Variants.none (c : Thread nD τ) none) E (cc0_dense_softplus (F := Ideal) i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%f7, H7⟩, ⟨%f8, H8⟩, ⟨%f9, H9⟩, ⟨%f10, %hG, H10⟩, Hk⟩
  have hS := rest_sums c i arg2 harg2 arg3 harg3 arg4 harg4 arg5 harg5 arg6 harg6 arg7 harg7 arg8 harg8 arg9 harg9 arg10 harg10 f2 f3 f4 f5 f6 f7 f8 f9 f10 hc G hG
  skip
  rw [show codesOf arg2 f2 = x2 from h2, show scalesOf arg3 f3 = x3 from h3, show biasOf arg4 f4 = x4 from h4, show wordsOf arg5 f5 = x5 from h5] at hS
  iapply (wp_wand_r Idealize.ShloMosaic.frame (wpE (defs₀ (F := Ideal)) Variants.none (c : Thread nD τ) none) E)
  isplitl [H2 H3 H4 H5 H6 H7 H8 H9 H10]
  · iapply ((runRest (F := Ideal) c i arg2 harg2 arg3 harg3 arg4 harg4 arg5 harg5 arg6 harg6 arg7 harg7 arg8 harg8 arg9 harg9 arg10 harg10 hc f2 f3 f4 f5 f6 f7 f8 f9 f10).2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨H2, H3, H4, H5, H6, ⟨%g7, H7⟩, ⟨%g8, H8⟩, ⟨%g9, H9⟩, H10⟩
  iapply Hk
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists _; isplitr; swap; · iexact H6
    ipureintro; exact h6
  isplitl [H7]; · iexists _; iexact H7
  isplitl [H8]; · iexists _; iexact H8
  isplitl [H9]; · iexists _; iexact H9
  iexists _; isplitr; swap; · iexact H10
  ipureintro; exact hS

/-- The last call of a chunk adds its sums and writes them all. -/
theorem sound_last (c : Dev nD) (E : Set ℕ) (i : grid0.Coords) (arg2 : Memref sig .tc .vmem S2048x256 .i8) (harg2 : arg2.IsWhole) (arg3 : Memref sig .tc .vmem S4x16x128 .bf16) (harg3 : arg3.IsWhole) (arg4 : Memref sig .tc .vmem S2x8x128 .f32) (harg4 : arg4.IsWhole) (arg5 : Memref sig .tc .vmem S40x256x512 .i32) (harg5 : arg5.IsWhole) (arg6 : Memref sig .tc .vmem S1x32x640 .f32) (harg6 : arg6.IsWhole) (arg7 : Memref sig .tc .vmem S1024x2x512 .bf16) (harg7 : arg7.IsWhole) (arg8 : Memref sig .tc .vmem S2048x128 .f32) (harg8 : arg8.IsWhole) (arg9 : Memref sig .tc .vmem S4x2x64x256 .f32) (harg9 : arg9.IsWhole) (arg10 : Memref sig .tc .vmem S41x8x128 .f32) (harg10 : arg10.IsWhole) (hc : k0_cond1 i = 1#1) (x2 : Vec Ideal S2048x256 .i8) (x3 : Vec Ideal S4x16x128 .bf16) (x4 : Vec Ideal S2x8x128 .f32) (x5 : Vec Ideal S40x256x512 .i32) (x6 : Vec Ideal S1x32x640 .f32) (G : Fin 40 → Fin 512 → EReal) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f : BufTy.Contents (Elt Ideal) arg10.view.ty, ⌜first i = 1#1 ∨ Sums arg10 f G⌝ ∗ (arg10.view.loc (c : Thread nD τ) ↦[arg10.view.set]{fullShare} f)) ∗ ((iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outOf (nextSum i x2 x3 x4 x5 G)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f : BufTy.Contents (Elt Ideal) arg10.view.ty, ⌜Sums arg10 f (nextSum i x2 x3 x4 x5 G)⌝ ∗ (arg10.view.loc (c : Thread nD τ) ↦[arg10.view.set]{fullShare} f))) : sProp 𝕄) -∗ K ⟨⟩)) : sProp 𝕄)
      ⊢ wp frame (wpE (defs₀ (F := Ideal)) Variants.none (c : Thread nD τ) none) E (cc0_dense_softplus (F := Ideal) i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%f7, H7⟩, ⟨%f8, H8⟩, ⟨%f9, H9⟩, ⟨%f10, %hG, H10⟩, Hk⟩
  have hS := last_sums c i arg2 harg2 arg3 harg3 arg4 harg4 arg5 harg5 arg6 harg6 arg7 harg7 arg8 harg8 arg9 harg9 arg10 harg10 f2 f3 f4 f5 f6 f7 f8 f9 f10 hc G hG
  have hO := last_out c i arg2 harg2 arg3 harg3 arg4 harg4 arg5 harg5 arg6 harg6 arg7 harg7 arg8 harg8 arg9 harg9 arg10 harg10 f2 f3 f4 f5 f6 f7 f8 f9 f10 hc G hG
  rw [show codesOf arg2 f2 = x2 from h2, show scalesOf arg3 f3 = x3 from h3, show biasOf arg4 f4 = x4 from h4, show wordsOf arg5 f5 = x5 from h5] at hS hO
  iapply (wp_wand_r Idealize.ShloMosaic.frame (wpE (defs₀ (F := Ideal)) Variants.none (c : Thread nD τ) none) E)
  isplitl [H2 H3 H4 H5 H6 H7 H8 H9 H10]
  · iapply ((runLast (F := Ideal) c i arg2 harg2 arg3 harg3 arg4 harg4 arg5 harg5 arg6 harg6 arg7 harg7 arg8 harg8 arg9 harg9 arg10 harg10 hc f2 f3 f4 f5 f6 f7 f8 f9 f10).2.2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨H2, H3, H4, H5, H6, ⟨%g7, H7⟩, ⟨%g8, H8⟩, ⟨%g9, H9⟩, H10⟩
  iapply Hk
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists _; isplitr; swap; · iexact H6
    ipureintro; exact hO
  isplitl [H7]; · iexists _; iexact H7
  isplitl [H8]; · iexists _; iexact H8
  isplitl [H9]; · iexists _; iexact H9
  iexists _; isplitr; swap; · iexact H10
  ipureintro; exact hS

end Cert.Proof.KernelIdeal.Track

end
-- ==== Proof.PipeI.lean ====
module

public import proofs.«01_k».proof.Proof.CallI
public import proofs.«01_k».proof.Proof.FrameI

@[expose] public section

noncomputable section

namespace Cert.Proof.KernelIdeal.Track

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

theorem coords_val : ∀ t : Fin cfg0.N, (grid0.coords t 0).val = t.val / 4 ∧ (grid0.coords t 1).val = t.val % 4 := by
  decide +kernel

theorem first_iff : ∀ x : Fin 4, Scalar.cmpi .eq (BitVec.ofNat 32 x.val) 0#32 = 1#1 ↔ x.val = 0 := by decide

theorem first_eq (t : Fin cfg0.N) : first (grid0.coords t) = 1#1 ↔ t.val % 4 = 0 :=
  (first_iff (grid0.coords t 1)).trans (by rw [(coords_val t).2])

theorem last_iff : ∀ x : Fin 4, Scalar.cmpi .ne (Scalar.extui (Scalar.cmpi .eq (BitVec.ofNat 32 x.val) 3#32) : BitVec 32) 0#32 = 1#1 ↔ x.val = 3 := by decide

theorem last_eq (t : Fin cfg0.N) : k0_cond1 (grid0.coords t) = 1#1 ↔ t.val % 4 = 3 :=
  (last_iff (grid0.coords t 1)).trans (by rw [(coords_val t).2])

/-- The sums of one tile. -/
def tsum (c : Dev nD) (t : Fin cfg0.N) : Fin 40 → Fin 512 → EReal :=
  tileSum (iblk m c 0 t : Vec Ideal S2048x256 .i8) (iblk m c 1 t : Vec Ideal S4x16x128 .bf16) (iblk m c 2 t : Vec Ideal S2x8x128 .f32) (iblk m c 3 t : Vec Ideal S40x256x512 .i32)

/-- The sums that the scratch holds before tile `n`: those of the tiles of its chunk so far. -/
def acc (c : Dev nD) : ℕ → Fin 40 → Fin 512 → EReal
  | 0 => fun _ _ => 0
  | n + 1 => fun r tok => (if n % 4 = 0 then 0 else acc c n r tok) + (if h : n < cfg0.N then tsum m c ⟨n, h⟩ r tok else 0)

theorem acc_next (c : Dev nD) (t : Fin cfg0.N) :
    nextSum (grid0.coords t) (iblk m c 0 t : Vec Ideal S2048x256 .i8) (iblk m c 1 t : Vec Ideal S4x16x128 .bf16) (iblk m c 2 t : Vec Ideal S2x8x128 .f32) (iblk m c 3 t : Vec Ideal S40x256x512 .i32) (acc m c t.val) = acc m c (t.val + 1) := by
  funext r tok
  unfold nextSum
  simp only [acc, dif_pos t.isLt, first_eq]
  rfl

/-- What is known of the scratch before tile `n`. -/
def PhiS (c : Dev nD) (n : ℕ) : sProp 𝕄 :=
  iprop(iprop((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f : BufTy.Contents (Elt Ideal) (Memref.whole cc0_scratch3).view.ty, ⌜n = 0 ∨ Sums (Memref.whole cc0_scratch3) f (acc m c n)⌝ ∗ ((Memref.whole cc0_scratch3).view.loc (c : Thread nD τ) ↦[(Memref.whole cc0_scratch3).view.set]{fullShare} f))) ∗ (∃ r, prngReg c r))

/-- The pipeline's data: the inputs' buffers at their blocks, the result's at the sums of its chunk, the scratch at the sums so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outOf (acc m c (t.val + 1)) : Vec Ideal S1x32x640 .f32)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outOf (acc m c (t.val + 1)) : Vec Ideal S1x32x640 .f32) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns, the result's buffer at `P4`. -/
def bodyPost (c : Dev nD) (t : Fin cfg0.N) (P4 : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ P4)

/-- The body at a point that is not the last of its chunk. -/
theorem body_rest (c : Dev nD) (t : Fin cfg0.N) (ht : ¬ t.val % 4 = 3) :
    bodyPre m c t ⊢ wp Idealize.ShloMosaic.frame (wpE (defs₀ (F := Ideal)) Variants.none c none) Set.univ (bodyAt0 t) (fun _ => bodyPost m c t iprop(∃ d, owns (c : Thread nD τ) (st0_4 t) fullShare ((dats m 0 c).before 4 t d))) := by
  have hc := fun h => ht ((last_eq t).mp h)
  unfold bodyPre bodyPost bodyAt0
  simp only [before0_0, before0_1, before0_2, before0_3]
  rw [show (dats m 0 c).Φ t.succ = PhiS m c (t.val + 1) from rfl,
    show (dats m 0 c).owesAt () t.succ = (dats m 0 c).owesAt () t.castSucc from rfl,
    show (dats m 0 c).Φ t.castSucc = PhiS m c t.val from rfl,
    after0_0, after0_1, after0_2, after0_3]
  unfold PhiS
  iintro ⟨⟨⟨S0, S1, S2, ⟨%f10, %hG, S3⟩⟩, Hg⟩, Ho, ⟨%d0, H0⟩, ⟨%d1, H1⟩, ⟨%d2, H2⟩, ⟨%d3, H3⟩, ⟨%d4, H4⟩⟩
  have hG' : first (grid0.coords t) = 1#1 ∨ Sums (Memref.whole cc0_scratch3) f10 (acc m c t.val) :=
    hG.imp (fun h => (first_eq t).mpr (by rw [h])) id
  iapply (sound_rest c Set.univ _ _ _ _ _ _ _ _ _ _ _ _ _ _ _ _ _ _ _ hc (iblk m c 0 t) (iblk m c 1 t) (iblk m c 2 t) (iblk m c 3 t) ((dats m 0 c).before 4 t d4) (acc m c t.val) _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]
  · iexists f10; isplitr; · ipureintro; exact hG'
    iexact S3
  rw [acc_next]
  iintro ⟨H0, H1, H2, H3, H4, S0, S1, S2, ⟨%g10, %hS, S3⟩⟩
  isplitl [S0 S1 S2 S3 Hg]
  · isplitl [S0 S1 S2 S3]
    · isplitl [S0]; · iexact S0
      isplitl [S1]; · iexact S1
      isplitl [S2]; · iexact S2
      iexists g10; isplitr; · ipureintro; exact Or.inr hS
      iexact S3
    iexact Hg
  isplitl [Ho]; · iexact Ho
  isplitl [H0]; · iexact H0
  isplitl [H1]; · iexact H1
  isplitl [H2]; · iexact H2
  isplitl [H3]; · iexact H3
  iexists d4; iexact H4

/-- The body at the last point of a chunk. -/
theorem body_last (c : Dev nD) (t : Fin cfg0.N) (ht : t.val % 4 = 3) :
    bodyPre m c t ⊢ wp Idealize.ShloMosaic.frame (wpE (defs₀ (F := Ideal)) Variants.none c none) Set.univ (bodyAt0 t) (fun _ => bodyPost m c t (owns (c : Thread nD τ) (st0_4 t) fullShare ((dats m 0 c).after 4 t))) := by
  have hc := (last_eq t).mpr ht
  unfold bodyPre bodyPost bodyAt0
  simp only [before0_0, before0_1, before0_2, before0_3]
  rw [show (dats m 0 c).Φ t.succ = PhiS m c (t.val + 1) from rfl,
    show (dats m 0 c).owesAt () t.succ = (dats m 0 c).owesAt () t.castSucc from rfl,
    show (dats m 0 c).Φ t.castSucc = PhiS m c t.val from rfl,
    after0_0, after0_1, after0_2, after0_3, after0_4]
  unfold PhiS
  iintro ⟨⟨⟨S0, S1, S2, ⟨%f10, %hG, S3⟩⟩, Hg⟩, Ho, ⟨%d0, H0⟩, ⟨%d1, H1⟩, ⟨%d2, H2⟩, ⟨%d3, H3⟩, ⟨%d4, H4⟩⟩
  have hG' : first (grid0.coords t) = 1#1 ∨ Sums (Memref.whole cc0_scratch3) f10 (acc m c t.val) :=
    hG.imp (fun h => (first_eq t).mpr (by rw [h])) id
  iapply (sound_last c Set.univ _ _ _ _ _ _ _ _ _ _ _ _ _ _ _ _ _ _ _ hc (iblk m c 0 t) (iblk m c 1 t) (iblk m c 2 t) (iblk m c 3 t) ((dats m 0 c).before 4 t d4) (acc m c t.val) _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]
  · iexists f10; isplitr; · ipureintro; exact hG'
    iexact S3
  rw [acc_next]
  iintro ⟨H0, H1, H2, H3, H4, S0, S1, S2, ⟨%g10, %hS, S3⟩⟩
  isplitl [S0 S1 S2 S3 Hg]
  · isplitl [S0 S1 S2 S3]
    · isplitl [S0]; · iexact S0
      isplitl [S1]; · iexact S1
      isplitl [S2]; · iexact S2
      iexists g10; isplitr; · ipureintro; exact Or.inr hS
      iexact S3
    iexact Hg
  isplitl [Ho]; · iexact Ho
  isplitl [H0]; · iexact H0
  isplitl [H1]; · iexact H1
  isplitl [H2]; · iexact H2
  isplitl [H3]; · iexact H3
  iexact H4

theorem idle_rest (t : Fin cfg0.N) (ht : ¬ t.val % 4 = 3) : idle0 4 (grid0.coords t) = true := by
  have h : ¬ k0_cond1 (grid0.coords t) = 1#1 := fun h => ht ((last_eq t).mp h)
  show (!(k0_cond1 (grid0.coords t) == 1#1)) = true
  simpa using h

theorem idle_last (t : Fin cfg0.N) (ht : t.val % 4 = 3) : idle0 4 (grid0.coords t) = false := by
  show (!(k0_cond1 (grid0.coords t) == 1#1)) = false
  rw [(last_eq t).mpr ht]; rfl

theorem flush_rest (t : Fin cfg0.N) (ht : ¬ t.val % 4 = 3) : (cfg0.win 4).flush t = false :=
  Bool.eq_false_iff.mpr fun h => ht ((flush0_4 t).mp h)

theorem body_obligation (c : Dev nD) : BodyObligation (dats m 0 c) (defs₀ (F := Ideal)) Variants.none () Set.univ := fun t => by
  rw [bigSep_W0, bigSep_W0, defs₀_row]
  by_cases ht : t.val % 4 = 3
  · refine triple_restated (body_last m c t ht) rfl .rfl fun _ => ?_
    unfold bodyPost
    rw [show cfg0.idle 4 (cfg0.grid.coords t) = false from idle_last t ht]
  · refine triple_restated (body_rest m c t ht) rfl .rfl fun _ => ?_
    unfold bodyPost
    rw [show cfg0.idle 4 (cfg0.grid.coords t) = true from idle_rest t ht, flush_rest t ht]

theorem phi_in (c : Dev nD) : (Pipeline.ΦA spec0 c : sProp 𝕄) ⊢ (dats m 0 c).Φ 0 := by
  rw [PhiA_eq, show (dats m 0 c).Φ 0 = PhiS m c 0 from rfl]
  unfold PhiS
  iintro ⟨⟨S0, S1, S2, ⟨%f, S3⟩⟩, Hg⟩
  isplitl [S0 S1 S2 S3]
  · isplitl [S0]; · iexact S0
    isplitl [S1]; · iexact S1
    isplitl [S2]; · iexact S2
    iexists f; isplitr; · ipureintro; exact Or.inl rfl
    iexact S3
  iexact Hg

theorem phi_out (c : Dev nD) : (dats m 0 c).Φ (Fin.last cfg0.N) ⊢ (Pipeline.ΦA spec0 c : sProp 𝕄) := by
  rw [PhiA_eq, show (dats m 0 c).Φ (Fin.last cfg0.N) = PhiS m c cfg0.N from rfl]
  unfold PhiS
  iintro ⟨⟨S0, S1, S2, ⟨%f, -, S3⟩⟩, Hg⟩
  isplitl [S0 S1 S2 S3]
  · isplitl [S0]; · iexact S0
    isplitl [S1]; · iexact S1
    isplitl [S2]; · iexact S2
    iexists f; iexact S3
  iexact Hg

-- the implicit arguments are found by unifying the conclusion with this one, which takes unfolding plain definitions in a
-- metavariable's type
set_option backward.isDefEq.respectTransparency.types false in
/-- The launch: the arrays as the pipeline leaves them. -/
theorem run_main : θ_run defs (onTc (τ := τ) (main (F := Ideal))) (s₀ m ρ) (Pipeline.FramePost cfgs (dats m) (0 : Fin 1) (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

end Cert.Proof.KernelIdeal.Track

end
-- ==== Proof.RefI.lean ====
/- What the reference computes, element by element, in the extended reals. -/
module

public import proofs.«01_k».proof.Proof.Gen.ReferenceIdeal.Read
public import proofs.«01_k».proof.Proof.DotI
public import Idealize.ShloMosaic.Lib.BitcastConvert
public import proofs.«01_k».proof.Proof.Softplus

@[expose] public section

set_option maxRecDepth 16384

noncomputable section

namespace Cert.Proof.Ref

open Cert.ReferenceIdeal Cert.ReferenceIdeal.Gen Cert.ReferenceIdeal.Read
open Idealize.ShloMosaic Idealize.ShloMosaic.TcCoe
open Cert.Proof.KernelIdeal (xh)
open Cert.Proof.Softplus (sp)

/-- The signed half of a byte. -/
def nib (hi : Bool) (b : BitVec 8) : Int := (if hi then b.extractLsb' 4 4 else b.extractLsb' 0 4 : BitVec 4).toInt

theorem nib_low : ∀ b : BitVec 8, (Scalar.select (IntOp.cmpi .sge (IntOp.andi (b.setWidth 32) 15#32) 8#32) (IntOp.subi (IntOp.andi (b.setWidth 32) 15#32) 16#32) (IntOp.andi (b.setWidth 32) 15#32) : BitVec 32).toInt = nib false b := by
  decide +kernel
theorem nib_high : ∀ b : BitVec 8, (Scalar.select (IntOp.cmpi .sge (IntOp.shrsi .host (b.setWidth 32) 4#32) 8#32) (IntOp.subi (IntOp.shrsi .host (b.setWidth 32) 4#32) 16#32) (IntOp.shrsi .host (b.setWidth 32) 4#32) : BitVec 32).toInt = nib true b := by
  decide +kernel

variable (X : (⟨S40x256x512, .i32⟩ : BufTy).Contents (Elt Ideal)) (C : (⟨S770048x256, .i8⟩ : BufTy).Contents (Elt Ideal))
  (S : (⟨S770048x4, .f32⟩ : BufTy).Contents (Elt Ideal)) (B : (⟨S770048, .f32⟩ : BufTy).Contents (Elt Ideal))

/-- The weight of label `l` at lane `d`. -/
def weight (l : Fin 770048) (d : Fin 512) : EReal :=
  (((nib (decide (256 ≤ d.val)) (C (ix2 l ⟨d.val % 256, by omega⟩)) : Int) : ℝ) : EReal) * S (ix2 l ⟨d.val % 256 / 64, by omega⟩)

/-- The logit of label `l` for token `n`. -/
def logit (n : Fin 20480) (l : Fin 770048) : EReal :=
  2 * (∑ d : Fin 512, xh X ⟨n.val / 512, by omega⟩ d ⟨n.val % 512, by omega⟩ * weight C S l d) + B (ix1 l)

theorem x_half (i : S20480x770048.Idx) (k : Fin 512) (n : Fin 20480) (hn : (i 0).val = n.val) :
    val_main_v2 (F := Ideal) X (lidx_main_v31 i k) = xh X ⟨n.val / 512, by omega⟩ k ⟨n.val % 512, by omega⟩ := by
  rw [val_main_v2_apply, val_main_v1_apply]
  unfold val_main_v0 xh
  show Ideal.ofBits .bf16 (Host.bitcastConvertNarrow S40x256x512x2 16 X splits_S40x256x512_w32_S40x256x512x2_w16 _) = _
  rw [Host.bitcastConvertNarrow_apply]
  have hk := k.isLt
  congr 2
  · show ((i 0).val * 512 + k.val) % 2 * 16 = 16 * (k.val % 2)
    omega
  · congr 1
    funext a
    match a with
    | 0 => exact Fin.ext (show ((i 0).val * 512 + k.val) / 262144 = n.val / 512 by omega)
    | 1 => exact Fin.ext (show ((i 0).val * 512 + k.val) / 2 % 256 = k.val / 2 by omega)
    | 2 => exact Fin.ext (show ((i 0).val * 512 + k.val) / 512 % 512 = n.val % 512 by omega)

theorem low_apply (l : Fin 770048) (d : Fin 256) :
    val_main_v17 (F := Ideal) C S (ix2 l d) = (((nib false (C (ix2 l d)) : Int) : ℝ) : EReal) * S (ix2 l ⟨d.val / 64, by omega⟩) := by
  have hd := d.isLt
  rw [val_main_v17_apply, val_main_v16_apply, val_main_v14_apply, val_main_v15_apply, val_main_v13_apply, val_main_v5_apply, val_main_v4_apply, val_main_v12_apply,
    val_main_v9_apply, val_main_v11_apply, val_main_v7_apply, val_main_v10_apply, val_main_v8_apply, val_main_v6_apply, val_main_v3_apply]
  have e1 : idx_main_v14 (idx_main_v17 (ix2 l d)) = ix2 l d := by
    funext a
    match a with
    | 0 => exact Fin.ext (show (((l.val * 256 + d.val) / 256 * 4 + (l.val * 256 + d.val) / 64 % 4) * 64 + (l.val * 256 + d.val) % 64) / 256 = l.val by omega)
    | 1 => exact Fin.ext (show (((l.val * 256 + d.val) / 256 * 4 + (l.val * 256 + d.val) / 64 % 4) * 64 + (l.val * 256 + d.val) % 64) % 256 = d.val by omega)
  have e2 : idx_main_v5 (idx_main_v15 (idx_main_v17 (ix2 l d))) = ix2 l ⟨d.val / 64, by omega⟩ := by
    funext a
    match a with
    | 0 => exact Fin.ext (show (l.val * 256 + d.val) / 256 = l.val by omega)
    | 1 => exact Fin.ext (show (l.val * 256 + d.val) / 64 % 4 = d.val / 64 by omega)
  rw [e1, e2]
  exact congrArg (· * _) (congrArg (fun z : Int => ((z : ℝ) : EReal)) (nib_low (C (ix2 l d))))

theorem high_apply (l : Fin 770048) (d : Fin 256) :
    val_main_v29 (F := Ideal) C S (ix2 l d) = (((nib true (C (ix2 l d)) : Int) : ℝ) : EReal) * S (ix2 l ⟨d.val / 64, by omega⟩) := by
  have hd := d.isLt
  rw [val_main_v29_apply, val_main_v28_apply, val_main_v26_apply, val_main_v27_apply, val_main_v25_apply, val_main_v5_apply, val_main_v4_apply, val_main_v24_apply,
    val_main_v21_apply, val_main_v23_apply, val_main_v19_apply, val_main_v22_apply, val_main_v20_apply, val_main_v18_apply, val_main_v3_apply]
  have e1 : idx_main_v26 (idx_main_v29 (ix2 l d)) = ix2 l d := by
    funext a
    match a with
    | 0 => exact Fin.ext (show (((l.val * 256 + d.val) / 256 * 4 + (l.val * 256 + d.val) / 64 % 4) * 64 + (l.val * 256 + d.val) % 64) / 256 = l.val by omega)
    | 1 => exact Fin.ext (show (((l.val * 256 + d.val) / 256 * 4 + (l.val * 256 + d.val) / 64 % 4) * 64 + (l.val * 256 + d.val) % 64) % 256 = d.val by omega)
  have e2 : idx_main_v5 (idx_main_v27 (idx_main_v29 (ix2 l d))) = ix2 l ⟨d.val / 64, by omega⟩ := by
    funext a
    match a with
    | 0 => exact Fin.ext (show (l.val * 256 + d.val) / 256 = l.val by omega)
    | 1 => exact Fin.ext (show (l.val * 256 + d.val) / 64 % 4 = d.val / 64 by omega)
  rw [e1, e2]
  exact congrArg (· * _) (congrArg (fun z : Int => ((z : ℝ) : EReal)) (nib_high (C (ix2 l d))))

theorem joined (u v : Vec Ideal S770048x256 .bf16) (l : Fin 770048) (d : Fin 512) :
    (concatenate S770048x512 1 [⟨S770048x256, u⟩, ⟨S770048x256, v⟩] concatenates_S770048x256_S770048x256_S770048x512_d1 : Vec Ideal S770048x512 .bf16) (ix2 l d)
      = if d.val < 256 then u (ix2 l ⟨d.val % 256, by omega⟩) else v (ix2 l ⟨d.val % 256, by omega⟩) := by
  have hd := d.isLt
  by_cases h : d.val < 256
  · rw [if_pos h]
    have e : (⟨d.val % 256, by omega⟩ : Fin 256) = ⟨d.val, h⟩ := Fin.ext (show d.val % 256 = d.val by omega)
    rw [e]
    pointwise
    simp [h]
  · rw [if_neg h]
    have e : (⟨d.val % 256, by omega⟩ : Fin 256) = ⟨d.val - 256, by omega⟩ := Fin.ext (show d.val % 256 = d.val - 256 by omega)
    rw [e]
    pointwise
    simp [h]

theorem weight_apply (i : S20480x770048.Idx) (k : Fin 512) (l : Fin 770048) (hl : (i 1).val = l.val) :
    val_main_v30 (F := Ideal) C S (ridx_main_v31 i k) = weight C S l k := by
  have hk := k.isLt
  have e : ridx_main_v31 i k = ix2 l k := by
    funext a
    match a with
    | 0 => exact Fin.ext hl
    | 1 => rfl
  rw [e]
  unfold val_main_v30
  rw [joined, low_apply, high_apply]
  unfold weight
  split
  · rename_i h
    rw [show decide (256 ≤ k.val) = false from decide_eq_false (by omega)]
  · rename_i h
    rw [show decide (256 ≤ k.val) = true from decide_eq_true (by omega)]

theorem two_bits : (Ideal.ofBits .f32 0x40000000#32 : EReal) = 2 := Cert.Proof.KernelIdeal.two_eq
theorem zero_bits : (Ideal.ofBits .f32 0x00000000#32 : EReal) = 0 := Ideal.ofBits_zero_f32

theorem logit_apply (i : S20480x770048.Idx) (n : Fin 20480) (l : Fin 770048) (hn : (i 0).val = n.val) (hl : (i 1).val = l.val) :
    val_main_v36 (F := Ideal) X C S B i = logit X C S B n l := by
  rw [val_main_v36_apply, val_main_v33_apply, val_main_v32_apply, val_main_cst_apply, val_main_v31_apply, val_main_v35_apply, val_main_v34_apply]
  unfold logit
  refine congr (congrArg (fun a b : EReal => a + b) (congr (congrArg (fun a b : EReal => a * b) two_bits) (Finset.sum_congr rfl fun k _ => ?_))) ?_
  · rw [x_half X i k n hn, weight_apply C S i k l hl]
  · exact congrArg B (funext fun a => match a with | 0 => Fin.ext hl)

theorem softplus_apply (i : S20480x770048.Idx) (n : Fin 20480) (l : Fin 770048) (hn : (i 0).val = n.val) (hl : (i 1).val = l.val) :
    val_main_v43 (F := Ideal) X C S B i = sp (logit X C S B n l) := by
  rw [val_main_v43_apply, val_main_v38_apply, val_main_v42_apply, val_main_v41_apply, val_main_v40_apply, val_main_v39_apply, logit_apply X C S B i n l hn hl,
    val_main_v37_apply, val_main_cst_5_apply]
  unfold sp
  exact congrArg (fun a : EReal => max (logit X C S B n l) a + _) zero_bits

/-- The reference's result: for every chunk and token the sum over the chunk's labels. -/
theorem result_apply (i : S94x32x640.Idx) :
    val_main_v47 (F := Ideal) X C S B i = ∑ k : Fin 8192, sp (logit X C S B
      ⟨640 * (i 1).val + (i 2).val, by have h1 : (i 1).val < 32 := (i 1).isLt; have h2 : (i 2).val < 640 := (i 2).isLt; omega⟩
      ⟨8192 * (i 0).val + k.val, by have h0 : (i 0).val < 94 := (i 0).isLt; omega⟩) := by
  rw [val_main_v47_apply, val_main_v46_apply, val_main_v45_apply, val_main_cst_6_apply]
  have h0 : (i 0).val < 94 := (i 0).isLt
  have h1 : (i 1).val < 32 := (i 1).isLt
  have h2 : (i 2).val < 640 := (i 2).isLt
  refine (congr (congrArg (fun a b : EReal => a + b) zero_bits) (Finset.sum_congr rfl fun k _ => ?_)).trans (zero_add _)
  rw [val_main_v44_apply]
  have hk := k.isLt
  have hq : (((i 0).val * 32 + (i 1).val) * 640 + (i 2).val) / 20480 = (i 0).val := by omega
  have hr : (((i 0).val * 32 + (i 1).val) * 640 + (i 2).val) % 20480 = 640 * (i 1).val + (i 2).val := by omega
  refine softplus_apply X C S B _ _ _ ?_ ?_
  · show (((((i 0).val * 32 + (i 1).val) * 640 + (i 2).val) % 20480 * 94 + (((i 0).val * 32 + (i 1).val) * 640 + (i 2).val) / 20480) * 8192 + k.val) / 770048 = 640 * (i 1).val + (i 2).val
    rw [hq, hr]; omega
  · show (((((i 0).val * 32 + (i 1).val) * 640 + (i 2).val) % 20480 * 94 + (((i 0).val * 32 + (i 1).val) * 640 + (i 2).val) / 20480) * 8192 + k.val) % 770048 = 8192 * (i 0).val + k.val
    rw [hq, hr]; omega

end Cert.Proof.Ref

end
-- ==== Proof.TileI.lean ====
/- What the tiles of the kernel's grid read, from the arguments, and so what one tile adds: the reference's softplus values of its
   labels. -/
module

public import proofs.«01_k».proof.Proof.PipeI
public import proofs.«01_k».proof.Proof.RefI
public import Idealize.ShloMosaic.Lib.Claim
public import Idealize.ShloMosaic.Lib.Pipeline.ValueKit

@[expose] public section

set_option maxRecDepth 16384

noncomputable section

namespace Cert.Proof.KernelIdeal.Track

open Cert.KernelIdeal Cert.KernelIdeal.Gen
open Idealize.ShloMosaic Idealize.ShloMosaic.TcCoe Idealize.ShloMosaic.Tactic
open Cert.Proof.Softplus (sp)
open Cert.Proof.Ref (nib weight logit)

variable (m : (ℓ : Loc nD τ sig) → Buf (Elt Ideal) ℓ) (c : Dev nD)

abbrev argX : S40x256x512.Idx → BitVec 32 := m ((c : Thread nD τ).loc main_arg0)
abbrev argC : S770048x256.Idx → BitVec 8 := m ((c : Thread nD τ).loc main_arg1)
abbrev argS : S770048x4.Idx → EReal := m ((c : Thread nD τ).loc main_arg2)
abbrev argB : S770048.Idx → EReal := m ((c : Thread nD τ).loc main_arg3)

theorem sixteenth : (Ideal.ofBits .bf16 0x3D80#16 : EReal) = ((1 / 16 : ℝ) : EReal) := by
  simp [Ideal.ofBits, Ideal.ieee, -EReal.coe_mul]; norm_num

theorem half_bits : (Ideal.ofBits .f32 0x3F000000#32 : EReal) = ((1 / 2 : ℝ) : EReal) := by
  simp [Ideal.ofBits, Ideal.ieee, -EReal.coe_mul]; norm_num

theorem scale16_apply (x : FVec Ideal S770048x4 .f32) (r : Fin 1504) (s : Fin 16) (a : Fin 32) (g : Fin 4) :
    (shapeCast S1504x16x128 (transpose S1504x16x32x4 [0, 2, 1, 3] (shapeCast S1504x32x16x4 (mulf (truncf .bf16 x bitsLt_bf16_f32)
        (broadcastInDim S770048x4 ![] bcast_S_S770048x4 (constant (F := Ideal) S_ .bf16 0x3D80#16))) shapeCasts_S770048x4_S1504x32x16x4 : FVec Ideal S1504x32x16x4 .bf16)
      transposes_S1504x32x16x4_S1504x16x32x4_0_2_1_3) shapeCasts_S1504x16x32x4_S1504x16x128 : FVec Ideal S1504x16x128 .bf16) (ix3 r s ⟨4 * a.val + g.val, by omega⟩)
      = x (ix2 ⟨512 * r.val + 16 * a.val + s.val, by omega⟩ g) * ((1 / 16 : ℝ) : EReal) := by
  rw [← sixteenth]
  pointwise
  exact congrArg (fun l => x (ix2 l g) * _) (Fin.ext (show r.val * 512 + a.val * 16 + s.val = 512 * r.val + 16 * a.val + s.val by omega))

theorem biasT_apply (x : FVec Ideal S770048 .f32) (t : Fin 752) (s : Fin 8) (j : Fin 128) :
    (transpose S752x8x128 [0, 2, 1] (shapeCast S752x128x8 (mulf (broadcastInDim S770048 ![] bcast_S_S770048 (constant (F := Ideal) S_ .f32 0x3F000000#32)) x)
      shapeCasts_S770048_S752x128x8 : FVec Ideal S752x128x8 .f32) transposes_S752x128x8_S752x8x128_0_2_1 : FVec Ideal S752x8x128 .f32) (ix3 t s j)
      = ((1 / 2 : ℝ) : EReal) * x (ix1 ⟨1024 * t.val + 8 * j.val + s.val, by omega⟩) := by
  rw [← half_bits]
  pointwise
  exact congrArg (fun l => _ * x (ix1 l)) (Fin.ext (show t.val * 1024 + j.val * 8 + s.val = 1024 * t.val + 8 * j.val + s.val by omega))

theorem V_v5 : (V m c main_v5 : FVec Ideal S1504x16x128 .bf16) = (shapeCast S1504x16x128 (transpose S1504x16x32x4 [0, 2, 1, 3] (shapeCast S1504x32x16x4 (mulf (truncf .bf16 (argS m c : FVec Ideal S770048x4 .f32) bitsLt_bf16_f32)
        (broadcastInDim S770048x4 ![] bcast_S_S770048x4 (constant (F := Ideal) S_ .bf16 0x3D80#16))) shapeCasts_S770048x4_S1504x32x16x4 : FVec Ideal S1504x32x16x4 .bf16)
      transposes_S1504x32x16x4_S1504x16x32x4_0_2_1_3) shapeCasts_S1504x16x32x4_S1504x16x128 : FVec Ideal S1504x16x128 .bf16) := by
  entry_read
  rfl

theorem V_v9 : (V m c main_v9 : FVec Ideal S752x8x128 .f32) = (transpose S752x8x128 [0, 2, 1] (shapeCast S752x128x8 (mulf (broadcastInDim S770048 ![] bcast_S_S770048 (constant (F := Ideal) S_ .f32 0x3F000000#32)) (argB m c : FVec Ideal S770048 .f32))
      shapeCasts_S770048_S752x128x8 : FVec Ideal S752x128x8 .f32) transposes_S752x128x8_S752x8x128_0_2_1 : FVec Ideal S752x8x128 .f32) := by
  entry_read
  rfl

theorem index_0 : ∀ t : Fin cfg0.N, win0_0.index t 0 = t.val ∧ win0_0.index t 1 = 0 := by decide +kernel
theorem index_1 : ∀ t : Fin cfg0.N, win0_1.index t 0 = t.val ∧ win0_1.index t 1 = 0 ∧ win0_1.index t 2 = 0 := by decide +kernel
theorem index_2 : ∀ t : Fin cfg0.N, win0_2.index t 0 = t.val ∧ win0_2.index t 1 = 0 ∧ win0_2.index t 2 = 0 := by decide +kernel
theorem index_3 : ∀ t : Fin cfg0.N, win0_3.index t 0 = 0 ∧ win0_3.index t 1 = 0 ∧ win0_3.index t 2 = 0 := by decide +kernel
theorem index_4 : ∀ t : Fin cfg0.N, win0_4.index t 0 = t.val / 4 ∧ win0_4.index t 1 = 0 ∧ win0_4.index t 2 = 0 := by decide +kernel

theorem t_lt (t : Fin cfg0.N) : t.val < 376 := lt_of_lt_of_eq t.isLt N_0

theorem codes_apply (t : Fin cfg0.N) (a : Fin 2048) (b : Fin 256) :
    (iblk m c 0 t : Vec Ideal S2048x256 .i8) (ix2 a b) = argC m c (ix2 ⟨2048 * t.val + a.val, by have := t_lt t; omega⟩ b) := by
  unfold iblk
  rw [View.read_apply]
  show V m c main_arg1 _ = _
  rw [V_main_arg1]
  refine congrArg (argC m c) (funext fun x => Fin.ext ?_)
  match x with
  | 0 => show win0_0.index t 0 * 2048 + 1 * a.val = 2048 * t.val + a.val; rw [(index_0 t).1]; omega
  | 1 => show win0_0.index t 1 * 256 + 1 * b.val = b.val; rw [(index_0 t).2]; omega

theorem words_apply (t : Fin cfg0.N) : (iblk m c 3 t : Vec Ideal S40x256x512 .i32) = argX m c := by
  funext y
  unfold iblk
  rw [View.read_apply]
  show V m c main_arg0 _ = _
  rw [V_main_arg0]
  refine congrArg (argX m c) (funext fun x => Fin.ext ?_)
  match x with
  | 0 => show win0_3.index t 0 * 40 + 1 * (y 0).val = (y 0).val; rw [(index_3 t).1]; omega
  | 1 => show win0_3.index t 1 * 256 + 1 * (y 1).val = (y 1).val; rw [(index_3 t).2.1]; omega
  | 2 => show win0_3.index t 2 * 512 + 1 * (y 2).val = (y 2).val; rw [(index_3 t).2.2]; omega

theorem scales_apply (t : Fin cfg0.N) (r : Fin 4) (s : Fin 16) (a : Fin 32) (g : Fin 4) :
    (iblk m c 1 t : Vec Ideal S4x16x128 .bf16) (ix3 r s ⟨4 * a.val + g.val, by omega⟩)
      = argS m c (ix2 ⟨2048 * t.val + 512 * r.val + 16 * a.val + s.val, by have := t_lt t; omega⟩ g) * ((1 / 16 : ℝ) : EReal) := by
  unfold iblk
  rw [View.read_apply]
  show (V m c main_v5 : FVec Ideal S1504x16x128 .bf16) _ = _
  have e := congrFun (V_v5 m c) (ix3 ⟨4 * t.val + r.val, by have := t_lt t; omega⟩ s ⟨4 * a.val + g.val, by omega⟩)
  rw [scale16_apply] at e
  refine Eq.trans (congrArg (V m c main_v5 : FVec Ideal S1504x16x128 .bf16) (funext fun x => Fin.ext ?_)) (e.trans ?_)
  · match x with
    | 0 => show win0_1.index t 0 * 4 + 1 * r.val = 4 * t.val + r.val; rw [(index_1 t).1]; omega
    | 1 => show win0_1.index t 1 * 16 + 1 * s.val = s.val; rw [(index_1 t).2.1]; omega
    | 2 => show win0_1.index t 2 * 128 + 1 * (4 * a.val + g.val) = 4 * a.val + g.val; rw [(index_1 t).2.2]; omega
  · exact congrArg (fun l => argS m c (ix2 l g) * ((1 / 16 : ℝ) : EReal)) (Fin.ext (show 512 * (4 * t.val + r.val) + 16 * a.val + s.val = 2048 * t.val + 512 * r.val + 16 * a.val + s.val by omega))

theorem biases_apply (t : Fin cfg0.N) (r : Fin 2) (s : Fin 8) (j : Fin 128) :
    (iblk m c 2 t : Vec Ideal S2x8x128 .f32) (ix3 r s j)
      = ((1 / 2 : ℝ) : EReal) * argB m c (ix1 ⟨2048 * t.val + 1024 * r.val + 8 * j.val + s.val, by have := t_lt t; omega⟩) := by
  unfold iblk
  rw [View.read_apply]
  show (V m c main_v9 : FVec Ideal S752x8x128 .f32) _ = _
  have e := congrFun (V_v9 m c) (ix3 ⟨2 * t.val + r.val, by have := t_lt t; omega⟩ s j)
  rw [biasT_apply] at e
  refine Eq.trans (congrArg (V m c main_v9 : FVec Ideal S752x8x128 .f32) (funext fun x => Fin.ext ?_)) (e.trans ?_)
  · match x with
    | 0 => show win0_2.index t 0 * 2 + 1 * r.val = 2 * t.val + r.val; rw [(index_2 t).1]; omega
    | 1 => show win0_2.index t 1 * 8 + 1 * s.val = s.val; rw [(index_2 t).2.1]; omega
    | 2 => show win0_2.index t 2 * 128 + 1 * j.val = j.val; rw [(index_2 t).2.2]; omega
  · exact congrArg (fun l => ((1 / 2 : ℝ) : EReal) * argB m c (ix1 l)) (Fin.ext (show 1024 * (2 * t.val + r.val) + 8 * j.val + s.val = 2048 * t.val + 1024 * r.val + 8 * j.val + s.val by omega))

theorem half16_low : ∀ b : BitVec 8, (low16 b).toInt = 16 * nib false b := by decide +kernel
theorem half16_high : ∀ b : BitVec 8, (high16 b).toInt = 16 * nib true b := by decide +kernel

theorem half16_eq (hi : Bool) (b : BitVec 8) : half16 hi b = ((16 * ((nib hi b : Int) : ℝ) : ℝ) : EReal) := by
  unfold half16
  cases hi
  · rw [if_neg Bool.false_ne_true, half16_low]; push_cast; rfl
  · rw [if_pos rfl, half16_high]; push_cast; rfl

/-- The factor 16 of a nibble and the factor 1/16 of its scale cancel. -/
theorem sixteen (v : ℝ) (s : EReal) : ((16 * v : ℝ) : EReal) * (s * ((1 / 16 : ℝ) : EReal)) = (v : EReal) * s := by
  rw [mul_comm s, ← mul_assoc, ← EReal.coe_mul]
  congr 2
  ring

theorem weight_eq (t : Fin cfg0.N) (n : Fin 2048) (d : Fin 512) :
    wt (iblk m c 0 t : Vec Ideal S2048x256 .i8) (iblk m c 1 t : Vec Ideal S4x16x128 .bf16) n d
      = weight (argC m c) (argS m c) ⟨2048 * t.val + n.val, by have := t_lt t; omega⟩ d := by
  have hn := n.isLt
  have hd := d.isLt
  unfold wt weight
  have e := scales_apply m c t ⟨n.val / 512, by omega⟩ ⟨n.val % 16, by omega⟩ ⟨n.val % 512 / 16, by omega⟩ ⟨d.val % 256 / 64, by omega⟩
  rw [codes_apply, half16_eq]
  refine (congrArg (fun z : EReal => _ * z) e).trans ((sixteen _ _).trans ?_)
  exact congrArg (fun l => _ * argS m c (ix2 l ⟨d.val % 256 / 64, by omega⟩)) (Fin.ext (show 2048 * t.val + 512 * (n.val / 512) + 16 * (n.val % 512 / 16) + n.val % 16 = 2048 * t.val + n.val by omega))

theorem bias_eq' (t : Fin cfg0.N) (n : Fin 2048) :
    biasAt (iblk m c 2 t : Vec Ideal S2x8x128 .f32) n = ((1 / 2 : ℝ) : EReal) * argB m c (ix1 ⟨2048 * t.val + n.val, by have := t_lt t; omega⟩) := by
  have hn := n.isLt
  unfold biasAt
  rw [biases_apply]
  exact congrArg (fun l => _ * argB m c (ix1 l)) (Fin.ext (show 2048 * t.val + 1024 * (n.val / 1024) + 8 * (n.val % 1024 / 8) + n.val % 8 = 2048 * t.val + n.val by omega))

theorem twice (D b : EReal) : 2 * (D + ((1 / 2 : ℝ) : EReal) * b) = 2 * D + b := by
  have h2 : (2 : EReal) = ((2 : ℝ) : EReal) := by norm_cast
  rw [EReal.left_distrib_of_nonneg_of_ne_top (by norm_num) (by rw [h2]; exact EReal.coe_ne_top _)]
  congr 1
  rw [h2, ← mul_assoc, ← EReal.coe_mul]
  norm_num

/-- One label's term of the sums, 0 past the last label. -/
def term (n : Fin 20480) (l : ℕ) : EReal := if h : l < 770048 then sp (logit (argX m c) (argC m c) (argS m c) (argB m c) n ⟨l, h⟩) else 0

/-- What one tile adds for a token. -/
theorem tsum_eq (t : Fin cfg0.N) (r : Fin 40) (tok : Fin 512) :
    tsum m c t r tok = ∑ n ∈ Finset.range 2048, term m c ⟨512 * r.val + tok.val, by omega⟩ (2048 * t.val + n) := by
  rw [← Fin.sum_univ_eq_sum_range]
  unfold tsum tileSum
  refine Finset.sum_congr rfl fun n _ => ?_
  have hn := n.isLt
  have ht := t_lt t
  unfold term
  rw [dif_pos (by omega)]
  refine congrArg sp ?_
  rw [bias_eq', twice, words_apply]
  unfold logit dotHalf
  refine congrArg (fun z : EReal => 2 * z + _) (Finset.sum_congr rfl fun d _ => ?_)
  rw [weight_eq, mul_comm]
  refine congrArg (fun z : EReal => z * _) ?_
  exact congr (congrArg (fun r' => xh (argX m c) r' d) (Fin.ext (show r.val = (512 * r.val + tok.val) / 512 by omega))) (Fin.ext (show tok.val = (512 * r.val + tok.val) % 512 by omega))

theorem acc_succ (n : ℕ) (h : n < cfg0.N) (r : Fin 40) (tok : Fin 512) :
    acc m c (n + 1) r tok = (if n % 4 = 0 then 0 else acc m c n r tok) + tsum m c ⟨n, h⟩ r tok :=
  congrArg (fun z : EReal => _ + z) (dif_pos h)

/-- The sums after the last tile of a chunk. -/
theorem acc_chunk (ch : Fin 94) (r : Fin 40) (tok : Fin 512) :
    acc m c (4 * ch.val + 4) r tok = ∑ n ∈ Finset.range 8192, term m c ⟨512 * r.val + tok.val, by omega⟩ (8192 * ch.val + n) := by
  have hN : cfg0.N = 376 := N_0
  have h := ch.isLt
  rw [acc_succ m c (4 * ch.val + 3) (by omega), if_neg (by omega), acc_succ m c (4 * ch.val + 2) (by omega), if_neg (by omega),
    acc_succ m c (4 * ch.val + 1) (by omega), if_neg (by omega), acc_succ m c (4 * ch.val) (by omega), if_pos (by omega), zero_add]
  rw [tsum_eq, tsum_eq, tsum_eq, tsum_eq]
  rw [show (8192 : ℕ) = 2048 + 2048 + 2048 + 2048 from rfl, Finset.sum_range_add, Finset.sum_range_add, Finset.sum_range_add]
  simp only [show ∀ k, 2048 * (4 * ch.val) + k = (2048 + 2048 + 2048 + 2048) * ch.val + k from fun k => by omega,
    show ∀ k, 2048 * (4 * ch.val + 1) + k = (2048 + 2048 + 2048 + 2048) * ch.val + (2048 + k) from fun k => by omega,
    show ∀ k, 2048 * (4 * ch.val + 2) + k = (2048 + 2048 + 2048 + 2048) * ch.val + (2048 + 2048 + k) from fun k => by omega,
    show ∀ k, 2048 * (4 * ch.val + 3) + k = (2048 + 2048 + 2048 + 2048) * ch.val + (2048 + 2048 + 2048 + k) from fun k => by omega]

end Cert.Proof.KernelIdeal.Track

end
-- ==== Proof.ValueI.lean ====
/- The kernel's result, from the tiles' sums, and the claim that it is the reference's. -/
module

public import proofs.«01_k».proof.Defs
public import proofs.«01_k».proof.Proof.TileI

@[expose] public section

set_option maxRecDepth 16384

noncomputable section

namespace Cert.Proof.KernelIdeal.Track

open Cert.KernelIdeal Cert.KernelIdeal.Gen
open Idealize.ShloMosaic Idealize.ShloMosaic.TcCoe Idealize.ShloMosaic.Tactic Idealize.SL.Sem
open Cert.Proof.Softplus (sp)
open Cert.Proof.Ref (logit)

variable (m : (ℓ : Loc nD τ sig) → Buf (Elt Ideal) ℓ) (c : Dev nD)

/-- For every chunk and token the sum over the chunk's labels. -/
def result : S94x32x640.Idx → EReal := fun i => ∑ n ∈ Finset.range 8192, term m c
  ⟨640 * (i 1).val + (i 2).val, by have h1 : (i 1).val < 32 := (i 1).isLt; have h2 : (i 2).val < 640 := (i 2).isLt; omega⟩ (8192 * (i 0).val + n)

theorem out_chunk (ch : Fin 94) (y : S1x32x640.Idx) (i : S94x32x640.Idx) (h0 : (i 0).val = ch.val) (h1 : (i 1).val = (y 1).val) (h2 : (i 2).val = (y 2).val) :
    outOf (acc m c (4 * ch.val + 4)) y = result m c i := by
  unfold outOf result
  rw [acc_chunk]
  refine Finset.sum_congr rfl fun n _ => ?_
  rw [h0]
  exact congrArg (fun t => term m c t _) (Fin.ext (show 512 * ((640 * (y 1).val + (y 2).val) / 512) + (640 * (y 1).val + (y 2).val) % 512 = 640 * (i 1).val + (i 2).val by omega))

theorem flushed_eq (t : Fin cfg0.N) (hf : (cfg0.win 4).flush t = true) :
    (dats m 0 c).flushed 4 t = ((cfg0.win 4).blk t).view.read (Elt Ideal) (result m c) := by
  have h3 : t.val % 4 = 3 := (flush0_4 t).mp hf
  have ht := t_lt t
  show (cfg0.win 4).cut (grid0.coords t) ((dats m 0 c).after 4 t) = _
  rw [after0_4]
  funext y
  rw [View.read_apply]
  have e := out_chunk m c ⟨t.val / 4, by omega⟩ y (ix3 (n0 := 94) (n1 := 32) (n2 := 640) ⟨t.val / 4, by omega⟩ (y 1) (y 2)) rfl rfl rfl
  rw [show 4 * (⟨t.val / 4, by omega⟩ : Fin 94).val + 4 = t.val + 1 by show 4 * (t.val / 4) + 4 = t.val + 1; omega] at e
  refine Eq.trans e (congrArg (result m c) (funext fun x => Fin.ext ?_))
  match x with
  | 0 => have h0 : (y 0).val < 1 := (y 0).isLt
         show t.val / 4 = win0_4.index t 0 * 1 + 1 * (y 0).val; rw [(index_4 t).1]; omega
  | 1 => show (y 1).val = win0_4.index t 1 * 32 + 1 * (y 1).val; rw [(index_4 t).2.1]; omega
  | 2 => show (y 2).val = win0_4.index t 2 * 640 + 1 * (y 2).val; rw [(index_4 t).2.2]; omega

theorem xsize_4 : ∀ t : Fin cfg0.N, win0_4.xsize (grid0.coords t) 0 = 1 ∧ win0_4.xsize (grid0.coords t) 1 = 32 ∧ win0_4.xsize (grid0.coords t) 2 = 640 := by decide +kernel

/-- The result's array after the last tile. -/
theorem final (m : (ℓ : Loc nD τ sig) → Buf (Elt Ideal) ℓ) (c : Dev nD) : (dats m 0 c).arrAt 4 cfg0.N = result m c :=
  (dats m 0 c).arrAt_eq_of_cover 4 (result m c) (flushed_eq m c) fun i => by
    have hN : cfg0.N = 376 := N_0
    have h0 : (i 0 : Nat) < 94 := (i 0).isLt
    have h1 : (i 1 : Nat) < 32 := (i 1).isLt
    have h2 : (i 2 : Nat) < 640 := (i 2).isLt
    let t : Fin cfg0.N := ⟨4 * (i 0).val + 3, by omega⟩
    have hv : t.val = 4 * (i 0).val + 3 := rfl
    refine ⟨t, (flush0_4 t).mpr (by omega), ?_⟩
    show i ∈ ((View.whole main_v10).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + win0_4.xsize (grid0.coords t) 0
                rw [(index_4 t).1, (xsize_4 t).1]; omega
    | ⟨1, _⟩ => show win0_4.index t 1 * 32 ≤ (i 1 : Nat) ∧ (i 1 : Nat) < win0_4.index t 1 * 32 + win0_4.xsize (grid0.coords t) 1
                rw [(index_4 t).2.1, (xsize_4 t).2.1]; omega
    | ⟨2, _⟩ => show win0_4.index t 2 * 640 ≤ (i 2 : Nat) ∧ (i 2 : Nat) < win0_4.index t 2 * 640 + win0_4.xsize (grid0.coords t) 2
                rw [(index_4 t).2.2, (xsize_4 t).2.2]; omega

/-- The kernel's run: its result and its arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 4).trans (final m c),
      ((h c).1 3).trans (((dats m 0 c).arrAt_in 3 rfl _).trans ((A_eq m c 3).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Proof.KernelIdeal.Track

namespace Cert.Proof

open Idealize.ShloMosaic Idealize.ShloMosaic.TcCoe Idealize.SL.Sem
open Cert.Proof.KernelIdeal.Track (result term argX argC argS argB)
open Cert.Proof.Softplus (sp)
open Cert.Proof.Ref (logit)

/-- The reference's result is the kernel's. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v47 (F := Ideal) (argX m c) (argC m c) (argS m c) (argB m c) = result m c := by
  funext i
  have h0 : (i 0).val < 94 := (i 0).isLt
  refine (Cert.Proof.Ref.result_apply _ _ _ _ i).trans ?_
  unfold result
  rw [← Fin.sum_univ_eq_sum_range]
  refine Finset.sum_congr rfl fun k _ => ?_
  have hk := k.isLt
  unfold term
  rw [dif_pos (by omega)]

theorem algebraic : Cert.algebraic_KernelIdeal_ReferenceIdeal (hKernelIdeal := Cert.KernelIdeal.Gen.facts) (hReferenceIdeal := Cert.ReferenceIdeal.Gen.facts) := by
  intro m g m' g' _ hm
  refine ⟨fun c => result m c, Cert.Proof.KernelIdeal.Track.run m g, ?_⟩
  refine (θ_run _ _ _).mono (fun r h c => ⟨(h c).1.trans ?_, (h c).2⟩) (Cert.ReferenceIdeal.Value.run (F := Ideal) m' g')
  obtain ⟨e0, e1, e2, e3⟩ := hm c
  rw [Cert.ReferenceIdeal.Read.val_main_v47_eq, e0, e1, e2, e3]
  exact result_eq m c

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.FrameK
public import proofs.«01_k».proof.Proof.FrameI
public import proofs.«01_k».proof.Proof.ValueI
public import Idealize.ShloMosaic.Lib.Bf16Pair
public import Idealize.ShloMosaic.Lib.Bf16PairInverse
public import Idealize.ShloMosaic.Adequacy
public import Idealize.ShloMosaic.Init

@[expose] public section

namespace Cert.Proof

open Idealize.ShloMosaic Idealize.SL.Sem Cert.Kernel

/-- The rewrites between the machine's words and the pairs of numbers they hold are the rule's own. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The reference keeps its arguments; it declares no semaphore. -/
theorem frameR : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts,
  fun m ρ _ => Cert.Proof.Kernel.frame (F := Bits) m ρ, fun m ρ _ => Cert.Proof.KernelIdeal.frame (F := Ideal) m ρ, frameR, preserves, algebraic⟩

end Cert.Proof
